-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tables_named : Cert.Pre_tables_named.Facts] (m : (ℓ : Loc Cert.Kernel5.nD Cert.Kernel5.τ Cert.Kernel5.sig) → Buf (Elt Bits) ℓ) : Prop :=
  ∀ c : Dev Cert.Kernel5.nD,
    (Cert.Pre_tables_named.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7))).1 = (fun _ => 1#1)
    ∧ (Cert.Pre_tables_named.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7))).2 = (fun _ => 1#1)

def Pre_Kernel5Ideal [hPre_tables_named : Cert.Pre_tables_named.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables_named.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_tables_named.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2 = (fun _ => 1#1)

def Pre_Kernel5Ideal_slots_weighted [hPre_slots_weighted : Cert.Pre_slots_weighted.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_slots_weighted.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_slots_weighted.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_slots_weighted.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_slots_weighted [hPre_slots_weighted : Cert.Pre_slots_weighted.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_slots_weighted.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_slots_weighted.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_slots_weighted.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] [hPre_tables_named : Cert.Pre_tables_named.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] [hPre_tables_named : Cert.Pre_tables_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_slots_weighted [hKernel5Ideal : Cert.Kernel5Ideal.Facts] [hPre_slots_weighted : Cert.Pre_slots_weighted.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_slots_weighted m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_slots_weighted [hReference5Ideal : Cert.Reference5Ideal.Facts] [hPre_slots_weighted : Cert.Pre_slots_weighted.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_slots_weighted m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "g0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "g1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "g2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "g3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  ∧ IdealRules.named_const.Statement Cert.KernelIdeal.κ "g4" .f32 0x3F1B322A#32 ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.KernelIdeal.κ "g5" .f32 0x3F475941#32 ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelIdeal.κ "g6" .f32 0x3F61E98D#32 ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  ∧ IdealRules.named_const.Statement Cert.KernelIdeal.κ "g7" .f32 0x3F707CE8#32 ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)

def algebraic_KernelIdeal_ReferenceIdeal_on_attention_columns_pre_scores_finite [hKernelIdeal : Cert.KernelIdeal.Facts] [hReferenceIdeal : Cert.ReferenceIdeal.Facts] [hPre_scores_finite : Cert.Pre_scores_finite.Facts] [hOn_attention_columns : Cert.On_attention_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v125) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 2048]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v713) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_slots_weighted [hKernel5Ideal : Cert.Kernel5Ideal.Facts] [hReference5Ideal : Cert.Reference5Ideal.Facts] [hPre_slots_weighted : Cert.Pre_slots_weighted.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_slots_weighted m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_finite : Cert.Pre_scores_finite.Facts) (hPre_tables_named : Cert.Pre_tables_named.Facts) (hPre_slots_weighted : Cert.Pre_slots_weighted.Facts) (hOn_attention_columns : Cert.On_attention_columns.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tables_named := hPre_tables_named)
    ∧ quiescent_Kernel5Ideal (hKernel5Ideal := hKernel5Ideal) (hPre_tables_named := hPre_tables_named)
    ∧ quiescent_Kernel5Ideal_pre_slots_weighted (hKernel5Ideal := hKernel5Ideal) (hPre_slots_weighted := hPre_slots_weighted)
    ∧ quiescent_Reference5Ideal (hReference5Ideal := hReference5Ideal)
    ∧ quiescent_Reference5Ideal_pre_slots_weighted (hReference5Ideal := hReference5Ideal) (hPre_slots_weighted := hPre_slots_weighted)
    ∧ preserves_Kernel_KernelIdeal
    ∧ algebraic_KernelIdeal_ReferenceIdeal_on_attention_columns_pre_scores_finite (hKernelIdeal := hKernelIdeal) (hReferenceIdeal := hReferenceIdeal) (hPre_scores_finite := hPre_scores_finite) (hOn_attention_columns := hOn_attention_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_slots_weighted (hKernel5Ideal := hKernel5Ideal) (hReference5Ideal := hReference5Ideal) (hPre_slots_weighted := hPre_slots_weighted)
-- ==== On_attention_columns.lean ====
abbrev S8192x6144 : Shape := ⟨2, ![8192, 6144]⟩
abbrev S1x8x320 : Shape := ⟨3, ![1, 8, 320]⟩
abbrev S1x1024 : Shape := ⟨2, ![1, 1024]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x6144 .bf16) (main_arg1 : FVec F S1x8x320 .f32) (main_arg2 : FVec F S1x1024 .f32) (main_arg3 : FVec F S1x1024 .f32) : IVec S8192x2048 1 :=
  let main_v0 : IVec S8192x2048 32 := iotaInDim S8192x2048 32 1
  let main_c : IVec S_ 32 := constantI S_ 32 1024#32
  let main_v1 : IVec S8192x2048 32 := broadcastInDim S8192x2048 ![] bcast_S_S8192x2048 main_c
  let main_v2 : IVec S8192x2048 1 := cmpi .slt main_v0 main_v1
  main_v2
-- ==== Pre_scores_finite.lean ====
abbrev S8192x6144 : Shape := ⟨2, ![8192, 6144]⟩
abbrev S1x8x320 : Shape := ⟨3, ![1, 8, 320]⟩
abbrev S1x1024 : Shape := ⟨2, ![1, 1024]⟩
abbrev S8192x2048 : Shape := ⟨2, ![8192, 2048]⟩
abbrev S_ : Shape := ⟨0, ![]⟩

class Facts : Prop where
  slices_S8192x6144_S8192x2048_0_0 : S8192x6144.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x8x320 : S_.BroadcastsInDim S1x8x320 (![] : Fin 0 → Fin S1x8x320.rank)
  reducesTo_S1x8x320_S_d0_1_2 : S1x8x320.ReducesTo [0, 1, 2] S_

variable [Facts]

def fn {F : FTy → Type} [FloatOps F] (main_arg0 : FVec F S8192x6144 .bf16) (main_arg1 : FVec F S1x8x320 .f32) (main_arg2 : FVec F S1x1024 .f32) (main_arg3 : FVec F S1x1024 .f32) : IVec S_ 1 :=
  let main_v0 : FVec F S8192x2048 .bf16 := (extractStridedSlice S8192x2048 ![0, 0] · slices_S8192x6144_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S1x8x320 .f32 := Host.absf main_arg1
  let main_cst_0 : FVec F S_ .f32 := constant S_ .f32 0x7F800000#32
  let main_v7 : FVec F S1x8x320 .f32 := broadcastInDim S1x8x320 ![] bcast_S_S1x8x320 main_cst_0
  let main_v8 : IVec S1x8x320 1 := cmpf .olt main_v6 main_v7
  let main_c_1 : IVec S_ 1 := constantI S_ 1 1#1
  let main_v9 : IVec S_ 1 := (fun x v => Host.reduce IntOp.andi x v reducesTo_S1x8x320_S_d0_1_2 h_S_) main_v8 main_c_1
  let main_v10 : IVec S_ 1 := andi main_v5 main_v9
  main_v10
-- ==== Pre_slots_weighted.lean ====
abbrev S768 : Shape := ⟨1, ![768]⟩
abbrev S1 : Shape := ⟨1, ![1]⟩
abbrev S98304 : Shape := ⟨1, ![98304]⟩
abbrev S65536x128 : Shape := ⟨2, ![65536, 128]⟩
abbrev S98304x128 : Shape := ⟨2, ![98304, 128]⟩
abbrev S256x2048x256 : Shape := ⟨3, ![256, 2048, 256]⟩
abbrev S256x256x2048 : Shape := ⟨3, ![256, 256, 2048]⟩
abbrev S_ : Shape := ⟨0, ![]⟩
abbrev S98304x1 : Shape := ⟨2, ![98304, 1]⟩

class Facts : Prop where
  bcast_S_S768 : S_.BroadcastsInDim S768 (![] : Fin 0 → Fin S768.rank)
  bcast_S_S98304 : S_.BroadcastsInDim S98304 (![] : Fin 0 → Fin S98304.rank)
  slices_S98304x128_S98304x1_0_0 : S98304x128.Slices ![0, 0] S98304x1
  bcast_S98304x1_S98304x128_0_1 : S98304x1.BroadcastsInDim S98304x128 (![0, 1] : Fin 2 → Fin S98304x128.rank)
  bcast_S_S98304x128 : S_.BroadcastsInDim S98304x128 (![] : Fin 0 → Fin S98304x128.rank)

variable [Facts]

def fn_part1 {F : FTy → Type} [FloatOps F] (main_v4 : IVec S768 1) (main_v9 : IVec S98304 1) (main_v15 : IVec S98304x128 1) (main_v17 : IVec S98304x128 1) : IVec S768 1 × IVec S98304 1 × IVec S98304x128 1 :=
  let main_v18 : IVec S98304x128 1 := andi main_v15 main_v17
  (main_v4, main_v9, main_v18)

def fn {F : FTy → Type} [FloatOps F] (main_arg0 : IVec S768 32) (main_arg1 : IVec S1 32) (main_arg2 : IVec S98304 32) (main_arg3 : IVec S65536x128 32) (main_arg4 : FVec F S98304x128 .f32) (main_arg5 : FVec F S256x2048x256 .f32) (main_arg6 : FVec F S256x2048x256 .f32) (main_arg7 : FVec F S256x256x2048 .f32) : IVec S768 1 × IVec S98304 1 × IVec S98304x128 1 :=
  let main_c : IVec S_ 32 := constantI S_ 32 0#32
  let main_v0 : IVec S768 32 := broadcastInDim S768 ![] bcast_S_S768 main_c
  let main_v1 : IVec S768 1 := cmpi .sge main_arg0 main_v0
  let main_c_0 : IVec S_ 32 := constantI S_ 32 255#32
  let main_v2 : IVec S768 32 := broadcastInDim S768 ![] bcast_S_S768 main_c_0
  let main_v3 : IVec S768 1 := cmpi .sle main_arg0 main_v2
  let main_v4 : IVec S768 1 := andi main_v1 main_v3
  let main_c_1 : IVec S_ 32 := constantI S_ 32 0#32
  let main_v5 : IVec S98304 32 := broadcastInDim S98304 ![] bcast_S_S98304 main_c_1
  let main_v6 : IVec S98304 1 := cmpi .sge main_arg2 main_v5
  let main_c_2 : IVec S_ 32 := constantI S_ 32 8191#32
  let main_v7 : IVec S98304 32 := broadcastInDim S98304 ![] bcast_S_S98304 main_c_2
  let main_v8 : IVec S98304 1 := cmpi .sle main_arg2 main_v7
  let main_v9 : IVec S98304 1 := andi main_v6 main_v8
  let main_v10 : FVec F S98304x1 .f32 := (extractStridedSlice S98304x1 ![0, 0] · slices_S98304x128_S98304x1_0_0) main_arg4
  let main_v11 : FVec F S98304x128 .f32 := broadcastInDim S98304x128 ![0, 1] bcast_S98304x1_S98304x128_0_1 main_v10
  let main_v12 : IVec S98304x128 1 := cmpf .oeq main_arg4 main_v11
  let main_cst : FVec F S_ .f32 := constant S_ .f32 0x00000000#32
  let main_v13 : FVec F S98304x128 .f32 := broadcastInDim S98304x128 ![] bcast_S_S98304x128 main_cst
  let main_v14 : IVec S98304x128 1 := cmpf .oge main_arg4 main_v13
  let main_v15 : IVec S98304x128 1 := andi main_v12 main_v14
  let main_cst_3 : FVec F S_ .f32 := constant S_ .f32 0x7F800000#32
  let main_v16 : FVec F S98304x128 .f32 := broadcastInDim S98304x128 ![] bcast_S_S98304x128 main_cst_3
  let main_v17 : IVec S98304x128 1 := cmpf .olt main_arg4 main_v16
  fn_part1 (F := F) main_v4 main_v9 main_v15 main_v17
-- ==== Pre_tables_named.lean ====
abbrev S768 : Shape := ⟨1, ![768]⟩
abbrev S1 : Shape := ⟨1, ![1]⟩
abbrev S98304 : Shape := ⟨1, ![98304]⟩
abbrev S65536x128 : Shape := ⟨2, ![65536, 128]⟩
abbrev S98304x128 : Shape := ⟨2, ![98304, 128]⟩
abbrev S256x2048x256 : Shape := ⟨3, ![256, 2048, 256]⟩
abbrev S256x256x2048 : Shape := ⟨3, ![256, 256, 2048]⟩
abbrev S_ : Shape := ⟨0, ![]⟩

class Facts : Prop where
  bcast_S_S768 : S_.BroadcastsInDim S768 (![] : Fin 0 → Fin S768.rank)
  bcast_S_S98304 : S_.BroadcastsInDim S98304 (![] : Fin 0 → Fin S98304.rank)

variable [Facts]

def fn {F : FTy → Type} [FloatOps F] (main_arg0 : IVec S768 32) (main_arg1 : IVec S1 32) (main_arg2 : IVec S98304 32) (main_arg3 : IVec S65536x128 32) (main_arg4 : FVec F S98304x128 .f32) (main_arg5 : FVec F S256x2048x256 .f32) (main_arg6 : FVec F S256x2048x256 .f32) (main_arg7 : FVec F S256x256x2048 .f32) : IVec S768 1 × IVec S98304 1 :=
  let main_c : IVec S_ 32 := constantI S_ 32 0#32
  let main_v0 : IVec S768 32 := broadcastInDim S768 ![] bcast_S_S768 main_c
  let main_v1 : IVec S768 1 := cmpi .sge main_arg0 main_v0
  let main_c_0 : IVec S_ 32 := constantI S_ 32 255#32
  let main_v2 : IVec S768 32 := broadcastInDim S768 ![] bcast_S_S768 main_c_0
  let main_v3 : IVec S768 1 := cmpi .sle main_arg0 main_v2
  let main_v4 : IVec S768 1 := andi main_v1 main_v3
  let main_c_1 : IVec S_ 32 := constantI S_ 32 0#32
  let main_v5 : IVec S98304 32 := broadcastInDim S98304 ![] bcast_S_S98304 main_c_1
  let main_v6 : IVec S98304 1 := cmpi .sge main_arg2 main_v5
  let main_c_2 : IVec S_ 32 := constantI S_ 32 8191#32
  let main_v7 : IVec S98304 32 := broadcastInDim S98304 ![] bcast_S_S98304 main_c_2
  let main_v8 : IVec S98304 1 := cmpi .sle main_arg2 main_v7
  let main_v9 : IVec S98304 1 := andi main_v6 main_v8
  (main_v4, main_v9)
-- ==== Kernel.lean ====
abbrev S8192x6144 : Shape := ⟨2, ![8192, 6144]⟩
abbrev S1x8x320 : Shape := ⟨3, ![1, 8, 320]⟩
abbrev S1x1024 : Shape := ⟨2, ![1, 1024]⟩
abbrev S8x320 : Shape := ⟨2, ![8, 320]⟩
abbrev S1024 : Shape := ⟨1, ![1024]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S8x256x768 : Shape := ⟨3, ![8, 256, 768]⟩
abbrev S1x256x768 : Shape := ⟨3, ![1, 256, 768]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8 : Shape := ⟨1, ![8]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x256x128 : Shape := ⟨3, ![8, 256, 128]⟩
abbrev S8192x2048 : Shape := ⟨2, ![8192, 2048]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S8x128x128 : Shape := ⟨3, ![8, 128, 128]⟩
abbrev S1x128x128 : Shape := ⟨3, ![1, 128, 128]⟩
abbrev S128x128 : Shape := ⟨2, ![128, 128]⟩
abbrev S1x256x128 : Shape := ⟨3, ![1, 256, 128]⟩
abbrev S1x128 : Shape := ⟨2, ![1, 128]⟩

abbrev nBuf : Space → Nat
  | .hbm => 262
  | .vmem => 36
  | .smem => 0
  | _ => 0

abbrev hbmTy0_0 (i : Nat) : BufTy := match i % 128 with
  | 0 => ⟨S8192x6144, .bf16⟩
  | 1 => ⟨S1x8x320, .f32⟩
  | 2 => ⟨S1x1024, .f32⟩
  | 3 => ⟨S1x1024, .f32⟩
  | 4 => ⟨S8x320, .f32⟩
  | 5 => ⟨S1024, .f32⟩
  | 6 => ⟨S1024, .f32⟩
  | 7 => ⟨S256, .i32⟩
  | 8 => ⟨S256x1, .i32⟩
  | 9 => ⟨S768, .i32⟩
  | 10 => ⟨S1x768, .i32⟩
  | 11 => ⟨S_, .i32⟩
  | 12 => ⟨S256x1, .i32⟩
  | 13 => ⟨S256x1, .i32⟩
  | 14 => ⟨S256x768, .i32⟩
  | 15 => ⟨S256x768, .i32⟩
  | 16 => ⟨S256x768, .i32⟩
  | 17 => ⟨S_, .i32⟩
  | 18 => ⟨S_, .i32⟩
  | 19 => ⟨S_, .i32⟩
  | 20 => ⟨S256x768, .i32⟩
  | 21 => ⟨S256x768, .i32⟩
  | 22 => ⟨S_, .i32⟩
  | 23 => ⟨S256x768, .i32⟩
  | 24 => ⟨S256x768, .i32⟩
  | 25 => ⟨S_, .i32⟩
  | 26 => ⟨S256x768, .i32⟩
  | 27 => ⟨S256x768, .i32⟩
  | 28 => ⟨S_, .i32⟩
  | 29 => ⟨S_, .i32⟩
  | 30 => ⟨S256x1, .i32⟩
  | 31 => ⟨S256x1, .i32⟩
  | 32 => ⟨S256x1, .i32⟩
  | 33 => ⟨S_, .i32⟩
  | 34 => ⟨S256x1, .i32⟩
  | 35 => ⟨S256x1, .i1⟩
  | 36 => ⟨S256x1, .i32⟩
  | 37 => ⟨S256x1, .i32⟩
  | 38 => ⟨S_, .i32⟩
  | 39 => ⟨S256x1, .i32⟩
  | 40 => ⟨S256x1, .i1⟩
  | 41 => ⟨S256x1, .i1⟩
  | 42 => ⟨S_, .i32⟩
  | 43 => ⟨S256x1, .i32⟩
  | 44 => ⟨S256x1, .i32⟩
  | 45 => ⟨S256x1, .i32⟩
  | 46 => ⟨S_, .i32⟩
  | 47 => ⟨S256x1, .i32⟩
  | 48 => ⟨S256x1, .i32⟩
  | 49 => ⟨S_, .i32⟩
  | 50 => ⟨S_, .i32⟩
  | 51 => ⟨S1x768, .i32⟩
  | 52 => ⟨S1x768, .i32⟩
  | 53 => ⟨S1x768, .i32⟩
  | 54 => ⟨S_, .i32⟩
  | 55 => ⟨S1x768, .i32⟩
  | 56 => ⟨S1x768, .i1⟩
  | 57 => ⟨S1x768, .i32⟩
  | 58 => ⟨S1x768, .i32⟩
  | 59 => ⟨S_, .i32⟩
  | 60 => ⟨S1x768, .i32⟩
  | 61 => ⟨S1x768, .i1⟩
  | 62 => ⟨S1x768, .i1⟩
  | 63 => ⟨S_, .i32⟩
  | 64 => ⟨S1x768, .i32⟩
  | 65 => ⟨S1x768, .i32⟩
  | 66 => ⟨S1x768, .i32⟩
  | 67 => ⟨S256x768, .i32⟩
  | 68 => ⟨S256x768, .i32⟩
  | 69 => ⟨S256x768, .i1⟩
  | 70 => ⟨S_, .i32⟩
  | 71 => ⟨S256x1, .i32⟩
  | 72 => ⟨S256x1, .i32⟩
  | 73 => ⟨S256x768, .i32⟩
  | 74 => ⟨S256x768, .i32⟩
  | 75 => ⟨S256x768, .i1⟩
  | 76 => ⟨S256x768, .i1⟩
  | 77 => ⟨S_, .i32⟩
  | 78 => ⟨S256x768, .i32⟩
  | 79 => ⟨S256x768, .i1⟩
  | 80 => ⟨S_, .i32⟩
  | 81 => ⟨S256x768, .i32⟩
  | 82 => ⟨S256x768, .i32⟩
  | 83 => ⟨S256x768, .i32⟩
  | 84 => ⟨S256x768x1, .i32⟩
  | 85 => ⟨S8x256x768, .f32⟩
  | 86 => ⟨S1x256x768, .i1⟩
  | 87 => ⟨S_, .f32⟩
  | 88 => ⟨S_, .f32⟩
  | 89 => ⟨S8x256x768, .i1⟩
  | 90 => ⟨S8x256x768, .f32⟩
  | 91 => ⟨S8x256x768, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S4096, .f32⟩
  | 101 => ⟨S4096x1, .f32⟩
  | 102 => ⟨S1x32, .f32⟩
  | 103 => ⟨S4096x32, .f32⟩
  | 104 => ⟨S4096x32, .f32⟩
  | 105 => ⟨S4096x32, .f32⟩
  | 106 => ⟨S4096x32, .f32⟩
  | 107 => ⟨S4096x32, .f32⟩
  | 108 => ⟨S4096x64, .f32⟩
  | 109 => ⟨S1x4096x1x64, .f32⟩
  | 110 => ⟨S1x4096x2x64, .f32⟩
  | 111 => ⟨S4096x128, .f32⟩
  | 112 => ⟨S4096x32, .f32⟩
  | 113 => ⟨S4096x64, .f32⟩
  | 114 => ⟨S1x4096x1x64, .f32⟩
  | 115 => ⟨S1x4096x2x64, .f32⟩
  | 116 => ⟨S4096x128, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S8, .f32⟩
  | _ => ⟨S8192x6144, .bf16⟩

abbrev hbmTy0_1 (i : Nat) : BufTy := match i % 128 with
  | 0 => ⟨S256, .f32⟩
  | 1 => ⟨S256, .i32⟩
  | 2 => ⟨S256x1, .f32⟩
  | 3 => ⟨S1x256, .f32⟩
  | 4 => ⟨S256x256, .f32⟩
  | 5 => ⟨S256x256, .f32⟩
  | 6 => ⟨S256x256, .f32⟩
  | 7 => ⟨S256x1, .i32⟩
  | 8 => ⟨S_, .i32⟩
  | 9 => ⟨S_, .i32⟩
  | 10 => ⟨S256x1, .i32⟩
  | 11 => ⟨S256x1, .i32⟩
  | 12 => ⟨S256x1, .i32⟩
  | 13 => ⟨S_, .i32⟩
  | 14 => ⟨S256x1, .i32⟩
  | 15 => ⟨S256x1, .i1⟩
  | 16 => ⟨S256x1, .i32⟩
  | 17 => ⟨S256x1, .i32⟩
  | 18 => ⟨S_, .i32⟩
  | 19 => ⟨S256x1, .i32⟩
  | 20 => ⟨S256x1, .i1⟩
  | 21 => ⟨S256x1, .i1⟩
  | 22 => ⟨S_, .i32⟩
  | 23 => ⟨S256x1, .i32⟩
  | 24 => ⟨S256x1, .i32⟩
  | 25 => ⟨S256x1, .i32⟩
  | 26 => ⟨S1x256, .i32⟩
  | 27 => ⟨S_, .i32⟩
  | 28 => ⟨S_, .i32⟩
  | 29 => ⟨S1x256, .i32⟩
  | 30 => ⟨S1x256, .i32⟩
  | 31 => ⟨S1x256, .i32⟩
  | 32 => ⟨S_, .i32⟩
  | 33 => ⟨S1x256, .i32⟩
  | 34 => ⟨S1x256, .i1⟩
  | 35 => ⟨S1x256, .i32⟩
  | 36 => ⟨S1x256, .i32⟩
  | 37 => ⟨S_, .i32⟩
  | 38 => ⟨S1x256, .i32⟩
  | 39 => ⟨S1x256, .i1⟩
  | 40 => ⟨S1x256, .i1⟩
  | 41 => ⟨S_, .i32⟩
  | 42 => ⟨S1x256, .i32⟩
  | 43 => ⟨S1x256, .i32⟩
  | 44 => ⟨S1x256, .i32⟩
  | 45 => ⟨S256x256, .i32⟩
  | 46 => ⟨S256x256, .i32⟩
  | 47 => ⟨S256x256, .i1⟩
  | 48 => ⟨S256x1, .i32⟩
  | 49 => ⟨S_, .i32⟩
  | 50 => ⟨S_, .i32⟩
  | 51 => ⟨S256x1, .i32⟩
  | 52 => ⟨S256x1, .i32⟩
  | 53 => ⟨S256x1, .i32⟩
  | 54 => ⟨S_, .i32⟩
  | 55 => ⟨S256x1, .i32⟩
  | 56 => ⟨S256x1, .i1⟩
  | 57 => ⟨S256x1, .i32⟩
  | 58 => ⟨S256x1, .i32⟩
  | 59 => ⟨S_, .i32⟩
  | 60 => ⟨S256x1, .i32⟩
  | 61 => ⟨S256x1, .i1⟩
  | 62 => ⟨S256x1, .i1⟩
  | 63 => ⟨S_, .i32⟩
  | 64 => ⟨S256x1, .i32⟩
  | 65 => ⟨S256x1, .i32⟩
  | 66 => ⟨S256x1, .i32⟩
  | 67 => ⟨S1x256, .i32⟩
  | 68 => ⟨S_, .i32⟩
  | 69 => ⟨S_, .i32⟩
  | 70 => ⟨S1x256, .i32⟩
  | 71 => ⟨S1x256, .i32⟩
  | 72 => ⟨S1x256, .i32⟩
  | 73 => ⟨S_, .i32⟩
  | 74 => ⟨S1x256, .i32⟩
  | 75 => ⟨S1x256, .i1⟩
  | 76 => ⟨S1x256, .i32⟩
  | 77 => ⟨S1x256, .i32⟩
  | 78 => ⟨S_, .i32⟩
  | 79 => ⟨S1x256, .i32⟩
  | 80 => ⟨S1x256, .i1⟩
  | 81 => ⟨S1x256, .i1⟩
  | 82 => ⟨S_, .i32⟩
  | 83 => ⟨S1x256, .i32⟩
  | 84 => ⟨S1x256, .i32⟩
  | 85 => ⟨S1x256, .i32⟩
  | 86 => ⟨S256x256, .i32⟩
  | 87 => ⟨S256x256, .i32⟩
  | 88 => ⟨S256x256, .i1⟩
  | 89 => ⟨S256x256, .f32⟩
  | 90 => ⟨S256x256, .f32⟩
  | 91 => ⟨S256x256, .i1⟩
  | 92 => ⟨S8x1x1, .f32⟩
  | 93 => ⟨S1x256x256, .f32⟩
  | 94 => ⟨S8x256x256, .f32⟩
  | 95 => ⟨S8x256x256, .f32⟩
  | 96 => ⟨S8x256x256, .f32⟩
  | 97 => ⟨S8x256x256, .f32⟩
  | 98 => ⟨S_, .f32⟩
  | 99 => ⟨S_, .f32⟩
  | 100 => ⟨S8x256x256, .i1⟩
  | 101 => ⟨S8x256x256, .f32⟩
  | 102 => ⟨S8x256x256, .f32⟩
  | 103 => ⟨S_, .f32⟩
  | 104 => ⟨S8x256x256, .f32⟩
  | 105 => ⟨S8x256x256, .f32⟩
  | 106 => ⟨S8x1, .f32⟩
  | 107 => ⟨S1x256, .f32⟩
  | 108 => ⟨S_, .f32⟩
  | 109 => ⟨S1x256, .f32⟩
  | 110 => ⟨S1x256, .f32⟩
  | 111 => ⟨S8x256, .f32⟩
  | 112 => ⟨S8x256, .f32⟩
  | 113 => ⟨S8x256, .f32⟩
  | 114 => ⟨S8x256, .f32⟩
  | 115 => ⟨S8x1, .f32⟩
  | 116 => ⟨S1x256, .f32⟩
  | 117 => ⟨S_, .f32⟩
  | 118 => ⟨S1x256, .f32⟩
  | 119 => ⟨S1x256, .f32⟩
  | 120 => ⟨S8x256, .f32⟩
  | 121 => ⟨S8x256, .f32⟩
  | 122 => ⟨S8x256, .f32⟩
  | 123 => ⟨S8x256, .f32⟩
  | 124 => ⟨S_, .f32⟩
  | 125 => ⟨S8x256, .f32⟩
  | 126 => ⟨S8x256, .f32⟩
  | 127 => ⟨S8x256x1, .f32⟩
  | _ => ⟨S8192x6144, .bf16⟩

abbrev hbmTy0_2 (i : Nat) : BufTy := match i % 128 with
  | 0 => ⟨S8x256x128, .f32⟩
  | 1 => ⟨S8x256x1, .f32⟩
  | 2 => ⟨S8x256x128, .f32⟩
  | 3 => ⟨S1x1024, .f32⟩
  | 4 => ⟨S1x1024, .f32⟩
  | 5 => ⟨S8192x2048, .bf16⟩
  | _ => ⟨S8192x6144, .bf16⟩

abbrev hbmTy (i : Nat) : BufTy := match i / 128 with
  | 0 => hbmTy0_0 i
  | 1 => hbmTy0_1 i
  | 2 => hbmTy0_2 i
  | _ => ⟨S8192x6144, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S8x256x768, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S8x256x256, .f32⟩
  | .local _ .vmem, ⟨28, _⟩ => ⟨S8x256x128, .f32⟩
  | .local _ .vmem, ⟨29, _⟩ => ⟨S8x256x128, .f32⟩
  | .local _ .vmem, ⟨30, _⟩ => ⟨S1x1024, .f32⟩
  | .local _ .vmem, ⟨31, _⟩ => ⟨S1x1024, .f32⟩
  | .local _ .vmem, ⟨32, _⟩ => ⟨S256x2048, .bf16⟩
  | .local _ .vmem, ⟨33, _⟩ => ⟨S256x2048, .bf16⟩
  | .local _ .vmem, ⟨34, _⟩ => ⟨S8x128x128, .f32⟩
  | .local _ .vmem, ⟨35, _⟩ => ⟨S256x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_c_6 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_7 : Ref sig .tc := ⟨.hbm, 77, rfl⟩
abbrev main_v28 : Ref sig .tc := ⟨.hbm, 78, rfl⟩
abbrev main_v29 : Ref sig .tc := ⟨.hbm, 79, rfl⟩
abbrev main_c_8 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_9 : Ref sig .tc := ⟨.hbm, 94, rfl⟩
abbrev main_v39 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_11 : Ref sig .tc := ⟨.hbm, 118, rfl⟩
abbrev main_v61 : Ref sig .tc := ⟨.hbm, 119, rfl⟩
abbrev main_v62 : Ref sig .tc := ⟨.hbm, 120, rfl⟩
abbrev main_cst_12 : Ref sig .tc := ⟨.hbm, 121, rfl⟩
abbrev main_v63 : Ref sig .tc := ⟨.hbm, 122, rfl⟩
abbrev main_v64 : Ref sig .tc := ⟨.hbm, 123, rfl⟩
abbrev main_cst_13 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_14 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_c : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_c_0 : Ref sig .tc := ⟨.hbm, 150, rfl⟩
abbrev main_call4_v12 : Ref sig .tc := ⟨.hbm, 151, rfl⟩
abbrev main_call4_v13 : Ref sig .tc := ⟨.hbm, 152, rfl⟩
abbrev main_v76 : Ref sig .tc := ⟨.hbm, 153, rfl⟩
abbrev main_v77 : Ref sig .tc := ⟨.hbm, 154, rfl⟩
abbrev main_c_15 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_c : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_0 : Ref sig .tc := ⟨.hbm, 169, rfl⟩
abbrev main_call5_v12 : Ref sig .tc := ⟨.hbm, 170, rfl⟩
abbrev main_call5_v13 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_c_16 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_v6 : Ref sig .tc := ⟨.hbm, 184, rfl⟩
abbrev main_call6_v7 : Ref sig .tc := ⟨.hbm, 185, rfl⟩
abbrev main_call6_v8 : Ref sig .tc := ⟨.hbm, 186, rfl⟩
abbrev main_call6_c : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_0 : Ref sig .tc := ⟨.hbm, 191, rfl⟩
abbrev main_call6_v12 : Ref sig .tc := ⟨.hbm, 192, rfl⟩
abbrev main_call6_v13 : Ref sig .tc := ⟨.hbm, 193, rfl⟩
abbrev main_v83 : Ref sig .tc := ⟨.hbm, 194, rfl⟩
abbrev main_v84 : Ref sig .tc := ⟨.hbm, 195, rfl⟩
abbrev main_c_17 : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_v6 : Ref sig .tc := ⟨.hbm, 203, rfl⟩
abbrev main_call7_v7 : Ref sig .tc := ⟨.hbm, 204, rfl⟩
abbrev main_call7_v8 : Ref sig .tc := ⟨.hbm, 205, rfl⟩
abbrev main_call7_c : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_c_0 : Ref sig .tc := ⟨.hbm, 210, rfl⟩
abbrev main_call7_v12 : Ref sig .tc := ⟨.hbm, 211, rfl⟩
abbrev main_call7_v13 : Ref sig .tc := ⟨.hbm, 212, rfl⟩
abbrev main_v85 : Ref sig .tc := ⟨.hbm, 213, rfl⟩
abbrev main_v86 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_cst_18 : Ref sig .tc := ⟨.hbm, 226, rfl⟩
abbrev main_call9_v0 : Ref sig .tc := ⟨.hbm, 227, rfl⟩
abbrev main_call9_v1 : Ref sig .tc := ⟨.hbm, 228, rfl⟩
abbrev main_call9_v2 : Ref sig .tc := ⟨.hbm, 229, rfl⟩
abbrev main_v98 : Ref sig .tc := ⟨.hbm, 230, rfl⟩
abbrev main_cst_19 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_cst_20 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_cst_21 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_cst_22 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.muli arg0 c16_i32
  let v3 : BitVec 32 := Scalar.addi v2 v1
  let c1_i32 : BitVec 32 := 1#32
  let c0_i32_0 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.muli arg0 c16_i32
  let v3 : BitVec 32 := Scalar.addi v2 v1
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c16_i32 : BitVec 32 := 16#32
  let v2 : BitVec 32 := Scalar.muli arg0 c16_i32
  let v3 : BitVec 32 := Scalar.addi v2 v1
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.muli arg0 c16_i32
  let v3 : BitVec 32 := Scalar.addi v2 v1
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.muli arg0 c16_i32
  let v3 : BitVec 32 := Scalar.addi v2 v1
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c16_i32 : BitVec 32 := 16#32
  let v2 : BitVec 32 := Scalar.muli arg0 c16_i32
  let v3 : BitVec 32 := Scalar.addi v2 v1
  let c2_i32 : BitVec 32 := 2#32
  let c0_i32_1 : BitVec 32 := 0#32
  ![v3.toNat, c2_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x256x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S8x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "g0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "g1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "g2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "g3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "g4" => some ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "g5" => some ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "g6" => some ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  | "g7" => some ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | "mask" => some ⊥
  | _ => none
-- ==== ReferenceIdeal.lean ====
abbrev S8192x6144 : Shape := ⟨2, ![8192, 6144]⟩
abbrev S1x8x320 : Shape := ⟨3, ![1, 8, 320]⟩
abbrev S1x1024 : Shape := ⟨2, ![1, 1024]⟩
abbrev S2x4096x6144 : Shape := ⟨3, ![2, 4096, 6144]⟩
abbrev S2x4096x1024 : Shape := ⟨3, ![2, 4096, 1024]⟩
abbrev S2x4096x512 : Shape := ⟨3, ![2, 4096, 512]⟩
abbrev S2x4096x8x128 : Shape := ⟨4, ![2, 4096, 8, 128]⟩
abbrev S8x320 : Shape := ⟨2, ![8, 320]⟩
abbrev S_ : Shape := ⟨0, ![]⟩
abbrev S2x4608x8x128 : Shape := ⟨4, ![2, 4608, 8, 128]⟩
abbrev S2x72x64x8x128 : Shape := ⟨5, ![2, 72, 64, 8, 128]⟩
abbrev S2x64x64x8x128 : Shape := ⟨5, ![2, 64, 64, 8, 128]⟩
abbrev S2x64x576x8x128 : Shape := ⟨5, ![2, 64, 576, 8, 128]⟩
abbrev S2x8x64x64x576 : Shape := ⟨5, ![2, 8, 64, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x64x1x576 : Shape := ⟨5, ![1, 1, 64, 1, 576]⟩
abbrev S1x8x1x64x576 : Shape := ⟨5, ![1, 8, 1, 64, 576]⟩
abbrev S2x8x64x64 : Shape := ⟨4, ![2, 8, 64, 64]⟩
abbrev S2x8x64x64x1 : Shape := ⟨5, ![2, 8, 64, 64, 1]⟩
abbrev S2x64x8x128x64 : Shape := ⟨5, ![2, 64, 8, 128, 64]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S2x4096x8x64 : Shape := ⟨4, ![2, 4096, 8, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x8x32 : Shape := ⟨4, ![2, 4096, 8, 32]⟩
abbrev S8 : Shape := ⟨1, ![8]⟩
abbrev S8x1x1 : Shape := ⟨3, ![8, 1, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S1x8 : Shape := ⟨2, ![1, 8]⟩
abbrev S64x8 : Shape := ⟨2, ![64, 8]⟩
abbrev S2x64x64x8x64 : Shape := ⟨5, ![2, 64, 64, 8, 64]⟩
abbrev S2x64x8x64x64 : Shape := ⟨5, ![2, 64, 8, 64, 64]⟩
abbrev S1x1x8x64x64 : Shape := ⟨5, ![1, 1, 8, 64, 64]⟩
abbrev S1x1x64x8x1 : Shape := ⟨5, ![1, 1, 64, 8, 1]⟩
abbrev S64x8x2x128x64 : Shape := ⟨5, ![64, 8, 2, 128, 64]⟩
abbrev S64x8x64x128x2 : Shape := ⟨5, ![64, 8, 64, 128, 2]⟩
abbrev S8x64x128x2 : Shape := ⟨4, ![8, 64, 128, 2]⟩
abbrev S0x8x64x128x2 : Shape := ⟨5, ![0, 8, 64, 128, 2]⟩
abbrev S1x8x64x128x2 : Shape := ⟨5, ![1, 8, 64, 128, 2]⟩
abbrev S8x1x1x1 : Shape := ⟨4, ![8, 1, 1, 1]⟩
abbrev S16x8x64x128x2 : Shape := ⟨5, ![16, 8, 64, 128, 2]⟩
abbrev S2x4096x8 : Shape := ⟨3, ![2, 4096, 8]⟩
abbrev S2x4096x8x1 : Shape := ⟨4, ![2, 4096, 8, 1]⟩
abbrev S2x4096x2048 : Shape := ⟨3, ![2, 4096, 2048]⟩
abbrev S8192x2048 : Shape := ⟨2, ![8192, 2048]⟩

abbrev nBuf : Space → Nat
  | .hbm => 773
  | .vmem => 0
  | .smem => 0
  | _ => 0

abbrev hbmTy0_0 (i : Nat) : BufTy := match i % 128 with
  | 0 => ⟨S8192x6144, .bf16⟩
  | 1 => ⟨S1x8x320, .f32⟩
  | 2 => ⟨S1x1024, .f32⟩
  | 3 => ⟨S1x1024, .f32⟩
  | 4 => ⟨S8192x6144, .f32⟩
  | 5 => ⟨S2x4096x6144, .f32⟩
  | 6 => ⟨S2x4096x1024, .f32⟩
  | 7 => ⟨S2x4096x1024, .f32⟩
  | 8 => ⟨S2x4096x1024, .f32⟩
  | 9 => ⟨S2x4096x512, .f32⟩
  | 10 => ⟨S2x4096x512, .f32⟩
  | 11 => ⟨S2x4096x1024, .f32⟩
  | 12 => ⟨S2x4096x1024, .f32⟩
  | 13 => ⟨S2x4096x8x128, .f32⟩
  | 14 => ⟨S2x4096x8x128, .f32⟩
  | 15 => ⟨S2x4096x8x128, .f32⟩
  | 16 => ⟨S8x320, .f32⟩
  | 17 => ⟨S_, .i32⟩
  | 18 => ⟨S_, .f32⟩
  | 19 => ⟨S2x4608x8x128, .f32⟩
  | 20 => ⟨S2x72x64x8x128, .f32⟩
  | 21 => ⟨S_, .i32⟩
  | 22 => ⟨S_, .f32⟩
  | 23 => ⟨S2x4608x8x128, .f32⟩
  | 24 => ⟨S2x72x64x8x128, .f32⟩
  | 25 => ⟨S2x64x64x8x128, .f32⟩
  | 26 => ⟨S2x64x64x8x128, .f32⟩
  | 27 => ⟨S2x64x64x8x128, .f32⟩
  | 28 => ⟨S2x64x64x8x128, .f32⟩
  | 29 => ⟨S2x64x64x8x128, .f32⟩
  | 30 => ⟨S2x64x64x8x128, .f32⟩
  | 31 => ⟨S2x64x64x8x128, .f32⟩
  | 32 => ⟨S2x64x64x8x128, .f32⟩
  | 33 => ⟨S2x64x64x8x128, .f32⟩
  | 34 => ⟨S2x64x576x8x128, .f32⟩
  | 35 => ⟨S2x64x64x8x128, .f32⟩
  | 36 => ⟨S2x64x64x8x128, .f32⟩
  | 37 => ⟨S2x64x64x8x128, .f32⟩
  | 38 => ⟨S2x64x64x8x128, .f32⟩
  | 39 => ⟨S2x64x64x8x128, .f32⟩
  | 40 => ⟨S2x64x64x8x128, .f32⟩
  | 41 => ⟨S2x64x64x8x128, .f32⟩
  | 42 => ⟨S2x64x64x8x128, .f32⟩
  | 43 => ⟨S2x64x64x8x128, .f32⟩
  | 44 => ⟨S2x64x576x8x128, .f32⟩
  | 45 => ⟨S2x64x64x8x128, .f32⟩
  | 46 => ⟨S2x8x64x64x576, .f32⟩
  | 47 => ⟨S_, .f32⟩
  | 48 => ⟨S2x8x64x64x576, .f32⟩
  | 49 => ⟨S2x8x64x64x576, .f32⟩
  | 50 => ⟨S64, .i32⟩
  | 51 => ⟨S64x1, .i32⟩
  | 52 => ⟨S576, .i32⟩
  | 53 => ⟨S1x576, .i32⟩
  | 54 => ⟨S_, .i32⟩
  | 55 => ⟨S64x1, .i32⟩
  | 56 => ⟨S64x1, .i32⟩
  | 57 => ⟨S64x576, .i32⟩
  | 58 => ⟨S64x576, .i32⟩
  | 59 => ⟨S64x576, .i32⟩
  | 60 => ⟨S_, .i32⟩
  | 61 => ⟨S_, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i1⟩
  | 74 => ⟨S_, .i32⟩
  | 75 => ⟨S64x576, .i32⟩
  | 76 => ⟨S64x576, .i32⟩
  | 77 => ⟨S64x576, .i32⟩
  | 78 => ⟨S64x576x1, .i32⟩
  | 79 => ⟨S8x64x576, .f32⟩
  | 80 => ⟨S64, .i32⟩
  | 81 => ⟨S64x1, .i32⟩
  | 82 => ⟨S_, .i32⟩
  | 83 => ⟨S64x1, .i32⟩
  | 84 => ⟨S64x1, .i32⟩
  | 85 => ⟨S_, .i32⟩
  | 86 => ⟨S64x1, .i32⟩
  | 87 => ⟨S64x1, .i32⟩
  | 88 => ⟨S64x576, .i32⟩
  | 89 => ⟨S64x576, .i32⟩
  | 90 => ⟨S64x576, .i32⟩
  | 91 => ⟨S_, .i32⟩
  | 92 => ⟨S64x576, .i32⟩
  | 93 => ⟨S64x576, .i1⟩
  | 94 => ⟨S1x1x64x1x576, .i1⟩
  | 95 => ⟨S1x8x1x64x576, .f32⟩
  | 96 => ⟨S2x8x64x64x576, .f32⟩
  | 97 => ⟨S2x8x64x64x576, .f32⟩
  | 98 => ⟨S_, .f32⟩
  | 99 => ⟨S_, .f32⟩
  | 100 => ⟨S2x8x64x64x576, .i1⟩
  | 101 => ⟨S2x8x64x64x576, .f32⟩
  | 102 => ⟨S2x8x64x64x576, .f32⟩
  | 103 => ⟨S_, .f32⟩
  | 104 => ⟨S2x8x64x64, .f32⟩
  | 105 => ⟨S_, .f32⟩
  | 106 => ⟨S2x8x64x64, .f32⟩
  | 107 => ⟨S2x8x64x64, .f32⟩
  | 108 => ⟨S2x8x64x64x1, .f32⟩
  | 109 => ⟨S2x8x64x64x576, .f32⟩
  | 110 => ⟨S2x8x64x64x576, .f32⟩
  | 111 => ⟨S2x8x64x64x576, .f32⟩
  | 112 => ⟨S_, .f32⟩
  | 113 => ⟨S2x8x64x64, .f32⟩
  | 114 => ⟨S2x8x64x64x1, .f32⟩
  | 115 => ⟨S2x8x64x64x576, .f32⟩
  | 116 => ⟨S2x8x64x64x576, .f32⟩
  | 117 => ⟨S2x64x8x128x64, .f32⟩
  | 118 => ⟨S2x64x64x8x128, .f32⟩
  | 119 => ⟨S2x4096x1024, .f32⟩
  | 120 => ⟨S1024, .f32⟩
  | 121 => ⟨S2x4096x1024, .f32⟩
  | 122 => ⟨S_, .f32⟩
  | 123 => ⟨S2x4096, .f32⟩
  | 124 => ⟨S2x4096x1, .f32⟩
  | 125 => ⟨S_, .f32⟩
  | 126 => ⟨S2x4096x1, .f32⟩
  | 127 => ⟨S2x4096x1, .f32⟩
  | _ => ⟨S8192x6144, .bf16⟩

abbrev hbmTy0_1 (i : Nat) : BufTy := match i % 128 with
  | 0 => ⟨S_, .f32⟩
  | 1 => ⟨S2x4096x1, .f32⟩
  | 2 => ⟨S2x4096x1, .f32⟩
  | 3 => ⟨S2x4096x1, .f32⟩
  | 4 => ⟨S2x4096x1024, .f32⟩
  | 5 => ⟨S2x4096x1024, .f32⟩
  | 6 => ⟨S1x1x1024, .f32⟩
  | 7 => ⟨S2x4096x1024, .f32⟩
  | 8 => ⟨S2x4096x1024, .f32⟩
  | 9 => ⟨S2x4096x8x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S4096, .f32⟩
  | 19 => ⟨S4096x1, .f32⟩
  | 20 => ⟨S1x32, .f32⟩
  | 21 => ⟨S4096x32, .f32⟩
  | 22 => ⟨S4096x32, .f32⟩
  | 23 => ⟨S4096x32, .f32⟩
  | 24 => ⟨S4096x32, .f32⟩
  | 25 => ⟨S1x4096x1x32, .f32⟩
  | 26 => ⟨S4096x32, .f32⟩
  | 27 => ⟨S1x4096x1x32, .f32⟩
  | 28 => ⟨S2x4096x8x32, .f32⟩
  | 29 => ⟨S2x4096x8x32, .f32⟩
  | 30 => ⟨S2x4096x8x32, .f32⟩
  | 31 => ⟨S2x4096x8x32, .f32⟩
  | 32 => ⟨S2x4096x8x32, .f32⟩
  | 33 => ⟨S2x4096x8x32, .f32⟩
  | 34 => ⟨S2x4096x8x32, .f32⟩
  | 35 => ⟨S2x4096x8x32, .f32⟩
  | 36 => ⟨S2x4096x8x32, .f32⟩
  | 37 => ⟨S2x4096x8x32, .f32⟩
  | 38 => ⟨S2x4096x8x32, .f32⟩
  | 39 => ⟨S2x4096x8x32, .f32⟩
  | 40 => ⟨S2x4096x8x64, .f32⟩
  | 41 => ⟨S2x4096x8x64, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4096, .f32⟩
  | 51 => ⟨S4096x1, .f32⟩
  | 52 => ⟨S1x32, .f32⟩
  | 53 => ⟨S4096x32, .f32⟩
  | 54 => ⟨S4096x32, .f32⟩
  | 55 => ⟨S4096x32, .f32⟩
  | 56 => ⟨S4096x32, .f32⟩
  | 57 => ⟨S1x4096x1x32, .f32⟩
  | 58 => ⟨S4096x32, .f32⟩
  | 59 => ⟨S1x4096x1x32, .f32⟩
  | 60 => ⟨S2x4096x8x32, .f32⟩
  | 61 => ⟨S2x4096x8x32, .f32⟩
  | 62 => ⟨S2x4096x8x32, .f32⟩
  | 63 => ⟨S2x4096x8x32, .f32⟩
  | 64 => ⟨S2x4096x8x32, .f32⟩
  | 65 => ⟨S2x4096x8x32, .f32⟩
  | 66 => ⟨S2x4096x8x32, .f32⟩
  | 67 => ⟨S2x4096x8x32, .f32⟩
  | 68 => ⟨S2x4096x8x32, .f32⟩
  | 69 => ⟨S2x4096x8x32, .f32⟩
  | 70 => ⟨S2x4096x8x32, .f32⟩
  | 71 => ⟨S2x4096x8x32, .f32⟩
  | 72 => ⟨S2x4096x8x64, .f32⟩
  | 73 => ⟨S2x4096x8x128, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S64, .f32⟩
  | 86 => ⟨S8x1x1, .f32⟩
  | 87 => ⟨S64x1, .f32⟩
  | 88 => ⟨S1x64, .f32⟩
  | 89 => ⟨S64x64, .f32⟩
  | 90 => ⟨S64x64, .f32⟩
  | 91 => ⟨S64x64, .f32⟩
  | 92 => ⟨S64x64, .f32⟩
  | 93 => ⟨S1x64x64, .f32⟩
  | 94 => ⟨S8x64x64, .f32⟩
  | 95 => ⟨S8x64x64, .f32⟩
  | 96 => ⟨S8x64x64, .f32⟩
  | 97 => ⟨S8x64x64, .f32⟩
  | 98 => ⟨S1x8, .f32⟩
  | 99 => ⟨S64x1, .f32⟩
  | 100 => ⟨S_, .f32⟩
  | 101 => ⟨S64x1, .f32⟩
  | 102 => ⟨S64x1, .f32⟩
  | 103 => ⟨S64x8, .f32⟩
  | 104 => ⟨S64x8, .f32⟩
  | 105 => ⟨S64x8, .f32⟩
  | 106 => ⟨S64x8, .f32⟩
  | 107 => ⟨S1x8, .f32⟩
  | 108 => ⟨S64x1, .f32⟩
  | 109 => ⟨S_, .f32⟩
  | 110 => ⟨S64x1, .f32⟩
  | 111 => ⟨S64x1, .f32⟩
  | 112 => ⟨S64x8, .f32⟩
  | 113 => ⟨S64x8, .f32⟩
  | 114 => ⟨S64x8, .f32⟩
  | 115 => ⟨S64x8, .f32⟩
  | 116 => ⟨S_, .f32⟩
  | 117 => ⟨S8, .f32⟩
  | 118 => ⟨S8, .f32⟩
  | 119 => ⟨S8, .f32⟩
  | 120 => ⟨S_, .f32⟩
  | 121 => ⟨S2x4096x8x64, .f32⟩
  | 122 => ⟨S2x4096x8x64, .f32⟩
  | 123 => ⟨S2x64x64x8x64, .f32⟩
  | 124 => ⟨S2x64x64x8x64, .f32⟩
  | 125 => ⟨S2x64x64x8x128, .f32⟩
  | 126 => ⟨S2x64x8x64x64, .f32⟩
  | 127 => ⟨S1x1x8x64x64, .f32⟩
  | _ => ⟨S8192x6144, .bf16⟩

abbrev hbmTy0_2 (i : Nat) : BufTy := match i % 128 with
  | 0 => ⟨S2x64x8x64x64, .f32⟩
  | 1 => ⟨S2x64x8x64x64, .f32⟩
  | 2 => ⟨S2x64x8x128x64, .f32⟩
  | 3 => ⟨S2x64x64x8x128, .f32⟩
  | 4 => ⟨S1x1x64x8x1, .f32⟩
  | 5 => ⟨S2x64x64x8x64, .f32⟩
  | 6 => ⟨S2x64x64x8x64, .f32⟩
  | 7 => ⟨S64x8x2x128x64, .f32⟩
  | 8 => ⟨S64x8x64x128x2, .f32⟩
  | 9 => ⟨S_, .f32⟩
  | 10 => ⟨S8x64x128x2, .f32⟩
  | 11 => ⟨S0x8x64x128x2, .f32⟩
  | 12 => ⟨S64x8x64x128x2, .f32⟩
  | 13 => ⟨S_, .f32⟩
  | 14 => ⟨S0x8x64x128x2, .f32⟩
  | 15 => ⟨S1x8x64x128x2, .f32⟩
  | 16 => ⟨S8x64x128x2, .f32⟩
  | 17 => ⟨S8x1x1x1, .f32⟩
  | 18 => ⟨S8x64x128x2, .f32⟩
  | 19 => ⟨S8x64x128x2, .f32⟩
  | 20 => ⟨S8x64x128x2, .f32⟩
  | 21 => ⟨S1x8x64x128x2, .f32⟩
  | 22 => ⟨S8x64x128x2, .f32⟩
  | 23 => ⟨S8x1x1x1, .f32⟩
  | 24 => ⟨S8x64x128x2, .f32⟩
  | 25 => ⟨S8x64x128x2, .f32⟩
  | 26 => ⟨S8x64x128x2, .f32⟩
  | 27 => ⟨S1x8x64x128x2, .f32⟩
  | 28 => ⟨S8x64x128x2, .f32⟩
  | 29 => ⟨S8x1x1x1, .f32⟩
  | 30 => ⟨S8x64x128x2, .f32⟩
  | 31 => ⟨S8x64x128x2, .f32⟩
  | 32 => ⟨S8x64x128x2, .f32⟩
  | 33 => ⟨S1x8x64x128x2, .f32⟩
  | 34 => ⟨S8x64x128x2, .f32⟩
  | 35 => ⟨S8x1x1x1, .f32⟩
  | 36 => ⟨S8x64x128x2, .f32⟩
  | 37 => ⟨S8x64x128x2, .f32⟩
  | 38 => ⟨S8x64x128x2, .f32⟩
  | 39 => ⟨S1x8x64x128x2, .f32⟩
  | 40 => ⟨S8x64x128x2, .f32⟩
  | 41 => ⟨S8x1x1x1, .f32⟩
  | 42 => ⟨S8x64x128x2, .f32⟩
  | 43 => ⟨S8x64x128x2, .f32⟩
  | 44 => ⟨S8x64x128x2, .f32⟩
  | 45 => ⟨S1x8x64x128x2, .f32⟩
  | 46 => ⟨S8x64x128x2, .f32⟩
  | 47 => ⟨S8x1x1x1, .f32⟩
  | 48 => ⟨S8x64x128x2, .f32⟩
  | 49 => ⟨S8x64x128x2, .f32⟩
  | 50 => ⟨S8x64x128x2, .f32⟩
  | 51 => ⟨S1x8x64x128x2, .f32⟩
  | 52 => ⟨S8x64x128x2, .f32⟩
  | 53 => ⟨S8x1x1x1, .f32⟩
  | 54 => ⟨S8x64x128x2, .f32⟩
  | 55 => ⟨S8x64x128x2, .f32⟩
  | 56 => ⟨S8x64x128x2, .f32⟩
  | 57 => ⟨S1x8x64x128x2, .f32⟩
  | 58 => ⟨S8x64x128x2, .f32⟩
  | 59 => ⟨S8x1x1x1, .f32⟩
  | 60 => ⟨S8x64x128x2, .f32⟩
  | 61 => ⟨S8x64x128x2, .f32⟩
  | 62 => ⟨S8x64x128x2, .f32⟩
  | 63 => ⟨S1x8x64x128x2, .f32⟩
  | 64 => ⟨S8x64x128x2, .f32⟩
  | 65 => ⟨S8x1x1x1, .f32⟩
  | 66 => ⟨S8x64x128x2, .f32⟩
  | 67 => ⟨S8x64x128x2, .f32⟩
  | 68 => ⟨S8x64x128x2, .f32⟩
  | 69 => ⟨S1x8x64x128x2, .f32⟩
  | 70 => ⟨S8x64x128x2, .f32⟩
  | 71 => ⟨S8x1x1x1, .f32⟩
  | 72 => ⟨S8x64x128x2, .f32⟩
  | 73 => ⟨S8x64x128x2, .f32⟩
  | 74 => ⟨S8x64x128x2, .f32⟩
  | 75 => ⟨S1x8x64x128x2, .f32⟩
  | 76 => ⟨S8x64x128x2, .f32⟩
  | 77 => ⟨S8x1x1x1, .f32⟩
  | 78 => ⟨S8x64x128x2, .f32⟩
  | 79 => ⟨S8x64x128x2, .f32⟩
  | 80 => ⟨S8x64x128x2, .f32⟩
  | 81 => ⟨S1x8x64x128x2, .f32⟩
  | 82 => ⟨S8x64x128x2, .f32⟩
  | 83 => ⟨S8x1x1x1, .f32⟩
  | 84 => ⟨S8x64x128x2, .f32⟩
  | 85 => ⟨S8x64x128x2, .f32⟩
  | 86 => ⟨S8x64x128x2, .f32⟩
  | 87 => ⟨S1x8x64x128x2, .f32⟩
  | 88 => ⟨S8x64x128x2, .f32⟩
  | 89 => ⟨S8x1x1x1, .f32⟩
  | 90 => ⟨S8x64x128x2, .f32⟩
  | 91 => ⟨S8x64x128x2, .f32⟩
  | 92 => ⟨S8x64x128x2, .f32⟩
  | 93 => ⟨S1x8x64x128x2, .f32⟩
  | 94 => ⟨S8x64x128x2, .f32⟩
  | 95 => ⟨S8x1x1x1, .f32⟩
  | 96 => ⟨S8x64x128x2, .f32⟩
  | 97 => ⟨S8x64x128x2, .f32⟩
  | 98 => ⟨S8x64x128x2, .f32⟩
  | 99 => ⟨S1x8x64x128x2, .f32⟩
  | 100 => ⟨S8x64x128x2, .f32⟩
  | 101 => ⟨S8x1x1x1, .f32⟩
  | 102 => ⟨S8x64x128x2, .f32⟩
  | 103 => ⟨S8x64x128x2, .f32⟩
  | 104 => ⟨S8x64x128x2, .f32⟩
  | 105 => ⟨S1x8x64x128x2, .f32⟩
  | 106 => ⟨S8x64x128x2, .f32⟩
  | 107 => ⟨S8x1x1x1, .f32⟩
  | 108 => ⟨S8x64x128x2, .f32⟩
  | 109 => ⟨S8x64x128x2, .f32⟩
  | 110 => ⟨S8x64x128x2, .f32⟩
  | 111 => ⟨S1x8x64x128x2, .f32⟩
  | 112 => ⟨S8x64x128x2, .f32⟩
  | 113 => ⟨S8x1x1x1, .f32⟩
  | 114 => ⟨S8x64x128x2, .f32⟩
  | 115 => ⟨S8x64x128x2, .f32⟩
  | 116 => ⟨S8x64x128x2, .f32⟩
  | 117 => ⟨S1x8x64x128x2, .f32⟩
  | 118 => ⟨S8x64x128x2, .f32⟩
  | 119 => ⟨S8x1x1x1, .f32⟩
  | 120 => ⟨S8x64x128x2, .f32⟩
  | 121 => ⟨S8x64x128x2, .f32⟩
  | 122 => ⟨S8x64x128x2, .f32⟩
  | 123 => ⟨S1x8x64x128x2, .f32⟩
  | 124 => ⟨S8x64x128x2, .f32⟩
  | 125 => ⟨S8x1x1x1, .f32⟩
  | 126 => ⟨S8x64x128x2, .f32⟩
  | 127 => ⟨S8x64x128x2, .f32⟩
  | _ => ⟨S8192x6144, .bf16⟩

abbrev hbmTy0_3 (i : Nat) : BufTy := match i % 128 with
  | 0 => ⟨S8x64x128x2, .f32⟩
  | 1 => ⟨S1x8x64x128x2, .f32⟩
  | 2 => ⟨S8x64x128x2, .f32⟩
  | 3 => ⟨S8x1x1x1, .f32⟩
  | 4 => ⟨S8x64x128x2, .f32⟩
  | 5 => ⟨S8x64x128x2, .f32⟩
  | 6 => ⟨S8x64x128x2, .f32⟩
  | 7 => ⟨S1x8x64x128x2, .f32⟩
  | 8 => ⟨S8x64x128x2, .f32⟩
  | 9 => ⟨S8x1x1x1, .f32⟩
  | 10 => ⟨S8x64x128x2, .f32⟩
  | 11 => ⟨S8x64x128x2, .f32⟩
  | 12 => ⟨S8x64x128x2, .f32⟩
  | 13 => ⟨S1x8x64x128x2, .f32⟩
  | 14 => ⟨S8x64x128x2, .f32⟩
  | 15 => ⟨S8x1x1x1, .f32⟩
  | 16 => ⟨S8x64x128x2, .f32⟩
  | 17 => ⟨S8x64x128x2, .f32⟩
  | 18 => ⟨S8x64x128x2, .f32⟩
  | 19 => ⟨S1x8x64x128x2, .f32⟩
  | 20 => ⟨S8x64x128x2, .f32⟩
  | 21 => ⟨S8x1x1x1, .f32⟩
  | 22 => ⟨S8x64x128x2, .f32⟩
  | 23 => ⟨S8x64x128x2, .f32⟩
  | 24 => ⟨S8x64x128x2, .f32⟩
  | 25 => ⟨S1x8x64x128x2, .f32⟩
  | 26 => ⟨S8x64x128x2, .f32⟩
  | 27 => ⟨S8x1x1x1, .f32⟩
  | 28 => ⟨S8x64x128x2, .f32⟩
  | 29 => ⟨S8x64x128x2, .f32⟩
  | 30 => ⟨S8x64x128x2, .f32⟩
  | 31 => ⟨S1x8x64x128x2, .f32⟩
  | 32 => ⟨S8x64x128x2, .f32⟩
  | 33 => ⟨S8x1x1x1, .f32⟩
  | 34 => ⟨S8x64x128x2, .f32⟩
  | 35 => ⟨S8x64x128x2, .f32⟩
  | 36 => ⟨S8x64x128x2, .f32⟩
  | 37 => ⟨S1x8x64x128x2, .f32⟩
  | 38 => ⟨S8x64x128x2, .f32⟩
  | 39 => ⟨S8x1x1x1, .f32⟩
  | 40 => ⟨S8x64x128x2, .f32⟩
  | 41 => ⟨S8x64x128x2, .f32⟩
  | 42 => ⟨S8x64x128x2, .f32⟩
  | 43 => ⟨S1x8x64x128x2, .f32⟩
  | 44 => ⟨S8x64x128x2, .f32⟩
  | 45 => ⟨S8x1x1x1, .f32⟩
  | 46 => ⟨S8x64x128x2, .f32⟩
  | 47 => ⟨S8x64x128x2, .f32⟩
  | 48 => ⟨S8x64x128x2, .f32⟩
  | 49 => ⟨S1x8x64x128x2, .f32⟩
  | 50 => ⟨S8x64x128x2, .f32⟩
  | 51 => ⟨S8x1x1x1, .f32⟩
  | 52 => ⟨S8x64x128x2, .f32⟩
  | 53 => ⟨S8x64x128x2, .f32⟩
  | 54 => ⟨S8x64x128x2, .f32⟩
  | 55 => ⟨S1x8x64x128x2, .f32⟩
  | 56 => ⟨S8x64x128x2, .f32⟩
  | 57 => ⟨S8x1x1x1, .f32⟩
  | 58 => ⟨S8x64x128x2, .f32⟩
  | 59 => ⟨S8x64x128x2, .f32⟩
  | 60 => ⟨S8x64x128x2, .f32⟩
  | 61 => ⟨S1x8x64x128x2, .f32⟩
  | 62 => ⟨S8x64x128x2, .f32⟩
  | 63 => ⟨S8x1x1x1, .f32⟩
  | 64 => ⟨S8x64x128x2, .f32⟩
  | 65 => ⟨S8x64x128x2, .f32⟩
  | 66 => ⟨S8x64x128x2, .f32⟩
  | 67 => ⟨S1x8x64x128x2, .f32⟩
  | 68 => ⟨S8x64x128x2, .f32⟩
  | 69 => ⟨S8x1x1x1, .f32⟩
  | 70 => ⟨S8x64x128x2, .f32⟩
  | 71 => ⟨S8x64x128x2, .f32⟩
  | 72 => ⟨S8x64x128x2, .f32⟩
  | 73 => ⟨S1x8x64x128x2, .f32⟩
  | 74 => ⟨S8x64x128x2, .f32⟩
  | 75 => ⟨S8x1x1x1, .f32⟩
  | 76 => ⟨S8x64x128x2, .f32⟩
  | 77 => ⟨S8x64x128x2, .f32⟩
  | 78 => ⟨S8x64x128x2, .f32⟩
  | 79 => ⟨S1x8x64x128x2, .f32⟩
  | 80 => ⟨S8x64x128x2, .f32⟩
  | 81 => ⟨S8x1x1x1, .f32⟩
  | 82 => ⟨S8x64x128x2, .f32⟩
  | 83 => ⟨S8x64x128x2, .f32⟩
  | 84 => ⟨S8x64x128x2, .f32⟩
  | 85 => ⟨S1x8x64x128x2, .f32⟩
  | 86 => ⟨S8x64x128x2, .f32⟩
  | 87 => ⟨S8x1x1x1, .f32⟩
  | 88 => ⟨S8x64x128x2, .f32⟩
  | 89 => ⟨S8x64x128x2, .f32⟩
  | 90 => ⟨S8x64x128x2, .f32⟩
  | 91 => ⟨S1x8x64x128x2, .f32⟩
  | 92 => ⟨S8x64x128x2, .f32⟩
  | 93 => ⟨S8x1x1x1, .f32⟩
  | 94 => ⟨S8x64x128x2, .f32⟩
  | 95 => ⟨S8x64x128x2, .f32⟩
  | 96 => ⟨S8x64x128x2, .f32⟩
  | 97 => ⟨S1x8x64x128x2, .f32⟩
  | 98 => ⟨S8x64x128x2, .f32⟩
  | 99 => ⟨S8x1x1x1, .f32⟩
  | 100 => ⟨S8x64x128x2, .f32⟩
  | 101 => ⟨S8x64x128x2, .f32⟩
  | 102 => ⟨S8x64x128x2, .f32⟩
  | 103 => ⟨S1x8x64x128x2, .f32⟩
  | 104 => ⟨S8x64x128x2, .f32⟩
  | 105 => ⟨S8x1x1x1, .f32⟩
  | 106 => ⟨S8x64x128x2, .f32⟩
  | 107 => ⟨S8x64x128x2, .f32⟩
  | 108 => ⟨S8x64x128x2, .f32⟩
  | 109 => ⟨S1x8x64x128x2, .f32⟩
  | 110 => ⟨S8x64x128x2, .f32⟩
  | 111 => ⟨S8x1x1x1, .f32⟩
  | 112 => ⟨S8x64x128x2, .f32⟩
  | 113 => ⟨S8x64x128x2, .f32⟩
  | 114 => ⟨S8x64x128x2, .f32⟩
  | 115 => ⟨S1x8x64x128x2, .f32⟩
  | 116 => ⟨S8x64x128x2, .f32⟩
  | 117 => ⟨S8x1x1x1, .f32⟩
  | 118 => ⟨S8x64x128x2, .f32⟩
  | 119 => ⟨S8x64x128x2, .f32⟩
  | 120 => ⟨S8x64x128x2, .f32⟩
  | 121 => ⟨S1x8x64x128x2, .f32⟩
  | 122 => ⟨S8x64x128x2, .f32⟩
  | 123 => ⟨S8x1x1x1, .f32⟩
  | 124 => ⟨S8x64x128x2, .f32⟩
  | 125 => ⟨S8x64x128x2, .f32⟩
  | 126 => ⟨S8x64x128x2, .f32⟩
  | 127 => ⟨S1x8x64x128x2, .f32⟩
  | _ => ⟨S8192x6144, .bf16⟩

abbrev hbmTy0_4 (i : Nat) : BufTy := match i % 128 with
  | 0 => ⟨S8x64x128x2, .f32⟩
  | 1 => ⟨S8x1x1x1, .f32⟩
  | 2 => ⟨S8x64x128x2, .f32⟩
  | 3 => ⟨S8x64x128x2, .f32⟩
  | 4 => ⟨S8x64x128x2, .f32⟩
  | 5 => ⟨S1x8x64x128x2, .f32⟩
  | 6 => ⟨S8x64x128x2, .f32⟩
  | 7 => ⟨S8x1x1x1, .f32⟩
  | 8 => ⟨S8x64x128x2, .f32⟩
  | 9 => ⟨S8x64x128x2, .f32⟩
  | 10 => ⟨S8x64x128x2, .f32⟩
  | 11 => ⟨S1x8x64x128x2, .f32⟩
  | 12 => ⟨S8x64x128x2, .f32⟩
  | 13 => ⟨S8x1x1x1, .f32⟩
  | 14 => ⟨S8x64x128x2, .f32⟩
  | 15 => ⟨S8x64x128x2, .f32⟩
  | 16 => ⟨S8x64x128x2, .f32⟩
  | 17 => ⟨S1x8x64x128x2, .f32⟩
  | 18 => ⟨S8x64x128x2, .f32⟩
  | 19 => ⟨S8x1x1x1, .f32⟩
  | 20 => ⟨S8x64x128x2, .f32⟩
  | 21 => ⟨S8x64x128x2, .f32⟩
  | 22 => ⟨S8x64x128x2, .f32⟩
  | 23 => ⟨S1x8x64x128x2, .f32⟩
  | 24 => ⟨S8x64x128x2, .f32⟩
  | 25 => ⟨S8x1x1x1, .f32⟩
  | 26 => ⟨S8x64x128x2, .f32⟩
  | 27 => ⟨S8x64x128x2, .f32⟩
  | 28 => ⟨S8x64x128x2, .f32⟩
  | 29 => ⟨S1x8x64x128x2, .f32⟩
  | 30 => ⟨S8x64x128x2, .f32⟩
  | 31 => ⟨S8x1x1x1, .f32⟩
  | 32 => ⟨S8x64x128x2, .f32⟩
  | 33 => ⟨S8x64x128x2, .f32⟩
  | 34 => ⟨S8x64x128x2, .f32⟩
  | 35 => ⟨S1x8x64x128x2, .f32⟩
  | 36 => ⟨S8x64x128x2, .f32⟩
  | 37 => ⟨S8x1x1x1, .f32⟩
  | 38 => ⟨S8x64x128x2, .f32⟩
  | 39 => ⟨S8x64x128x2, .f32⟩
  | 40 => ⟨S8x64x128x2, .f32⟩
  | 41 => ⟨S1x8x64x128x2, .f32⟩
  | 42 => ⟨S8x64x128x2, .f32⟩
  | 43 => ⟨S8x1x1x1, .f32⟩
  | 44 => ⟨S8x64x128x2, .f32⟩
  | 45 => ⟨S8x64x128x2, .f32⟩
  | 46 => ⟨S8x64x128x2, .f32⟩
  | 47 => ⟨S1x8x64x128x2, .f32⟩
  | 48 => ⟨S8x64x128x2, .f32⟩
  | 49 => ⟨S8x1x1x1, .f32⟩
  | 50 => ⟨S8x64x128x2, .f32⟩
  | 51 => ⟨S8x64x128x2, .f32⟩
  | 52 => ⟨S8x64x128x2, .f32⟩
  | 53 => ⟨S1x8x64x128x2, .f32⟩
  | 54 => ⟨S8x64x128x2, .f32⟩
  | 55 => ⟨S8x1x1x1, .f32⟩
  | 56 => ⟨S8x64x128x2, .f32⟩
  | 57 => ⟨S8x64x128x2, .f32⟩
  | 58 => ⟨S8x64x128x2, .f32⟩
  | 59 => ⟨S1x8x64x128x2, .f32⟩
  | 60 => ⟨S8x64x128x2, .f32⟩
  | 61 => ⟨S8x1x1x1, .f32⟩
  | 62 => ⟨S8x64x128x2, .f32⟩
  | 63 => ⟨S8x64x128x2, .f32⟩
  | 64 => ⟨S8x64x128x2, .f32⟩
  | 65 => ⟨S1x8x64x128x2, .f32⟩
  | 66 => ⟨S8x64x128x2, .f32⟩
  | 67 => ⟨S8x1x1x1, .f32⟩
  | 68 => ⟨S8x64x128x2, .f32⟩
  | 69 => ⟨S8x64x128x2, .f32⟩
  | 70 => ⟨S8x64x128x2, .f32⟩
  | 71 => ⟨S1x8x64x128x2, .f32⟩
  | 72 => ⟨S8x64x128x2, .f32⟩
  | 73 => ⟨S8x1x1x1, .f32⟩
  | 74 => ⟨S8x64x128x2, .f32⟩
  | 75 => ⟨S8x64x128x2, .f32⟩
  | 76 => ⟨S8x64x128x2, .f32⟩
  | 77 => ⟨S1x8x64x128x2, .f32⟩
  | 78 => ⟨S8x64x128x2, .f32⟩
  | 79 => ⟨S8x1x1x1, .f32⟩
  | 80 => ⟨S8x64x128x2, .f32⟩
  | 81 => ⟨S8x64x128x2, .f32⟩
  | 82 => ⟨S8x64x128x2, .f32⟩
  | 83 => ⟨S1x8x64x128x2, .f32⟩
  | 84 => ⟨S8x64x128x2, .f32⟩
  | 85 => ⟨S8x1x1x1, .f32⟩
  | 86 => ⟨S8x64x128x2, .f32⟩
  | 87 => ⟨S8x64x128x2, .f32⟩
  | 88 => ⟨S8x64x128x2, .f32⟩
  | 89 => ⟨S1x8x64x128x2, .f32⟩
  | 90 => ⟨S8x64x128x2, .f32⟩
  | 91 => ⟨S8x1x1x1, .f32⟩
  | 92 => ⟨S8x64x128x2, .f32⟩
  | 93 => ⟨S8x64x128x2, .f32⟩
  | 94 => ⟨S8x64x128x2, .f32⟩
  | 95 => ⟨S1x8x64x128x2, .f32⟩
  | 96 => ⟨S8x64x128x2, .f32⟩
  | 97 => ⟨S8x1x1x1, .f32⟩
  | 98 => ⟨S8x64x128x2, .f32⟩
  | 99 => ⟨S8x64x128x2, .f32⟩
  | 100 => ⟨S8x64x128x2, .f32⟩
  | 101 => ⟨S1x8x64x128x2, .f32⟩
  | 102 => ⟨S8x64x128x2, .f32⟩
  | 103 => ⟨S8x1x1x1, .f32⟩
  | 104 => ⟨S8x64x128x2, .f32⟩
  | 105 => ⟨S8x64x128x2, .f32⟩
  | 106 => ⟨S8x64x128x2, .f32⟩
  | 107 => ⟨S1x8x64x128x2, .f32⟩
  | 108 => ⟨S8x64x128x2, .f32⟩
  | 109 => ⟨S8x1x1x1, .f32⟩
  | 110 => ⟨S8x64x128x2, .f32⟩
  | 111 => ⟨S8x64x128x2, .f32⟩
  | 112 => ⟨S8x64x128x2, .f32⟩
  | 113 => ⟨S1x8x64x128x2, .f32⟩
  | 114 => ⟨S8x64x128x2, .f32⟩
  | 115 => ⟨S8x1x1x1, .f32⟩
  | 116 => ⟨S8x64x128x2, .f32⟩
  | 117 => ⟨S8x64x128x2, .f32⟩
  | 118 => ⟨S8x64x128x2, .f32⟩
  | 119 => ⟨S1x8x64x128x2, .f32⟩
  | 120 => ⟨S8x64x128x2, .f32⟩
  | 121 => ⟨S8x1x1x1, .f32⟩
  | 122 => ⟨S8x64x128x2, .f32⟩
  | 123 => ⟨S8x64x128x2, .f32⟩
  | 124 => ⟨S8x64x128x2, .f32⟩
  | 125 => ⟨S1x8x64x128x2, .f32⟩
  | 126 => ⟨S8x64x128x2, .f32⟩
  | 127 => ⟨S8x1x1x1, .f32⟩
  | _ => ⟨S8192x6144, .bf16⟩

abbrev hbmTy0_5 (i : Nat) : BufTy := match i % 128 with
  | 0 => ⟨S8x64x128x2, .f32⟩
  | 1 => ⟨S8x64x128x2, .f32⟩
  | 2 => ⟨S8x64x128x2, .f32⟩
  | 3 => ⟨S1x8x64x128x2, .f32⟩
  | 4 => ⟨S8x64x128x2, .f32⟩
  | 5 => ⟨S8x1x1x1, .f32⟩
  | 6 => ⟨S8x64x128x2, .f32⟩
  | 7 => ⟨S8x64x128x2, .f32⟩
  | 8 => ⟨S8x64x128x2, .f32⟩
  | 9 => ⟨S1x8x64x128x2, .f32⟩
  | 10 => ⟨S8x64x128x2, .f32⟩
  | 11 => ⟨S8x1x1x1, .f32⟩
  | 12 => ⟨S8x64x128x2, .f32⟩
  | 13 => ⟨S8x64x128x2, .f32⟩
  | 14 => ⟨S8x64x128x2, .f32⟩
  | 15 => ⟨S1x8x64x128x2, .f32⟩
  | 16 => ⟨S1x8x64x128x2, .f32⟩
  | 17 => ⟨S1x8x64x128x2, .f32⟩
  | 18 => ⟨S1x8x64x128x2, .f32⟩
  | 19 => ⟨S1x8x64x128x2, .f32⟩
  | 20 => ⟨S1x8x64x128x2, .f32⟩
  | 21 => ⟨S1x8x64x128x2, .f32⟩
  | 22 => ⟨S1x8x64x128x2, .f32⟩
  | 23 => ⟨S1x8x64x128x2, .f32⟩
  | 24 => ⟨S1x8x64x128x2, .f32⟩
  | 25 => ⟨S1x8x64x128x2, .f32⟩
  | 26 => ⟨S1x8x64x128x2, .f32⟩
  | 27 => ⟨S1x8x64x128x2, .f32⟩
  | 28 => ⟨S1x8x64x128x2, .f32⟩
  | 29 => ⟨S1x8x64x128x2, .f32⟩
  | 30 => ⟨S1x8x64x128x2, .f32⟩
  | 31 => ⟨S1x8x64x128x2, .f32⟩
  | 32 => ⟨S1x8x64x128x2, .f32⟩
  | 33 => ⟨S1x8x64x128x2, .f32⟩
  | 34 => ⟨S1x8x64x128x2, .f32⟩
  | 35 => ⟨S1x8x64x128x2, .f32⟩
  | 36 => ⟨S1x8x64x128x2, .f32⟩
  | 37 => ⟨S1x8x64x128x2, .f32⟩
  | 38 => ⟨S1x8x64x128x2, .f32⟩
  | 39 => ⟨S1x8x64x128x2, .f32⟩
  | 40 => ⟨S1x8x64x128x2, .f32⟩
  | 41 => ⟨S1x8x64x128x2, .f32⟩
  | 42 => ⟨S1x8x64x128x2, .f32⟩
  | 43 => ⟨S1x8x64x128x2, .f32⟩
  | 44 => ⟨S1x8x64x128x2, .f32⟩
  | 45 => ⟨S1x8x64x128x2, .f32⟩
  | 46 => ⟨S1x8x64x128x2, .f32⟩
  | 47 => ⟨S1x8x64x128x2, .f32⟩
  | 48 => ⟨S1x8x64x128x2, .f32⟩
  | 49 => ⟨S1x8x64x128x2, .f32⟩
  | 50 => ⟨S1x8x64x128x2, .f32⟩
  | 51 => ⟨S1x8x64x128x2, .f32⟩
  | 52 => ⟨S1x8x64x128x2, .f32⟩
  | 53 => ⟨S1x8x64x128x2, .f32⟩
  | 54 => ⟨S1x8x64x128x2, .f32⟩
  | 55 => ⟨S1x8x64x128x2, .f32⟩
  | 56 => ⟨S1x8x64x128x2, .f32⟩
  | 57 => ⟨S1x8x64x128x2, .f32⟩
  | 58 => ⟨S1x8x64x128x2, .f32⟩
  | 59 => ⟨S1x8x64x128x2, .f32⟩
  | 60 => ⟨S1x8x64x128x2, .f32⟩
  | 61 => ⟨S1x8x64x128x2, .f32⟩
  | 62 => ⟨S1x8x64x128x2, .f32⟩
  | 63 => ⟨S1x8x64x128x2, .f32⟩
  | 64 => ⟨S1x8x64x128x2, .f32⟩
  | 65 => ⟨S1x8x64x128x2, .f32⟩
  | 66 => ⟨S1x8x64x128x2, .f32⟩
  | 67 => ⟨S1x8x64x128x2, .f32⟩
  | 68 => ⟨S1x8x64x128x2, .f32⟩
  | 69 => ⟨S1x8x64x128x2, .f32⟩
  | 70 => ⟨S1x8x64x128x2, .f32⟩
  | 71 => ⟨S1x8x64x128x2, .f32⟩
  | 72 => ⟨S1x8x64x128x2, .f32⟩
  | 73 => ⟨S1x8x64x128x2, .f32⟩
  | 74 => ⟨S1x8x64x128x2, .f32⟩
  | 75 => ⟨S1x8x64x128x2, .f32⟩
  | 76 => ⟨S1x8x64x128x2, .f32⟩
  | 77 => ⟨S1x8x64x128x2, .f32⟩
  | 78 => ⟨S1x8x64x128x2, .f32⟩
  | 79 => ⟨S16x8x64x128x2, .f32⟩
  | 80 => ⟨S16x8x64x128x2, .f32⟩
  | 81 => ⟨S16x8x64x128x2, .f32⟩
  | 82 => ⟨S16x8x64x128x2, .f32⟩
  | 83 => ⟨S64x8x64x128x2, .f32⟩
  | 84 => ⟨S64x8x64x128x2, .f32⟩
  | 85 => ⟨S1x1x64x8x1, .f32⟩
  | 86 => ⟨S2x64x64x8x64, .f32⟩
  | 87 => ⟨S2x64x64x8x64, .f32⟩
  | 88 => ⟨S2x64x8x128x64, .f32⟩
  | 89 => ⟨S2x64x64x8x128, .f32⟩
  | 90 => ⟨S2x64x64x8x128, .f32⟩
  | 91 => ⟨S2x4096x8x128, .f32⟩
  | 92 => ⟨S_, .f32⟩
  | 93 => ⟨S2x4096x8, .f32⟩
  | 94 => ⟨S2x4096x8x1, .f32⟩
  | 95 => ⟨S_, .f32⟩
  | 96 => ⟨S2x4096x8x1, .f32⟩
  | 97 => ⟨S2x4096x8x1, .f32⟩
  | 98 => ⟨S2x4096x8x128, .f32⟩
  | 99 => ⟨S2x4096x8x128, .f32⟩
  | 100 => ⟨S2x4096x8x128, .f32⟩
  | 101 => ⟨S_, .f32⟩
  | 102 => ⟨S2x4096x8, .f32⟩
  | 103 => ⟨S2x4096x8x1, .f32⟩
  | 104 => ⟨S_, .f32⟩
  | 105 => ⟨S2x4096x8x1, .f32⟩
  | 106 => ⟨S2x4096x8x1, .f32⟩
  | 107 => ⟨S2x4096x8x128, .f32⟩
  | 108 => ⟨S2x4096x8x128, .f32⟩
  | 109 => ⟨S_, .f32⟩
  | 110 => ⟨S2x4096x8x1, .f32⟩
  | 111 => ⟨S2x4096x8x1, .f32⟩
  | 112 => ⟨S2x4096x8x1, .f32⟩
  | 113 => ⟨S2x4096x8x128, .f32⟩
  | 114 => ⟨S2x4096x8x128, .f32⟩
  | 115 => ⟨S2x4096x1024, .f32⟩
  | 116 => ⟨S2x4096x1024, .f32⟩
  | 117 => ⟨S2x4096x1024, .f32⟩
  | 118 => ⟨S_, .f32⟩
  | 119 => ⟨S2x4096x1024, .f32⟩
  | 120 => ⟨S2x4096x1024, .f32⟩
  | 121 => ⟨S_, .f32⟩
  | 122 => ⟨S2x4096x1024, .f32⟩
  | 123 => ⟨S2x4096x1024, .f32⟩
  | 124 => ⟨S2x4096x1024, .f32⟩
  | 125 => ⟨S2x4096x1024, .f32⟩
  | 126 => ⟨S1024, .f32⟩
  | 127 => ⟨S1x1x1024, .f32⟩
  | _ => ⟨S8192x6144, .bf16⟩

abbrev hbmTy0_6 (i : Nat) : BufTy := match i % 128 with
  | 0 => ⟨S2x4096x1024, .f32⟩
  | 1 => ⟨S2x4096x1024, .f32⟩
  | 2 => ⟨S2x4096x2048, .f32⟩
  | 3 => ⟨S8192x2048, .f32⟩
  | 4 => ⟨S8192x2048, .bf16⟩
  | _ => ⟨S8192x6144, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_2 : Ref sig .tc := ⟨.hbm, 60, rfl⟩
abbrev main_c_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v50 : Ref sig .tc := ⟨.hbm, 67, rfl⟩
abbrev main_c_4 : Ref sig .tc := ⟨.hbm, 68, rfl⟩
abbrev main_v51 : Ref sig .tc := ⟨.hbm, 69, rfl⟩
abbrev main_v52 : Ref sig .tc := ⟨.hbm, 70, rfl⟩
abbrev main_c_5 : Ref sig .tc := ⟨.hbm, 71, rfl⟩
abbrev main_v53 : Ref sig .tc := ⟨.hbm, 72, rfl⟩
abbrev main_v54 : Ref sig .tc := ⟨.hbm, 73, rfl⟩
abbrev main_c_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_7 : Ref sig .tc := ⟨.hbm, 82, rfl⟩
abbrev main_v62 : Ref sig .tc := ⟨.hbm, 83, rfl⟩
abbrev main_v63 : Ref sig .tc := ⟨.hbm, 84, rfl⟩
abbrev main_c_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_cst_15 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_17 : Ref sig .tc := ⟨.hbm, 140, rfl⟩
abbrev main_v107 : Ref sig .tc := ⟨.hbm, 141, rfl⟩
abbrev main_v108 : Ref sig .tc := ⟨.hbm, 142, rfl⟩
abbrev main_cst_18 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_19 : Ref sig .tc := ⟨.hbm, 172, rfl⟩
abbrev main_v137 : Ref sig .tc := ⟨.hbm, 173, rfl⟩
abbrev main_v138 : Ref sig .tc := ⟨.hbm, 174, rfl⟩
abbrev main_cst_20 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_21 : Ref sig .tc := ⟨.hbm, 203, rfl⟩
abbrev main_v166 : Ref sig .tc := ⟨.hbm, 204, rfl⟩
abbrev main_v167 : Ref sig .tc := ⟨.hbm, 205, rfl⟩
abbrev main_cst_22 : Ref sig .tc := ⟨.hbm, 206, rfl⟩
abbrev main_v168 : Ref sig .tc := ⟨.hbm, 207, rfl⟩
abbrev main_v169 : Ref sig .tc := ⟨.hbm, 208, rfl⟩
abbrev main_cst_23 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_cst_24 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_cst_25 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_26 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_27 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_28 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_cst_29 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_v397 : Ref sig .tc := ⟨.hbm, 443, rfl⟩
abbrev main_v398 : Ref sig .tc := ⟨.hbm, 444, rfl⟩
abbrev main_v399 : Ref sig .tc := ⟨.hbm, 445, rfl⟩
abbrev main_v400 : Ref sig .tc := ⟨.hbm, 446, rfl⟩
abbrev main_v401 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_v406 : Ref sig .tc := ⟨.hbm, 452, rfl⟩
abbrev main_v407 : Ref sig .tc := ⟨.hbm, 453, rfl⟩
abbrev main_v408 : Ref sig .tc := ⟨.hbm, 454, rfl⟩
abbrev main_v409 : Ref sig .tc := ⟨.hbm, 455, rfl⟩
abbrev main_v410 : Ref sig .tc := ⟨.hbm, 456, rfl⟩
abbrev main_v411 : Ref sig .tc := ⟨.hbm, 457, rfl⟩
abbrev main_v412 : Ref sig .tc := ⟨.hbm, 458, rfl⟩
abbrev main_v413 : Ref sig .tc := ⟨.hbm, 459, rfl⟩
abbrev main_v414 : Ref sig .tc := ⟨.hbm, 460, rfl⟩
abbrev main_v415 : Ref sig .tc := ⟨.hbm, 461, rfl⟩
abbrev main_v416 : Ref sig .tc := ⟨.hbm, 462, rfl⟩
abbrev main_v417 : Ref sig .tc := ⟨.hbm, 463, rfl⟩
abbrev main_v418 : Ref sig .tc := ⟨.hbm, 464, rfl⟩
abbrev main_v419 : Ref sig .tc := ⟨.hbm, 465, rfl⟩
abbrev main_v420 : Ref sig .tc := ⟨.hbm, 466, rfl⟩
abbrev main_v421 : Ref sig .tc := ⟨.hbm, 467, rfl⟩
abbrev main_v422 : Ref sig .tc := ⟨.hbm, 468, rfl⟩
abbrev main_v423 : Ref sig .tc := ⟨.hbm, 469, rfl⟩
abbrev main_v424 : Ref sig .tc := ⟨.hbm, 470, rfl⟩
abbrev main_v425 : Ref sig .tc := ⟨.hbm, 471, rfl⟩
abbrev main_v426 : Ref sig .tc := ⟨.hbm, 472, rfl⟩
abbrev main_v427 : Ref sig .tc := ⟨.hbm, 473, rfl⟩
abbrev main_v428 : Ref sig .tc := ⟨.hbm, 474, rfl⟩
abbrev main_v429 : Ref sig .tc := ⟨.hbm, 475, rfl⟩
abbrev main_v430 : Ref sig .tc := ⟨.hbm, 476, rfl⟩
abbrev main_v431 : Ref sig .tc := ⟨.hbm, 477, rfl⟩
abbrev main_v432 : Ref sig .tc := ⟨.hbm, 478, rfl⟩
abbrev main_v433 : Ref sig .tc := ⟨.hbm, 479, rfl⟩
abbrev main_v434 : Ref sig .tc := ⟨.hbm, 480, rfl⟩
abbrev main_v435 : Ref sig .tc := ⟨.hbm, 481, rfl⟩
abbrev main_v436 : Ref sig .tc := ⟨.hbm, 482, rfl⟩
abbrev main_v437 : Ref sig .tc := ⟨.hbm, 483, rfl⟩
abbrev main_v438 : Ref sig .tc := ⟨.hbm, 484, rfl⟩
abbrev main_v439 : Ref sig .tc := ⟨.hbm, 485, rfl⟩
abbrev main_v440 : Ref sig .tc := ⟨.hbm, 486, rfl⟩
abbrev main_v441 : Ref sig .tc := ⟨.hbm, 487, rfl⟩
abbrev main_v442 : Ref sig .tc := ⟨.hbm, 488, rfl⟩
abbrev main_v443 : Ref sig .tc := ⟨.hbm, 489, rfl⟩
abbrev main_v444 : Ref sig .tc := ⟨.hbm, 490, rfl⟩
abbrev main_v445 : Ref sig .tc := ⟨.hbm, 491, rfl⟩
abbrev main_v446 : Ref sig .tc := ⟨.hbm, 492, rfl⟩
abbrev main_v447 : Ref sig .tc := ⟨.hbm, 493, rfl⟩
abbrev main_v448 : Ref sig .tc := ⟨.hbm, 494, rfl⟩
abbrev main_v449 : Ref sig .tc := ⟨.hbm, 495, rfl⟩
abbrev main_v450 : Ref sig .tc := ⟨.hbm, 496, rfl⟩
abbrev main_v451 : Ref sig .tc := ⟨.hbm, 497, rfl⟩
abbrev main_v452 : Ref sig .tc := ⟨.hbm, 498, rfl⟩
abbrev main_v453 : Ref sig .tc := ⟨.hbm, 499, rfl⟩
abbrev main_v454 : Ref sig .tc := ⟨.hbm, 500, rfl⟩
abbrev main_v455 : Ref sig .tc := ⟨.hbm, 501, rfl⟩
abbrev main_v456 : Ref sig .tc := ⟨.hbm, 502, rfl⟩
abbrev main_v457 : Ref sig .tc := ⟨.hbm, 503, rfl⟩
abbrev main_v458 : Ref sig .tc := ⟨.hbm, 504, rfl⟩
abbrev main_v459 : Ref sig .tc := ⟨.hbm, 505, rfl⟩
abbrev main_v460 : Ref sig .tc := ⟨.hbm, 506, rfl⟩
abbrev main_v461 : Ref sig .tc := ⟨.hbm, 507, rfl⟩
abbrev main_v462 : Ref sig .tc := ⟨.hbm, 508, rfl⟩
abbrev main_v463 : Ref sig .tc := ⟨.hbm, 509, rfl⟩
abbrev main_v464 : Ref sig .tc := ⟨.hbm, 510, rfl⟩
abbrev main_v465 : Ref sig .tc := ⟨.hbm, 511, rfl⟩
abbrev main_v466 : Ref sig .tc := ⟨.hbm, 512, rfl⟩
abbrev main_v467 : Ref sig .tc := ⟨.hbm, 513, rfl⟩
abbrev main_v468 : Ref sig .tc := ⟨.hbm, 514, rfl⟩
abbrev main_v469 : Ref sig .tc := ⟨.hbm, 515, rfl⟩
abbrev main_v470 : Ref sig .tc := ⟨.hbm, 516, rfl⟩
abbrev main_v471 : Ref sig .tc := ⟨.hbm, 517, rfl⟩
abbrev main_v472 : Ref sig .tc := ⟨.hbm, 518, rfl⟩
abbrev main_v473 : Ref sig .tc := ⟨.hbm, 519, rfl⟩
abbrev main_v474 : Ref sig .tc := ⟨.hbm, 520, rfl⟩
abbrev main_v475 : Ref sig .tc := ⟨.hbm, 521, rfl⟩
abbrev main_v476 : Ref sig .tc := ⟨.hbm, 522, rfl⟩
abbrev main_v477 : Ref sig .tc := ⟨.hbm, 523, rfl⟩
abbrev main_v478 : Ref sig .tc := ⟨.hbm, 524, rfl⟩
abbrev main_v479 : Ref sig .tc := ⟨.hbm, 525, rfl⟩
abbrev main_v480 : Ref sig .tc := ⟨.hbm, 526, rfl⟩
abbrev main_v481 : Ref sig .tc := ⟨.hbm, 527, rfl⟩
abbrev main_v482 : Ref sig .tc := ⟨.hbm, 528, rfl⟩
abbrev main_v483 : Ref sig .tc := ⟨.hbm, 529, rfl⟩
abbrev main_v484 : Ref sig .tc := ⟨.hbm, 530, rfl⟩
abbrev main_v485 : Ref sig .tc := ⟨.hbm, 531, rfl⟩
abbrev main_v486 : Ref sig .tc := ⟨.hbm, 532, rfl⟩
abbrev main_v487 : Ref sig .tc := ⟨.hbm, 533, rfl⟩
abbrev main_v488 : Ref sig .tc := ⟨.hbm, 534, rfl⟩
abbrev main_v489 : Ref sig .tc := ⟨.hbm, 535, rfl⟩
abbrev main_v490 : Ref sig .tc := ⟨.hbm, 536, rfl⟩
abbrev main_v491 : Ref sig .tc := ⟨.hbm, 537, rfl⟩
abbrev main_v492 : Ref sig .tc := ⟨.hbm, 538, rfl⟩
abbrev main_v493 : Ref sig .tc := ⟨.hbm, 539, rfl⟩
abbrev main_v494 : Ref sig .tc := ⟨.hbm, 540, rfl⟩
abbrev main_v495 : Ref sig .tc := ⟨.hbm, 541, rfl⟩
abbrev main_v496 : Ref sig .tc := ⟨.hbm, 542, rfl⟩
abbrev main_v497 : Ref sig .tc := ⟨.hbm, 543, rfl⟩
abbrev main_v498 : Ref sig .tc := ⟨.hbm, 544, rfl⟩
abbrev main_v499 : Ref sig .tc := ⟨.hbm, 545, rfl⟩
abbrev main_v500 : Ref sig .tc := ⟨.hbm, 546, rfl⟩
abbrev main_v501 : Ref sig .tc := ⟨.hbm, 547, rfl⟩
abbrev main_v502 : Ref sig .tc := ⟨.hbm, 548, rfl⟩
abbrev main_v503 : Ref sig .tc := ⟨.hbm, 549, rfl⟩
abbrev main_v504 : Ref sig .tc := ⟨.hbm, 550, rfl⟩
abbrev main_v505 : Ref sig .tc := ⟨.hbm, 551, rfl⟩
abbrev main_v506 : Ref sig .tc := ⟨.hbm, 552, rfl⟩
abbrev main_v507 : Ref sig .tc := ⟨.hbm, 553, rfl⟩
abbrev main_v508 : Ref sig .tc := ⟨.hbm, 554, rfl⟩
abbrev main_v509 : Ref sig .tc := ⟨.hbm, 555, rfl⟩
abbrev main_v510 : Ref sig .tc := ⟨.hbm, 556, rfl⟩
abbrev main_v511 : Ref sig .tc := ⟨.hbm, 557, rfl⟩
abbrev main_v512 : Ref sig .tc := ⟨.hbm, 558, rfl⟩
abbrev main_v513 : Ref sig .tc := ⟨.hbm, 559, rfl⟩
abbrev main_v514 : Ref sig .tc := ⟨.hbm, 560, rfl⟩
abbrev main_v515 : Ref sig .tc := ⟨.hbm, 561, rfl⟩
abbrev main_v516 : Ref sig .tc := ⟨.hbm, 562, rfl⟩
abbrev main_v517 : Ref sig .tc := ⟨.hbm, 563, rfl⟩
abbrev main_v518 : Ref sig .tc := ⟨.hbm, 564, rfl⟩
abbrev main_v519 : Ref sig .tc := ⟨.hbm, 565, rfl⟩
abbrev main_v520 : Ref sig .tc := ⟨.hbm, 566, rfl⟩
abbrev main_v521 : Ref sig .tc := ⟨.hbm, 567, rfl⟩
abbrev main_v522 : Ref sig .tc := ⟨.hbm, 568, rfl⟩
abbrev main_v523 : Ref sig .tc := ⟨.hbm, 569, rfl⟩
abbrev main_v524 : Ref sig .tc := ⟨.hbm, 570, rfl⟩
abbrev main_v525 : Ref sig .tc := ⟨.hbm, 571, rfl⟩
abbrev main_v526 : Ref sig .tc := ⟨.hbm, 572, rfl⟩
abbrev main_v527 : Ref sig .tc := ⟨.hbm, 573, rfl⟩
abbrev main_v528 : Ref sig .tc := ⟨.hbm, 574, rfl⟩
abbrev main_v529 : Ref sig .tc := ⟨.hbm, 575, rfl⟩
abbrev main_v530 : Ref sig .tc := ⟨.hbm, 576, rfl⟩
abbrev main_v531 : Ref sig .tc := ⟨.hbm, 577, rfl⟩
abbrev main_v532 : Ref sig .tc := ⟨.hbm, 578, rfl⟩
abbrev main_v533 : Ref sig .tc := ⟨.hbm, 579, rfl⟩
abbrev main_v534 : Ref sig .tc := ⟨.hbm, 580, rfl⟩
abbrev main_v535 : Ref sig .tc := ⟨.hbm, 581, rfl⟩
abbrev main_v536 : Ref sig .tc := ⟨.hbm, 582, rfl⟩
abbrev main_v537 : Ref sig .tc := ⟨.hbm, 583, rfl⟩
abbrev main_v538 : Ref sig .tc := ⟨.hbm, 584, rfl⟩
abbrev main_v539 : Ref sig .tc := ⟨.hbm, 585, rfl⟩
abbrev main_v540 : Ref sig .tc := ⟨.hbm, 586, rfl⟩
abbrev main_v541 : Ref sig .tc := ⟨.hbm, 587, rfl⟩
abbrev main_v542 : Ref sig .tc := ⟨.hbm, 588, rfl⟩
abbrev main_v543 : Ref sig .tc := ⟨.hbm, 589, rfl⟩
abbrev main_v544 : Ref sig .tc := ⟨.hbm, 590, rfl⟩
abbrev main_v545 : Ref sig .tc := ⟨.hbm, 591, rfl⟩
abbrev main_v546 : Ref sig .tc := ⟨.hbm, 592, rfl⟩
abbrev main_v547 : Ref sig .tc := ⟨.hbm, 593, rfl⟩
abbrev main_v548 : Ref sig .tc := ⟨.hbm, 594, rfl⟩
abbrev main_v549 : Ref sig .tc := ⟨.hbm, 595, rfl⟩
abbrev main_v550 : Ref sig .tc := ⟨.hbm, 596, rfl⟩
abbrev main_v551 : Ref sig .tc := ⟨.hbm, 597, rfl⟩
abbrev main_v552 : Ref sig .tc := ⟨.hbm, 598, rfl⟩
abbrev main_v553 : Ref sig .tc := ⟨.hbm, 599, rfl⟩
abbrev main_v554 : Ref sig .tc := ⟨.hbm, 600, rfl⟩
abbrev main_v555 : Ref sig .tc := ⟨.hbm, 601, rfl⟩
abbrev main_v556 : Ref sig .tc := ⟨.hbm, 602, rfl⟩
abbrev main_v557 : Ref sig .tc := ⟨.hbm, 603, rfl⟩
abbrev main_v558 : Ref sig .tc := ⟨.hbm, 604, rfl⟩
abbrev main_v559 : Ref sig .tc := ⟨.hbm, 605, rfl⟩
abbrev main_v560 : Ref sig .tc := ⟨.hbm, 606, rfl⟩
abbrev main_v561 : Ref sig .tc := ⟨.hbm, 607, rfl⟩
abbrev main_v562 : Ref sig .tc := ⟨.hbm, 608, rfl⟩
abbrev main_v563 : Ref sig .tc := ⟨.hbm, 609, rfl⟩
abbrev main_v564 : Ref sig .tc := ⟨.hbm, 610, rfl⟩
abbrev main_v565 : Ref sig .tc := ⟨.hbm, 611, rfl⟩
abbrev main_v566 : Ref sig .tc := ⟨.hbm, 612, rfl⟩
abbrev main_v567 : Ref sig .tc := ⟨.hbm, 613, rfl⟩
abbrev main_v568 : Ref sig .tc := ⟨.hbm, 614, rfl⟩
abbrev main_v569 : Ref sig .tc := ⟨.hbm, 615, rfl⟩
abbrev main_v570 : Ref sig .tc := ⟨.hbm, 616, rfl⟩
abbrev main_v571 : Ref sig .tc := ⟨.hbm, 617, rfl⟩
abbrev main_v572 : Ref sig .tc := ⟨.hbm, 618, rfl⟩
abbrev main_v573 : Ref sig .tc := ⟨.hbm, 619, rfl⟩
abbrev main_v574 : Ref sig .tc := ⟨.hbm, 620, rfl⟩
abbrev main_v575 : Ref sig .tc := ⟨.hbm, 621, rfl⟩
abbrev main_v576 : Ref sig .tc := ⟨.hbm, 622, rfl⟩
abbrev main_v577 : Ref sig .tc := ⟨.hbm, 623, rfl⟩
abbrev main_v578 : Ref sig .tc := ⟨.hbm, 624, rfl⟩
abbrev main_v579 : Ref sig .tc := ⟨.hbm, 625, rfl⟩
abbrev main_v580 : Ref sig .tc := ⟨.hbm, 626, rfl⟩
abbrev main_v581 : Ref sig .tc := ⟨.hbm, 627, rfl⟩
abbrev main_v582 : Ref sig .tc := ⟨.hbm, 628, rfl⟩
abbrev main_v583 : Ref sig .tc := ⟨.hbm, 629, rfl⟩
abbrev main_v584 : Ref sig .tc := ⟨.hbm, 630, rfl⟩
abbrev main_v585 : Ref sig .tc := ⟨.hbm, 631, rfl⟩
abbrev main_v586 : Ref sig .tc := ⟨.hbm, 632, rfl⟩
abbrev main_v587 : Ref sig .tc := ⟨.hbm, 633, rfl⟩
abbrev main_v588 : Ref sig .tc := ⟨.hbm, 634, rfl⟩
abbrev main_v589 : Ref sig .tc := ⟨.hbm, 635, rfl⟩
abbrev main_v590 : Ref sig .tc := ⟨.hbm, 636, rfl⟩
abbrev main_v591 : Ref sig .tc := ⟨.hbm, 637, rfl⟩
abbrev main_v592 : Ref sig .tc := ⟨.hbm, 638, rfl⟩
abbrev main_v593 : Ref sig .tc := ⟨.hbm, 639, rfl⟩
abbrev main_v594 : Ref sig .tc := ⟨.hbm, 640, rfl⟩
abbrev main_v595 : Ref sig .tc := ⟨.hbm, 641, rfl⟩
abbrev main_v596 : Ref sig .tc := ⟨.hbm, 642, rfl⟩
abbrev main_v597 : Ref sig .tc := ⟨.hbm, 643, rfl⟩
abbrev main_v598 : Ref sig .tc := ⟨.hbm, 644, rfl⟩
abbrev main_v599 : Ref sig .tc := ⟨.hbm, 645, rfl⟩
abbrev main_v600 : Ref sig .tc := ⟨.hbm, 646, rfl⟩
abbrev main_v601 : Ref sig .tc := ⟨.hbm, 647, rfl⟩
abbrev main_v602 : Ref sig .tc := ⟨.hbm, 648, rfl⟩
abbrev main_v603 : Ref sig .tc := ⟨.hbm, 649, rfl⟩
abbrev main_v604 : Ref sig .tc := ⟨.hbm, 650, rfl⟩
abbrev main_v605 : Ref sig .tc := ⟨.hbm, 651, rfl⟩
abbrev main_v606 : Ref sig .tc := ⟨.hbm, 652, rfl⟩
abbrev main_v607 : Ref sig .tc := ⟨.hbm, 653, rfl⟩
abbrev main_v608 : Ref sig .tc := ⟨.hbm, 654, rfl⟩
abbrev main_v609 : Ref sig .tc := ⟨.hbm, 655, rfl⟩
abbrev main_v610 : Ref sig .tc := ⟨.hbm, 656, rfl⟩
abbrev main_v611 : Ref sig .tc := ⟨.hbm, 657, rfl⟩
abbrev main_v612 : Ref sig .tc := ⟨.hbm, 658, rfl⟩
abbrev main_v613 : Ref sig .tc := ⟨.hbm, 659, rfl⟩
abbrev main_v614 : Ref sig .tc := ⟨.hbm, 660, rfl⟩
abbrev main_v615 : Ref sig .tc := ⟨.hbm, 661, rfl⟩
abbrev main_v616 : Ref sig .tc := ⟨.hbm, 662, rfl⟩
abbrev main_v617 : Ref sig .tc := ⟨.hbm, 663, rfl⟩
abbrev main_v618 : Ref sig .tc := ⟨.hbm, 664, rfl⟩
abbrev main_v619 : Ref sig .tc := ⟨.hbm, 665, rfl⟩
abbrev main_v620 : Ref sig .tc := ⟨.hbm, 666, rfl⟩
abbrev main_v621 : Ref sig .tc := ⟨.hbm, 667, rfl⟩
abbrev main_v622 : Ref sig .tc := ⟨.hbm, 668, rfl⟩
abbrev main_v623 : Ref sig .tc := ⟨.hbm, 669, rfl⟩
abbrev main_v624 : Ref sig .tc := ⟨.hbm, 670, rfl⟩
abbrev main_v625 : Ref sig .tc := ⟨.hbm, 671, rfl⟩
abbrev main_v626 : Ref sig .tc := ⟨.hbm, 672, rfl⟩
abbrev main_v627 : Ref sig .tc := ⟨.hbm, 673, rfl⟩
abbrev main_v628 : Ref sig .tc := ⟨.hbm, 674, rfl⟩
abbrev main_v629 : Ref sig .tc := ⟨.hbm, 675, rfl⟩
abbrev main_v630 : Ref sig .tc := ⟨.hbm, 676, rfl⟩
abbrev main_v631 : Ref sig .tc := ⟨.hbm, 677, rfl⟩
abbrev main_v632 : Ref sig .tc := ⟨.hbm, 678, rfl⟩
abbrev main_v633 : Ref sig .tc := ⟨.hbm, 679, rfl⟩
abbrev main_v634 : Ref sig .tc := ⟨.hbm, 680, rfl⟩
abbrev main_v635 : Ref sig .tc := ⟨.hbm, 681, rfl⟩
abbrev main_v636 : Ref sig .tc := ⟨.hbm, 682, rfl⟩
abbrev main_v637 : Ref sig .tc := ⟨.hbm, 683, rfl⟩
abbrev main_v638 : Ref sig .tc := ⟨.hbm, 684, rfl⟩
abbrev main_v639 : Ref sig .tc := ⟨.hbm, 685, rfl⟩
abbrev main_v640 : Ref sig .tc := ⟨.hbm, 686, rfl⟩
abbrev main_v641 : Ref sig .tc := ⟨.hbm, 687, rfl⟩
abbrev main_v642 : Ref sig .tc := ⟨.hbm, 688, rfl⟩
abbrev main_v643 : Ref sig .tc := ⟨.hbm, 689, rfl⟩
abbrev main_v644 : Ref sig .tc := ⟨.hbm, 690, rfl⟩
abbrev main_v645 : Ref sig .tc := ⟨.hbm, 691, rfl⟩
abbrev main_v646 : Ref sig .tc := ⟨.hbm, 692, rfl⟩
abbrev main_v647 : Ref sig .tc := ⟨.hbm, 693, rfl⟩
abbrev main_v648 : Ref sig .tc := ⟨.hbm, 694, rfl⟩
abbrev main_v649 : Ref sig .tc := ⟨.hbm, 695, rfl⟩
abbrev main_v650 : Ref sig .tc := ⟨.hbm, 696, rfl⟩
abbrev main_v651 : Ref sig .tc := ⟨.hbm, 697, rfl⟩
abbrev main_v652 : Ref sig .tc := ⟨.hbm, 698, rfl⟩
abbrev main_v653 : Ref sig .tc := ⟨.hbm, 699, rfl⟩
abbrev main_v654 : Ref sig .tc := ⟨.hbm, 700, rfl⟩
abbrev main_v655 : Ref sig .tc := ⟨.hbm, 701, rfl⟩
abbrev main_v656 : Ref sig .tc := ⟨.hbm, 702, rfl⟩
abbrev main_v657 : Ref sig .tc := ⟨.hbm, 703, rfl⟩
abbrev main_v658 : Ref sig .tc := ⟨.hbm, 704, rfl⟩
abbrev main_v659 : Ref sig .tc := ⟨.hbm, 705, rfl⟩
abbrev main_v660 : Ref sig .tc := ⟨.hbm, 706, rfl⟩
abbrev main_v661 : Ref sig .tc := ⟨.hbm, 707, rfl⟩
abbrev main_v662 : Ref sig .tc := ⟨.hbm, 708, rfl⟩
abbrev main_v663 : Ref sig .tc := ⟨.hbm, 709, rfl⟩
abbrev main_v664 : Ref sig .tc := ⟨.hbm, 710, rfl⟩
abbrev main_v665 : Ref sig .tc := ⟨.hbm, 711, rfl⟩
abbrev main_v666 : Ref sig .tc := ⟨.hbm, 712, rfl⟩
abbrev main_v667 : Ref sig .tc := ⟨.hbm, 713, rfl⟩
abbrev main_v668 : Ref sig .tc := ⟨.hbm, 714, rfl⟩
abbrev main_v669 : Ref sig .tc := ⟨.hbm, 715, rfl⟩
abbrev main_v670 : Ref sig .tc := ⟨.hbm, 716, rfl⟩
abbrev main_v671 : Ref sig .tc := ⟨.hbm, 717, rfl⟩
abbrev main_v672 : Ref sig .tc := ⟨.hbm, 718, rfl⟩
abbrev main_v673 : Ref sig .tc := ⟨.hbm, 719, rfl⟩
abbrev main_v674 : Ref sig .tc := ⟨.hbm, 720, rfl⟩
abbrev main_v675 : Ref sig .tc := ⟨.hbm, 721, rfl⟩
abbrev main_v676 : Ref sig .tc := ⟨.hbm, 722, rfl⟩
abbrev main_v677 : Ref sig .tc := ⟨.hbm, 723, rfl⟩
abbrev main_v678 : Ref sig .tc := ⟨.hbm, 724, rfl⟩
abbrev main_v679 : Ref sig .tc := ⟨.hbm, 725, rfl⟩
abbrev main_v680 : Ref sig .tc := ⟨.hbm, 726, rfl⟩
abbrev main_v681 : Ref sig .tc := ⟨.hbm, 727, rfl⟩
abbrev main_v682 : Ref sig .tc := ⟨.hbm, 728, rfl⟩
abbrev main_v683 : Ref sig .tc := ⟨.hbm, 729, rfl⟩
abbrev main_v684 : Ref sig .tc := ⟨.hbm, 730, rfl⟩
abbrev main_v685 : Ref sig .tc := ⟨.hbm, 731, rfl⟩
abbrev main_cst_30 : Ref sig .tc := ⟨.hbm, 732, rfl⟩
abbrev main_v686 : Ref sig .tc := ⟨.hbm, 733, rfl⟩
abbrev main_v687 : Ref sig .tc := ⟨.hbm, 734, rfl⟩
abbrev main_cst_31 : Ref sig .tc := ⟨.hbm, 735, rfl⟩
abbrev main_v688 : Ref sig .tc := ⟨.hbm, 736, rfl⟩
abbrev main_v689 : Ref sig .tc := ⟨.hbm, 737, rfl⟩
abbrev main_v690 : Ref sig .tc := ⟨.hbm, 738, rfl⟩
abbrev main_v691 : Ref sig .tc := ⟨.hbm, 739, rfl⟩
abbrev main_v692 : Ref sig .tc := ⟨.hbm, 740, rfl⟩
abbrev main_cst_32 : Ref sig .tc := ⟨.hbm, 741, rfl⟩
abbrev main_v693 : Ref sig .tc := ⟨.hbm, 742, rfl⟩
abbrev main_v694 : Ref sig .tc := ⟨.hbm, 743, rfl⟩
abbrev main_cst_33 : Ref sig .tc := ⟨.hbm, 744, rfl⟩
abbrev main_v695 : Ref sig .tc := ⟨.hbm, 745, rfl⟩
abbrev main_v696 : Ref sig .tc := ⟨.hbm, 746, rfl⟩
abbrev main_v697 : Ref sig .tc := ⟨.hbm, 747, rfl⟩
abbrev main_v698 : Ref sig .tc := ⟨.hbm, 748, rfl⟩
abbrev main_cst_34 : Ref sig .tc := ⟨.hbm, 749, rfl⟩
abbrev main_v699 : Ref sig .tc := ⟨.hbm, 750, rfl⟩
abbrev main_v700 : Ref sig .tc := ⟨.hbm, 751, rfl⟩
abbrev main_v701 : Ref sig .tc := ⟨.hbm, 752, rfl⟩
abbrev main_v702 : Ref sig .tc := ⟨.hbm, 753, rfl⟩
abbrev main_v703 : Ref sig .tc := ⟨.hbm, 754, rfl⟩
abbrev main_v704 : Ref sig .tc := ⟨.hbm, 755, rfl⟩
abbrev main_call4_v0 : Ref sig .tc := ⟨.hbm, 756, rfl⟩
abbrev main_call4_v1 : Ref sig .tc := ⟨.hbm, 757, rfl⟩
abbrev main_call4_cst : Ref sig .tc := ⟨.hbm, 758, rfl⟩
abbrev main_call4_v2 : Ref sig .tc := ⟨.hbm, 759, rfl⟩
abbrev main_call4_v3 : Ref sig .tc := ⟨.hbm, 760, rfl⟩
abbrev main_call4_cst_0 : Ref sig .tc := ⟨.hbm, 761, rfl⟩
abbrev main_call4_v4 : Ref sig .tc := ⟨.hbm, 762, rfl⟩
abbrev main_call4_v5 : Ref sig .tc := ⟨.hbm, 763, rfl⟩
abbrev main_v705 : Ref sig .tc := ⟨.hbm, 764, rfl⟩
abbrev main_v706 : Ref sig .tc := ⟨.hbm, 765, rfl⟩
abbrev main_v707 : Ref sig .tc := ⟨.hbm, 766, rfl⟩
abbrev main_v708 : Ref sig .tc := ⟨.hbm, 767, rfl⟩
abbrev main_v709 : Ref sig .tc := ⟨.hbm, 768, rfl⟩
abbrev main_v710 : Ref sig .tc := ⟨.hbm, 769, rfl⟩
abbrev main_v711 : Ref sig .tc := ⟨.hbm, 770, rfl⟩
abbrev main_v712 : Ref sig .tc := ⟨.hbm, 771, rfl⟩
abbrev main_v713 : Ref sig .tc := ⟨.hbm, 772, rfl⟩

abbrev nD : Nat := 1
abbrev τ : Topo := Topo.v7x

variable {F : FTy → Type} [FloatOps F]
-- ==== Kernel2.lean ====
abbrev S8192x2048 : Shape := ⟨2, ![8192, 2048]⟩
abbrev S2x6x2048 : Shape := ⟨3, ![2, 6, 2048]⟩
abbrev S2048x6144 : Shape := ⟨2, ![2048, 6144]⟩
abbrev S8192x6144 : Shape := ⟨2, ![8192, 6144]⟩
abbrev S512x2048 : Shape := ⟨2, ![512, 2048]⟩
abbrev S1x6x2048 : Shape := ⟨3, ![1, 6, 2048]⟩
abbrev S2048x1024 : Shape := ⟨2, ![2048, 1024]⟩
abbrev S512x1024 : Shape := ⟨2, ![512, 1024]⟩
abbrev S1x1x2048 : Shape := ⟨3, ![1, 1, 2048]⟩
abbrev S1x2048 : Shape := ⟨2, ![1, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S2048x6144, .f32⟩
  | .hbm, ⟨3, _⟩ => ⟨S8192x6144, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .f32⟩
  | .local _ .vmem, ⟨5, _⟩ => ⟨S2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2x6x2048 : Shape := ⟨3, ![2, 6, 2048]⟩
abbrev S2048x6144 : Shape := ⟨2, ![2048, 6144]⟩
abbrev S2x4096x2048 : Shape := ⟨3, ![2, 4096, 2048]⟩
abbrev S2x1x2048 : Shape := ⟨3, ![2, 1, 2048]⟩
abbrev S_ : Shape := ⟨0, ![]⟩
abbrev S2x4096x6144 : Shape := ⟨3, ![2, 4096, 6144]⟩
abbrev S8192x6144 : Shape := ⟨2, ![8192, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S2048x6144, .f32⟩
  | .hbm, ⟨3, _⟩ => ⟨S2x4096x2048, .f32⟩
  | .hbm, ⟨4, _⟩ => ⟨S2x1x2048, .f32⟩
  | .hbm, ⟨5, _⟩ => ⟨S2x1x2048, .f32⟩
  | .hbm, ⟨6, _⟩ => ⟨S_, .f32⟩
  | .hbm, ⟨7, _⟩ => ⟨S2x1x2048, .f32⟩
  | .hbm, ⟨8, _⟩ => ⟨S2x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S2x4096x6144, .f32⟩
  | .hbm, ⟨14, _⟩ => ⟨S8192x6144, .f32⟩
  | .hbm, ⟨15, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel3.lean ====
abbrev S8192x2048 : Shape := ⟨2, ![8192, 2048]⟩
abbrev S2x6x2048 : Shape := ⟨3, ![2, 6, 2048]⟩
abbrev S2048x2048 : Shape := ⟨2, ![2048, 2048]⟩
abbrev S2048 : Shape := ⟨1, ![2048]⟩
abbrev S2048x256 : Shape := ⟨2, ![2048, 256]⟩
abbrev S1x2048 : Shape := ⟨2, ![1, 2048]⟩
abbrev S8192x8x2x128 : Shape := ⟨4, ![8192, 8, 2, 128]⟩
abbrev S8192x256 : Shape := ⟨2, ![8192, 256]⟩
abbrev S256x2048 : Shape := ⟨2, ![256, 2048]⟩
abbrev S1x6x2048 : Shape := ⟨3, ![1, 6, 2048]⟩
abbrev S256x8x2x128 : Shape := ⟨4, ![256, 8, 2, 128]⟩
abbrev S256x256 : Shape := ⟨2, ![256, 256]⟩
abbrev S1x1x2048 : Shape := ⟨3, ![1, 1, 2048]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩
abbrev S256x2x128 : Shape := ⟨3, ![256, 2, 128]⟩
abbrev S256x1x2x128 : Shape := ⟨4, ![256, 1, 2, 128]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x6x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x256, .f32⟩
  | .hbm, ⟨7, _⟩ => ⟨S2048x2048, .bf16⟩
  | .hbm, ⟨8, _⟩ => ⟨S2048x256, .bf16⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x8x2x128, .bf16⟩
  | .hbm, ⟨13, _⟩ => ⟨S8192x256, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S256x2048, .f32⟩
  | .local _ .vmem, ⟨11, _⟩ => ⟨S256x2048, .f32⟩
  | .local _ .vmem, ⟨12, _⟩ => ⟨S256x8x2x128, .bf16⟩
  | .local _ .vmem, ⟨13, _⟩ => ⟨S256x8x2x128, .bf16⟩
  | .local _ .vmem, ⟨14, _⟩ => ⟨S256x256, .f32⟩
  | .local _ .vmem, ⟨15, _⟩ => ⟨S256x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8192x2048 : Shape := ⟨2, ![8192, 2048]⟩
abbrev S2x6x2048 : Shape := ⟨3, ![2, 6, 2048]⟩
abbrev S2048x2048 : Shape := ⟨2, ![2048, 2048]⟩
abbrev S2048 : Shape := ⟨1, ![2048]⟩
abbrev S2048x256 : Shape := ⟨2, ![2048, 256]⟩
abbrev S2x4096x2048 : Shape := ⟨3, ![2, 4096, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x256 : Shape := ⟨2, ![8192, 256]⟩
abbrev S8192x2x8x128 : Shape := ⟨4, ![8192, 2, 8, 128]⟩
abbrev S8192x8x2x128 : Shape := ⟨4, ![8192, 8, 2, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x6x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x256, .f32⟩
  | .hbm, ⟨7, _⟩ => ⟨S2x4096x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S8192x2048, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x1, .f32⟩
  | .hbm, ⟨41, _⟩ => ⟨S2x4096x2048, .f32⟩
  | .hbm, ⟨42, _⟩ => ⟨S2x4096x2048, .f32⟩
  | .hbm, ⟨43, _⟩ => ⟨S1x1x2048, .f32⟩
  | .hbm, ⟨44, _⟩ => ⟨S2x4096x2048, .f32⟩
  | .hbm, ⟨45, _⟩ => ⟨S2x4096x2048, .f32⟩
  | .hbm, ⟨46, _⟩ => ⟨S1x1x2048, .f32⟩
  | .hbm, ⟨47, _⟩ => ⟨S2x4096x2048, .f32⟩
  | .hbm, ⟨48, _⟩ => ⟨S2x4096x2048, .f32⟩
  | .hbm, ⟨49, _⟩ => ⟨S_, .f32⟩
  | .hbm, ⟨50, _⟩ => ⟨S2x1x2048, .f32⟩
  | .hbm, ⟨51, _⟩ => ⟨S2x1x2048, .f32⟩
  | .hbm, ⟨52, _⟩ => ⟨S2x4096x2048, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S8192x2048, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S_, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S8192x256, .f32⟩
  | .hbm, ⟨65, _⟩ => ⟨S8192x256, .f32⟩
  | .hbm, ⟨66, _⟩ => ⟨S8192x2x8x128, .f32⟩
  | .hbm, ⟨67, _⟩ => ⟨S8192x8x2x128, .f32⟩
  | .hbm, ⟨68, _⟩ => ⟨S8192x8x2x128, .bf16⟩
  | .hbm, ⟨69, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel4.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S768 : Shape := ⟨1, ![768]⟩
abbrev S1 : Shape := ⟨1, ![1]⟩
abbrev S98304 : Shape := ⟨1, ![98304]⟩
abbrev S65536x128 : Shape := ⟨2, ![65536, 128]⟩
abbrev S98304x128 : Shape := ⟨2, ![98304, 128]⟩
abbrev S256x2048x256 : Shape := ⟨3, ![256, 2048, 256]⟩
abbrev S256x256x2048 : Shape := ⟨3, ![256, 256, 2048]⟩
abbrev S1572864x128 : Shape := ⟨2, ![1572864, 128]⟩
abbrev S128x128 : Shape := ⟨2, ![128, 128]⟩
abbrev S1x2048x256 : Shape := ⟨3, ![1, 2048, 256]⟩
abbrev S1x256x2048 : Shape := ⟨3, ![1, 256, 2048]⟩
abbrev S2048x128 : Shape := ⟨2, ![2048, 128]⟩
abbrev S2048x256 : Shape := ⟨2, ![2048, 256]⟩
abbrev S256x2048 : Shape := ⟨2, ![256, 2048]⟩
abbrev S1024x128 : Shape := ⟨2, ![1024, 128]⟩
abbrev S8x128 : Shape := ⟨2, ![8, 128]⟩
abbrev S128x2048 : Shape := ⟨2, ![128, 2048]⟩
abbrev S128x256 : Shape := ⟨2, ![128, 256]⟩

abbrev nBuf : Space → Nat
  | .hbm => 6
  | .vmem => 15
  | .smem => 3
  | _ => 0

abbrev bufTy : (tb : Table) → Fin (tcTables nBuf tb) → BufTy
  | .hbm, ⟨0, _⟩ => ⟨S65536x128, .i32⟩
  | .hbm, ⟨1, _⟩ => ⟨S98304x128, .f32⟩
  | .hbm, ⟨2, _⟩ => ⟨S256x2048x256, .f32⟩
  | .hbm, ⟨3, _⟩ => ⟨S256x2048x256, .f32⟩
  | .hbm, ⟨4, _⟩ => ⟨S256x256x2048, .f32⟩
  | .hbm, ⟨5, _⟩ => ⟨S1572864x128, .f32⟩
  | .local _ .vmem, ⟨0, _⟩ => ⟨S65536x128, .i32⟩
  | .local _ .vmem, ⟨1, _⟩ => ⟨S128x128, .f32⟩
  | .local _ .vmem, ⟨2, _⟩ => ⟨S128x128, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S2048x128, .f32⟩
  | .local _ .vmem, ⟨10, _⟩ => ⟨S2048x128, .f32⟩
  | .local _ .vmem, ⟨11, _⟩ => ⟨S2048x256, .bf16⟩
  | .local _ .vmem, ⟨12, _⟩ => ⟨S2048x256, .bf16⟩
  | .local _ .vmem, ⟨13, _⟩ => ⟨S256x2048, .bf16⟩
  | .local _ .vmem, ⟨14, _⟩ => ⟨S1024x128, .i32⟩
  | .local _ .smem, ⟨0, _⟩ => ⟨S768, .i32⟩
  | .local _ .smem, ⟨1, _⟩ => ⟨S1, .i32⟩
  | .local _ .smem, ⟨2, _⟩ => ⟨S98304, .i32⟩
  | _, _ => ⟨S65536x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![768], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
@[reducible] def k0_t1_loop : Scf.Loop 32 :=
  let c0_i32_5 : BitVec 32 := 0#32
  let c128_i32_6 : BitVec 32 := 128#32
  let v20 : BitVec 32 := Scalar.addi c0_i32_5 c128_i32_6
  let c1_i32_7 : BitVec 32 := 1#32
  ⟨c0_i32_5, v20, c1_i32_7⟩
def k0_off3 (i : grid0.Coords) (k0_t1 : Fin k0_t1_loop.trips) : Fin 1 → Nat :=
  let arg0 : BitVec 32 := BitVec.ofNat 32 (i 0).val
  let c128_i32 : BitVec 32 := 128#32
  let v19 : BitVec 32 := Scalar.muli arg0 c128_i32
  let c0_i32_5 : BitVec 32 := 0#32
  let c1_i32_7 : BitVec 32 := 1#32
  let arg14 : BitVec 32 := Scf.iv c0_i32_5 c1_i32_7 k0_t1
  let v145 : BitVec 32 := Scalar.addi v19 arg14
  let v146 : Index := Scalar.indexCast v145
  ![v146.toNat]
def k0_mult1 (v147 : BitVec 32) : BitVec 32 :=
  let c8_i32 : BitVec 32 := 8#32
  let v148 : BitVec 32 := Scalar.muli v147 c8_i32
  v148
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_off4 (v147 : BitVec 32) : Fin 2 → Nat :=
  let c8_i32 : BitVec 32 := 8#32
  let v148 : BitVec 32 := Scalar.muli v147 c8_i32
  let v149 : BitVec 32 := v148
  let v150 : Index := Scalar.indexCast v149
  let c0_69 : Index := 0#32
  ![v150.toNat, 0]

def k0_chk1 (i : grid0.Coords) (v11 : BitVec 32) (v147 : BitVec 32) : Prop :=
  (∀ (k0_h2 : k0_cond2 i v11 = 1#1), 8 ∣ (k0_mult1 v147).toNat) ∧
  (∀ (k0_h2 : k0_cond2 i v11 = 1#1), ∀ a, (k0_off4 v147) a + S8x128.size a ≤ S65536x128.size a)
theorem k0_mult1_dvd : ∀ (i : grid0.Coords) (v11 : BitVec 32) (v147 : BitVec 32) (k0_hw1 : k0_chk1 i v11 v147), ∀ (k0_h2 : k0_cond2 i v11 = 1#1), 8 ∣ (k0_mult1 v147).toNat := fun i v11 v147 k0_hw1 k0_h2 => k0_hw1.1 k0_h2
theorem k0_off4_inb : ∀ (i : grid0.Coords) (v11 : BitVec 32) (v147 : BitVec 32) (k0_hw1 : k0_chk1 i v11 v147), ∀ (k0_h2 : k0_cond2 i v11 = 1#1), ∀ a, (k0_off4 v147) a + S8x128.size a ≤ S65536x128.size a := fun i v11 v147 k0_hw1 k0_h2 => k0_hw1.2 k0_h2

def k0_mult2 (k0_t1 : Fin k0_t1_loop.trips) : BitVec 32 :=
  let c0_i32_5 : BitVec 32 := 0#32
  let c1_i32_7 : BitVec 32 := 1#32
  let arg14 : BitVec 32 := Scf.iv c0_i32_5 c1_i32_7 k0_t1
  let c8_i32_70 : BitVec 32 := 8#32
  let v152 : BitVec 32 := Scalar.muli arg14 c8_i32_70
  v152
def k0_off5 (k0_t1 : Fin k0_t1_loop.trips) : Fin 2 → Nat :=
  let c0_i32_5 : BitVec 32 := 0#32
  let c1_i32_7 : BitVec 32 := 1#32
  let arg14 : BitVec 32 := Scf.iv c0_i32_5 c1_i32_7 k0_t1
  let c8_i32_70 : BitVec 32 := 8#32
  let v152 : BitVec 32 := Scalar.muli arg14 c8_i32_70
  let v153 : BitVec 32 := v152
  let v154 : Index := Scalar.indexCast v153
  let c0_71 : Index := 0#32
  ![v154.toNat, 0]
def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S65536x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S768 : Shape := ⟨1, ![768]⟩
abbrev S1 : Shape := ⟨1, ![1]⟩
abbrev S98304 : Shape := ⟨1, ![98304]⟩
abbrev S65536x128 : Shape := ⟨2, ![65536, 128]⟩
abbrev S98304x128 : Shape := ⟨2, ![98304, 128]⟩
abbrev S256x2048x256 : Shape := ⟨3, ![256, 2048, 256]⟩
abbrev S256x256x2048 : Shape := ⟨3, ![256, 256, 2048]⟩
abbrev S8192x1024 : Shape := ⟨2, ![8192, 1024]⟩
abbrev S_ : Shape := ⟨0, ![]⟩
abbrev S8192x2048 : Shape := ⟨2, ![8192, 2048]⟩
abbrev S98304x1 : Shape := ⟨2, ![98304, 1]⟩
abbrev S98304x2048 : Shape := ⟨2, ![98304, 2048]⟩
abbrev S768x128x2048 : Shape := ⟨3, ![768, 128, 2048]⟩
abbrev S768x128 : Shape := ⟨2, ![768, 128]⟩
abbrev S768x1 : Shape := ⟨2, ![768, 1]⟩
abbrev S768x2048x256 : Shape := ⟨3, ![768, 2048, 256]⟩
abbrev S768x256x2048 : Shape := ⟨3, ![768, 256, 2048]⟩
abbrev S768x128x256 : Shape := ⟨3, ![768, 128, 256]⟩
abbrev S768x128x1 : Shape := ⟨3, ![768, 128, 1]⟩
abbrev S768x1x1 : Shape := ⟨3, ![768, 1, 1]⟩
abbrev S1572864x128 : Shape := ⟨2, ![1572864, 128]⟩

abbrev nBuf : Space → Nat
  | .hbm => 84
  | .vmem => 0
  | .smem => 0
  | _ => 0

abbrev bufTy : (tb : Table) → Fin (tcTables nBuf tb) → BufTy
  | .hbm, ⟨0, _⟩ => ⟨S768, .i32⟩
  | .hbm, ⟨1, _⟩ => ⟨S1, .i32⟩
  | .hbm, ⟨2, _⟩ => ⟨S98304, .i32⟩
  | .hbm, ⟨3, _⟩ => ⟨S65536x128, .i32⟩
  | .hbm, ⟨4, _⟩ => ⟨S98304x128, .f32⟩
  | .hbm, ⟨5, _⟩ => ⟨S256x2048x256, .f32⟩
  | .hbm, ⟨6, _⟩ => ⟨S256x2048x256, .f32⟩
  | .hbm, ⟨7, _⟩ => ⟨S256x256x2048, .f32⟩
  | .hbm, ⟨8, _⟩ => ⟨S8192x1024, .i32⟩
  | .hbm, ⟨9, _⟩ => ⟨S_, .i32⟩
  | .hbm, ⟨10, _⟩ => ⟨S8192x1024, .i32⟩
  | .hbm, ⟨11, _⟩ => ⟨S8192x1024, .i32⟩
  | .hbm, ⟨12, _⟩ => ⟨S8192x1024, .f32⟩
  | .hbm, ⟨13, _⟩ => ⟨S_, .i32⟩
  | .hbm, ⟨14, _⟩ => ⟨S8192x1024, .i32⟩
  | .hbm, ⟨15, _⟩ => ⟨S8192x1024, .i32⟩
  | .hbm, ⟨16, _⟩ => ⟨S8192x1024, .f32⟩
  | .hbm, ⟨17, _⟩ => ⟨S8192x2048, .f32⟩
  | .hbm, ⟨18, _⟩ => ⟨S_, .i32⟩
  | .hbm, ⟨19, _⟩ => ⟨S98304, .i32⟩
  | .hbm, ⟨20, _⟩ => ⟨S98304, .i1⟩
  | .hbm, ⟨21, _⟩ => ⟨S_, .i32⟩
  | .hbm, ⟨22, _⟩ => ⟨S98304, .i32⟩
  | .hbm, ⟨23, _⟩ => ⟨S98304, .i32⟩
  | .hbm, ⟨24, _⟩ => ⟨S98304, .i32⟩
  | .hbm, ⟨25, _⟩ => ⟨S98304x1, .i32⟩
  | .hbm, ⟨26, _⟩ => ⟨S98304x2048, .f32⟩
  | .hbm, ⟨27, _⟩ => ⟨S768x128x2048, .f32⟩
  | .hbm, ⟨28, _⟩ => ⟨S98304x1, .f32⟩
  | .hbm, ⟨29, _⟩ => ⟨S98304, .f32⟩
  | .hbm, ⟨30, _⟩ => ⟨S768x128, .f32⟩
  | .hbm, ⟨31, _⟩ => ⟨S_, .i32⟩
  | .hbm, ⟨32, _⟩ => ⟨S768, .i32⟩
  | .hbm, ⟨33, _⟩ => ⟨S768, .i1⟩
  | .hbm, ⟨34, _⟩ => ⟨S_, .i32⟩
  | .hbm, ⟨35, _⟩ => ⟨S768, .i32⟩
  | .hbm, ⟨36, _⟩ => ⟨S768, .i32⟩
  | .hbm, ⟨37, _⟩ => ⟨S768, .i32⟩
  | .hbm, ⟨38, _⟩ => ⟨S768x1, .i32⟩
  | .hbm, ⟨39, _⟩ => ⟨S768x2048x256, .f32⟩
  | .hbm, ⟨40, _⟩ => ⟨S_, .i32⟩
  | .hbm, ⟨41, _⟩ => ⟨S768, .i32⟩
  | .hbm, ⟨42, _⟩ => ⟨S768, .i1⟩
  | .hbm, ⟨43, _⟩ => ⟨S_, .i32⟩
  | .hbm, ⟨44, _⟩ => ⟨S768, .i32⟩
  | .hbm, ⟨45, _⟩ => ⟨S768, .i32⟩
  | .hbm, ⟨46, _⟩ => ⟨S768, .i32⟩
  | .hbm, ⟨47, _⟩ => ⟨S768x1, .i32⟩
  | .hbm, ⟨48, _⟩ => ⟨S768x2048x256, .f32⟩
  | .hbm, ⟨49, _⟩ => ⟨S_, .i32⟩
  | .hbm, ⟨50, _⟩ => ⟨S768, .i32⟩
  | .hbm, ⟨51, _⟩ => ⟨S768, .i1⟩
  | .hbm, ⟨52, _⟩ => ⟨S_, .i32⟩
  | .hbm, ⟨53, _⟩ => ⟨S768, .i32⟩
  | .hbm, ⟨54, _⟩ => ⟨S768, .i32⟩
  | .hbm, ⟨55, _⟩ => ⟨S768, .i32⟩
  | .hbm, ⟨56, _⟩ => ⟨S768x1, .i32⟩
  | .hbm, ⟨57, _⟩ => ⟨S768x256x2048, .f32⟩
  | .hbm, ⟨58, _⟩ => ⟨S768x128x256, .f32⟩
  | .hbm, ⟨59, _⟩ => ⟨S768x128x256, .f32⟩
  | .hbm, ⟨60, _⟩ => ⟨S768x128x256, .f32⟩
  | .hbm, ⟨61, _⟩ => ⟨S_, .f32⟩
  | .hbm, ⟨62, _⟩ => ⟨S768x128x256, .f32⟩
  | .hbm, ⟨63, _⟩ => ⟨S768x128x256, .f32⟩
  | .hbm, ⟨64, _⟩ => ⟨S_, .f32⟩
  | .hbm, ⟨65, _⟩ => ⟨S768x128x256, .f32⟩
  | .hbm, ⟨66, _⟩ => ⟨S768x128x256, .f32⟩
  | .hbm, ⟨67, _⟩ => ⟨S768x128x256, .f32⟩
  | .hbm, ⟨68, _⟩ => ⟨S768x128x256, .f32⟩
  | .hbm, ⟨69, _⟩ => ⟨S768x128x256, .f32⟩
  | .hbm, ⟨70, _⟩ => ⟨S768x128x2048, .f32⟩
  | .hbm, ⟨71, _⟩ => ⟨S768x128x1, .f32⟩
  | .hbm, ⟨72, _⟩ => ⟨S768x128x2048, .f32⟩
  | .hbm, ⟨73, _⟩ => ⟨S768x128x2048, .f32⟩
  | .hbm, ⟨74, _⟩ => ⟨S768, .i32⟩
  | .hbm, ⟨75, _⟩ => ⟨S768, .i32⟩
  | .hbm, ⟨76, _⟩ => ⟨S768, .i1⟩
  | .hbm, ⟨77, _⟩ => ⟨S768x1x1, .i1⟩
  | .hbm, ⟨78, _⟩ => ⟨S_, .f32⟩
  | .hbm, ⟨79, _⟩ => ⟨S_, .f32⟩
  | .hbm, ⟨80, _⟩ => ⟨S768x128x2048, .i1⟩
  | .hbm, ⟨81, _⟩ => ⟨S768x128x2048, .f32⟩
  | .hbm, ⟨82, _⟩ => ⟨S768x128x2048, .f32⟩
  | .hbm, ⟨83, _⟩ => ⟨S1572864x128, .f32⟩
  | _, _ => ⟨S768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== Proof.Gath.lean ====
module

public import Idealize.ShloMosaic.Lib.ValueIdxCore
public import Idealize.ShloMosaic.Lib.Pointwise

@[expose] public section

noncomputable section

/-! A gather of whole columns: entry `(h, r, c)` of the result is row `h` of the operand at the column the index array
    names at `(r, c)`. -/

namespace Cert.Mix

open Idealize Idealize.ShloMosaic

/-- The dimension numbers of that gather. -/
abbrev colsDims (H N R C : ℕ)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The gather read at an entry. -/
theorem gather_cols {α : Type} {H N R C w : ℕ} (hN : 0 < N) (wf) (x : (⟨2, ![H, N]⟩ : Shape).Idx → α)
    (idx : IVec ⟨3, ![R, C, 1]⟩ w) (h : Fin H) (r : Fin R) (c : Fin C) :
    Host.gather (colsDims H N R C wf) x idx (ix3 h r c)
      = x (ix2 h ⟨min (idx (ix3 r c (0 : Fin 1))).toInt.toNat (N - 1), by omega⟩) := by
  unfold Host.gather
  congr 1
  funext a
  refine Fin.ext ?_
  show (colsDims H N R C wf).start (ix3 h r c) idx a + (colsDims H N R C wf).batchCoord (ix3 h r c) a
      + (colsDims H N R C wf).offCoord (ix3 h r c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (by decide : ¬ (0 : Fin 2) ∈ ([1] : List (Fin 2)))]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims H N R C wf).startIndexMap from List.mem_singleton.mpr rfl)]
    have hsi : (colsDims H N R C wf).siIdx (ix3 h r c) ⟨List.idxOf (1 : Fin 2) (colsDims H N R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

end Cert.Mix

end
-- ==== Proof.Sums.lean ====
module

public import Idealize.ShloMosaic.PureOps.Ideal.Laws
public import Idealize.ShloMosaic.Lib.Pointwise

@[expose] public section

noncomputable section

/-! The arithmetic of the two head groups, over the reals: a decayed running sum in closed form, the decayed sum of
    one row cut at a block's edge, and a window of a sum. -/

namespace Cert.Mix

open Finset

/-- A state that is scaled by `γ ^ L` and takes a block of `L` terms at each step holds the decayed sum of all
    terms before the block. -/
theorem state_closed (γ : ℝ) (L C : ℕ) (u S : ℕ → ℝ) (h0 : S 0 = 0)
    (hs : ∀ c < C, S (c + 1) = γ ^ L * S c + ∑ n ∈ range L, γ ^ (L - 1 - n) * u (c * L + n)) :
    ∀ c ≤ C, S c = ∑ t ∈ range (c * L), γ ^ (c * L - 1 - t) * u t := by
  intro c
  induction c with
  | zero => intro _; simp [h0]
  | succ c ih =>
    intro hc
    rw [hs c (by omega), ih (by omega), Nat.succ_mul, Finset.sum_range_add, Finset.mul_sum]
    congr 1
    · refine Finset.sum_congr rfl fun t ht => ?_
      have ht := Finset.mem_range.1 ht
      rw [← mul_assoc, ← pow_add]
      congr 2; omega
    · refine Finset.sum_congr rfl fun n hn => ?_
      have hn := Finset.mem_range.1 hn
      congr 2; omega

/-- The retention weight of key `t` for query `s` under decay `γ`: by distance in the query's own chunk of 64,
    decaying in the chunks before it, nothing after it. -/
def retw (γ : ℝ) (s t : ℕ) : ℝ :=
  if t / 64 = s / 64 then γ ^ ((s - t) + (t - s)) else if t / 64 < s / 64 then γ ^ (s - t) else 0

/-- One row's weighted sum, cut at the edge of its block of `L = 64 * l` keys: the keys before the block by the
    state's decayed sum, the block's own keys by their weights, none after it. -/
theorem retw_split (γ : ℝ) (l c n N : ℕ) (f : ℕ → ℝ) (hn : n < 64 * l) (hN : c * (64 * l) + 64 * l ≤ N) :
    ∑ t ∈ range N, retw γ (c * (64 * l) + n) t * f t
      = γ ^ (n + 1) * (∑ t ∈ range (c * (64 * l)), γ ^ (c * (64 * l) - 1 - t) * f t)
        + ∑ m ∈ range (64 * l), retw γ (c * (64 * l) + n) (c * (64 * l) + m) * f (c * (64 * l) + m) := by
  obtain ⟨d, rfl⟩ := Nat.exists_eq_add_of_le hN
  rw [Finset.sum_range_add, Finset.sum_range_add, Finset.sum_eq_zero (s := range d), add_zero, Finset.mul_sum]
  · congr 1
    refine Finset.sum_congr rfl fun t ht => ?_
    have ht := Finset.mem_range.1 ht
    have e : c * (64 * l) = 64 * (c * l) := by ring
    have h1 : t / 64 < (c * (64 * l) + n) / 64 := by
      have : t / 64 < c * l := by rw [Nat.div_lt_iff_lt_mul (by norm_num)]; omega
      have : c * l ≤ (c * (64 * l) + n) / 64 := by rw [Nat.le_div_iff_mul_le (by norm_num)]; omega
      omega
    have e2 : c * (64 * l) + n - t = (n + 1) + (c * (64 * l) - 1 - t) := by omega
    rw [retw, if_neg (by omega), if_pos h1, e2, pow_add, mul_assoc]
  · intro t _
    have e : c * (64 * l) + 64 * l = 64 * (c * l + l) := by ring
    have h1 : (c * (64 * l) + n) / 64 < (c * (64 * l) + 64 * l + t) / 64 := by
      have : (c * (64 * l) + n) / 64 < c * l + l := by rw [Nat.div_lt_iff_lt_mul (by norm_num)]; omega
      have : c * l + l ≤ (c * (64 * l) + 64 * l + t) / 64 := by rw [Nat.le_div_iff_mul_le (by norm_num)]; omega
      omega
    rw [retw, if_neg (by omega), if_neg (by omega), zero_mul]

/-- A sum whose terms vanish outside a window is the sum over the window. -/
theorem sum_window (F : ℕ → ℝ) (a n N : ℕ) (h : a + n ≤ N)
    (hz : ∀ u < N, u < a ∨ a + n ≤ u → F u = 0) : ∑ j ∈ range n, F (a + j) = ∑ u ∈ range N, F u := by
  obtain ⟨d, rfl⟩ := Nat.exists_eq_add_of_le h
  rw [Finset.sum_range_add, Finset.sum_range_add, Finset.sum_eq_zero (s := range a), Finset.sum_eq_zero (s := range d),
    zero_add, add_zero]
  · intro t ht
    have ht := Finset.mem_range.1 ht
    exact hz _ (by omega) (Or.inr (by omega))
  · intro t ht
    have ht := Finset.mem_range.1 ht
    exact hz _ (by omega) (Or.inl ht)

end Cert.Mix

end
-- ==== Proof.Softmax.lean ====
module

public import proofs.«01_k».proof.Proof.Sums

@[expose] public section

noncomputable section

/-! The attention's weights, over the extended reals: a score of `-∞` weighs nothing, and the division by the sum of
    the weights takes the shift by the largest score away. -/

namespace Cert.Mix

open Finset Idealize Idealize.ShloMosaic

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score, a real number: zero for `-∞`. -/
def wt (s : EReal) : ℝ := (Ideal.exp s).toReal

theorem wt_bot : wt ⊥ = 0 := by simp [wt]
theorem wt_coe (r : ℝ) : wt (r : EReal) = Real.exp r := by simp [wt]
theorem wt_nonneg (s : EReal) : 0 ≤ wt s := by
  induction s with
  | bot => rw [wt_bot]
  | top => simp [wt]
  | coe r => rw [wt_coe]; exact (Real.exp_pos r).le
theorem wt_pos (s : EReal) (h1 : s ≠ ⊤) (h2 : s ≠ ⊥) : 0 < wt s := by
  lift s to ℝ using ⟨h1, h2⟩
  rw [wt_coe]; exact Real.exp_pos s

/-- The weight of a score less a real shift. -/
theorem exp_shift (s : EReal) (hs : s ≠ ⊤) (μ : ℝ) :
    Ideal.exp (s - (μ : EReal)) = ((wt s * Real.exp (-μ) : ℝ) : EReal) := by
  induction s with
  | bot => rw [wt_bot, EReal.bot_sub]; simp
  | top => exact absurd rfl hs
  | coe r => rw [wt_coe, ← Real.exp_add, ← EReal.coe_sub, Ideal.exp_coe, sub_eq_add_neg]

/-- The reciprocal of a real other than zero. -/
theorem div_real (x y : ℝ) (hy : y ≠ 0) : Ideal.div (x : EReal) (y : EReal) = ((x / y : ℝ) : EReal) :=
  by rw [Ideal.div_coe hy, ← EReal.coe_mul, mul_one_div]

/-- One row of attention over three groups of keys, the sum divided once. -/
theorem attn3 {ι : Type*} [Fintype ι] (s0 s1 s2 v0 v1 v2 : ι → EReal) (m : EReal)
    (h0 : ∀ j, s0 j ≠ ⊤) (h1 : ∀ j, s1 j ≠ ⊤) (h2 : ∀ j, s2 j ≠ ⊤) (j0 : ι) (hj : s2 j0 ≠ ⊥)
    (x0 x1 x2 : ι → ℝ) (hv0 : ∀ j, v0 j = x0 j) (hv1 : ∀ j, v1 j = x1 j) (hv2 : ∀ j, v2 j = x2 j)
    (hm1 : m ≠ ⊤) (hm2 : m ≠ ⊥) :
    (((∑ j, Ideal.exp (s0 j - m) * v0 j) + ∑ j, Ideal.exp (s1 j - m) * v1 j) + ∑ j, Ideal.exp (s2 j - m) * v2 j)
        * Ideal.div 1 (((∑ j, Ideal.exp (s0 j - m)) + ∑ j, Ideal.exp (s1 j - m)) + ∑ j, Ideal.exp (s2 j - m))
      = (((((∑ j, wt (s0 j) * x0 j) + ∑ j, wt (s1 j) * x1 j) + ∑ j, wt (s2 j) * x2 j)
          / (((∑ j, wt (s0 j)) + ∑ j, wt (s1 j)) + ∑ j, wt (s2 j)) : ℝ) : EReal) := by
  lift m to ℝ using ⟨hm1, hm2⟩
  have e0 : ∀ j, Ideal.exp (s0 j - m) = ((wt (s0 j) * Real.exp (-m) : ℝ) : EReal) := fun j => exp_shift _ (h0 j) m
  have e1 : ∀ j, Ideal.exp (s1 j - m) = ((wt (s1 j) * Real.exp (-m) : ℝ) : EReal) := fun j => exp_shift _ (h1 j) m
  have e2 : ∀ j, Ideal.exp (s2 j - m) = ((wt (s2 j) * Real.exp (-m) : ℝ) : EReal) := fun j => exp_shift _ (h2 j) m
  have hpos : 0 < ∑ j, wt (s2 j) :=
    Finset.sum_pos' (fun j _ => wt_nonneg _) ⟨j0, Finset.mem_univ _, wt_pos _ (h2 j0) hj⟩
  have n0 : 0 ≤ ∑ j, wt (s0 j) := Finset.sum_nonneg fun j _ => wt_nonneg _
  have n1 : 0 ≤ ∑ j, wt (s1 j) := Finset.sum_nonneg fun j _ => wt_nonneg _
  have ep := Real.exp_pos (-m)
  simp only [e0, e1, e2, hv0, hv1, hv2, ← EReal.coe_mul, ← coe_sum, ← EReal.coe_add]
  rw [← EReal.coe_one, div_real _ _ ?_, ← EReal.coe_mul]
  · congr 1
    simp only [mul_right_comm _ (Real.exp (-m)), ← Finset.sum_mul, ← add_mul]
    field_simp
  · rw [← Finset.sum_mul, ← Finset.sum_mul, ← Finset.sum_mul, ← add_mul, ← add_mul]
    positivity

/-- One row of attention over one group of keys, each weight divided. -/
theorem attn1 {ι : Type*} [Fintype ι] (s v : ι → EReal) (m : EReal) (h0 : ∀ j, s j ≠ ⊤) (j0 : ι) (hj : s j0 ≠ ⊥)
    (x : ι → ℝ) (hv : ∀ j, v j = x j) (hm1 : m ≠ ⊤) (hm2 : m ≠ ⊥) :
    (∑ j, Ideal.div (Ideal.exp (s j - m)) (∑ j, Ideal.exp (s j - m)) * v j)
      = (((∑ j, wt (s j) * x j) / ∑ j, wt (s j) : ℝ) : EReal) := by
  lift m to ℝ using ⟨hm1, hm2⟩
  have e0 : ∀ j, Ideal.exp (s j - m) = ((wt (s j) * Real.exp (-m) : ℝ) : EReal) := fun j => exp_shift _ (h0 j) m
  have hpos : 0 < ∑ j, wt (s j) :=
    Finset.sum_pos' (fun j _ => wt_nonneg _) ⟨j0, Finset.mem_univ _, wt_pos _ (h0 j0) hj⟩
  have ep := Real.exp_pos (-m)
  have hne : ∑ j, wt (s j) * Real.exp (-m) ≠ 0 := by rw [← Finset.sum_mul]; positivity
  simp only [e0, hv, ← coe_sum]
  simp only [div_real _ _ hne, ← EReal.coe_mul, ← coe_sum]
  congr 1
  rw [← Finset.sum_mul, Finset.sum_div]
  refine Finset.sum_congr rfl fun j _ => ?_
  field_simp

/-- The largest of finitely many scores, none `+∞`, taken from a start that is not `+∞`. -/
theorem fold_max_ne_top {ι : Type*} [Fintype ι] (f : ι → EReal) (b : EReal) (hb : b ≠ ⊤) (h : ∀ j, f j ≠ ⊤) :
    (Finset.univ : Finset ι).fold max b f ≠ ⊤ := by
  classical
  have : ∀ s : Finset ι, s.fold max b f ≠ ⊤ := by
    intro s
    induction s using Finset.induction_on with
    | empty => simpa using hb
    | insert a s ha ih =>
      rw [Finset.fold_insert ha]
      rcases max_choice (f a) (s.fold max b f) with e | e <;> rw [e]
      · exact h a
      · exact ih
  exact this _

theorem fold_max_ne_bot {ι : Type*} [Fintype ι] (f : ι → EReal) (b : EReal) (j : ι) (h : f j ≠ ⊥) :
    (Finset.univ : Finset ι).fold max b f ≠ ⊥ := by
  have : f j ≤ (Finset.univ : Finset ι).fold max b f := (Finset.le_fold_max _).2 (Or.inr ⟨j, Finset.mem_univ j, le_rfl⟩)
  intro e
  rw [e, le_bot_iff] at this
  exact h this

end Cert.Mix

end
-- ==== Proof.AttSpec.lean ====
module

public import proofs.«01_k».proof.Proof.Softmax

@[expose] public section

noncomputable section

/-! Band attention, stated once: the score of a query and a key, the scores a query's window holds, and the weighted
    values, over the rows of the joint projection and the table of distances. -/

namespace Cert.Mix

open Finset Idealize Idealize.ShloMosaic

/-- The entry of the joint projection at a row and a column given as numbers. -/
def xa (X : (⟨2, ![8192, 6144]⟩ : Shape).Idx → EReal) (r c : ℕ) : EReal := X (ix2 (Fin.ofNat 8192 r) (Fin.ofNat 6144 c))

/-- The entry of the distance table of head `h` at a distance given by its place in the table. -/
def rb (R : (⟨3, ![1, 8, 320]⟩ : Shape).Idx → EReal) (h n : ℕ) : EReal := R (ix3 0 (Fin.ofNat 8 h) (Fin.ofNat 320 n))

variable (X : (⟨2, ![8192, 6144]⟩ : Shape).Idx → EReal) (R : (⟨3, ![1, 8, 320]⟩ : Shape).Idx → EReal)

/-- The score of the query at position `p` and the key at position `t`, for batch entry `b` and head `h`. -/
def sc (b h p t : ℕ) : EReal :=
  (∑ d : Fin 128, xa X (b * 4096 + p) (128 * h + d.val) * xa X (b * 4096 + t) (1024 + 128 * h + d.val))
    * Ideal.ofBits .f32 1035273459#32 + rb R h (min (p + 63 - t) 319)

/-- The score at place `u` of the query's window of 576 keys, which starts 512 keys before the query's chunk; none
    before the first key. -/
def rs (b h p u : ℕ) : EReal :=
  if 512 ≤ p / 64 * 64 + u then sc X R b h p (p / 64 * 64 + u - 512) else ⊥

/-- The weighted values of the query's window. -/
def att (b h p d : ℕ) : EReal :=
  ∑ u ∈ range 576, ((wt (rs X R b h p u) / ∑ u ∈ range 576, wt (rs X R b h p u) : ℝ) : EReal)
    * xa X (b * 4096 + (p / 64 * 64 + u - 512)) (2048 + 128 * h + d)

/-- The scores are finite when the projection's query and key columns and the table are. -/
theorem sc_finite (hX : ∀ r c, c < 2048 → xa X r c ≠ ⊤ ∧ xa X r c ≠ ⊥) (hR : ∀ h n, rb R h n ≠ ⊤ ∧ rb R h n ≠ ⊥)
    (b h p t : ℕ) (hh : h < 8) : sc X R b h p t ≠ ⊤ ∧ sc X R b h p t ≠ ⊥ := by
  have e : ∃ y : ℝ, sc X R b h p t = y := by
    have hq : ∀ d : Fin 128, ∃ y : ℝ, xa X (b * 4096 + p) (128 * h + d.val) * xa X (b * 4096 + t) (1024 + 128 * h + d.val) = y := by
      intro d
      have h1 := hX (b * 4096 + p) (128 * h + d.val) (by omega)
      have h2 := hX (b * 4096 + t) (1024 + 128 * h + d.val) (by omega)
      exact ⟨(xa X (b * 4096 + p) (128 * h + d.val)).toReal * (xa X (b * 4096 + t) (1024 + 128 * h + d.val)).toReal, by
        rw [EReal.coe_mul, EReal.coe_toReal h1.1 h1.2, EReal.coe_toReal h2.1 h2.2]⟩
    choose y hy using hq
    have hr := hR h (min (p + 63 - t) 319)
    have hs : ∃ z : ℝ, Ideal.ofBits .f32 1035273459#32 = z := by
      refine ⟨(Ideal.ofBits .f32 1035273459#32).toReal, (EReal.coe_toReal ?_ ?_).symm⟩ <;>
      · simp [Ideal.ofBits, Ideal.ieee, -EReal.coe_mul]
    obtain ⟨z, hz⟩ := hs
    refine ⟨(∑ d, y d) * z + (rb R h (min (p + 63 - t) 319)).toReal, ?_⟩
    rw [sc, EReal.coe_add, EReal.coe_mul, coe_sum, EReal.coe_toReal hr.1 hr.2, hz]
    simp only [hy]
  obtain ⟨y, hy⟩ := e
  rw [hy]
  exact ⟨EReal.coe_ne_top y, EReal.coe_ne_bot y⟩

/-- A finite sum times a real that is not negative. -/
theorem sum_mul_real {ι : Type*} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- One row of attention over one group of keys, each weight divided, whatever the values are. -/
theorem attn_one {ι : Type*} [Fintype ι] (s v : ι → EReal) (m : EReal) (h0 : ∀ j, s j ≠ ⊤) (j0 : ι) (hj : s j0 ≠ ⊥)
    (hm1 : m ≠ ⊤) (hm2 : m ≠ ⊥) :
    (∑ j, v j * Ideal.div (Ideal.exp (s j - m)) (∑ j, Ideal.exp (s j - m)))
      = ∑ j, ((wt (s j) / ∑ j, wt (s j) : ℝ) : EReal) * v j := by
  lift m to ℝ using ⟨hm1, hm2⟩
  have e0 : ∀ j, Ideal.exp (s j - m) = ((wt (s j) * Real.exp (-m) : ℝ) : EReal) := fun j => exp_shift _ (h0 j) m
  have hpos : 0 < ∑ j, wt (s j) :=
    Finset.sum_pos' (fun j _ => wt_nonneg _) ⟨j0, Finset.mem_univ _, wt_pos _ (h0 j0) hj⟩
  have ep := Real.exp_pos (-m)
  have hne : ∑ j, wt (s j) * Real.exp (-m) ≠ 0 := by rw [← Finset.sum_mul]; positivity
  simp only [e0, ← coe_sum]
  refine Finset.sum_congr rfl fun j _ => ?_
  rw [div_real _ _ hne, mul_comm, ← Finset.sum_mul]
  congr 2
  field_simp

/-- One row of attention over three groups of keys, the sum divided once, whatever the values are. -/
theorem attn_three {ι : Type*} [Fintype ι] (s0 s1 s2 v0 v1 v2 : ι → EReal) (m : EReal)
    (h0 : ∀ j, s0 j ≠ ⊤) (h1 : ∀ j, s1 j ≠ ⊤) (h2 : ∀ j, s2 j ≠ ⊤) (j0 : ι) (hj : s2 j0 ≠ ⊥)
    (hm1 : m ≠ ⊤) (hm2 : m ≠ ⊥) (W : ℝ) (hW : W = ((∑ j, wt (s0 j)) + ∑ j, wt (s1 j)) + ∑ j, wt (s2 j)) :
    (((∑ j, Ideal.exp (s0 j - m) * v0 j) + ∑ j, Ideal.exp (s1 j - m) * v1 j) + ∑ j, Ideal.exp (s2 j - m) * v2 j)
        * Ideal.div 1 (((∑ j, Ideal.exp (s0 j - m)) + ∑ j, Ideal.exp (s1 j - m)) + ∑ j, Ideal.exp (s2 j - m))
      = ((∑ j, ((wt (s0 j) / W : ℝ) : EReal) * v0 j) + ∑ j, ((wt (s1 j) / W : ℝ) : EReal) * v1 j)
          + ∑ j, ((wt (s2 j) / W : ℝ) : EReal) * v2 j := by
  lift m to ℝ using ⟨hm1, hm2⟩
  have e0 : ∀ j, Ideal.exp (s0 j - m) = ((wt (s0 j) * Real.exp (-m) : ℝ) : EReal) := fun j => exp_shift _ (h0 j) m
  have e1 : ∀ j, Ideal.exp (s1 j - m) = ((wt (s1 j) * Real.exp (-m) : ℝ) : EReal) := fun j => exp_shift _ (h1 j) m
  have e2 : ∀ j, Ideal.exp (s2 j - m) = ((wt (s2 j) * Real.exp (-m) : ℝ) : EReal) := fun j => exp_shift _ (h2 j) m
  have hpos : 0 < ∑ j, wt (s2 j) :=
    Finset.sum_pos' (fun j _ => wt_nonneg _) ⟨j0, Finset.mem_univ _, wt_pos _ (h2 j0) hj⟩
  have n0 : 0 ≤ ∑ j, wt (s0 j) := Finset.sum_nonneg fun j _ => wt_nonneg _
  have n1 : 0 ≤ ∑ j, wt (s1 j) := Finset.sum_nonneg fun j _ => wt_nonneg _
  have ep := Real.exp_pos (-m)
  have hWp : 0 < W := by rw [hW]; positivity
  have hs : ((∑ j, wt (s0 j) * Real.exp (-m)) + ∑ j, wt (s1 j) * Real.exp (-m)) + ∑ j, wt (s2 j) * Real.exp (-m)
      = W * Real.exp (-m) := by rw [hW, ← Finset.sum_mul, ← Finset.sum_mul, ← Finset.sum_mul, ← add_mul, ← add_mul]
  simp only [e0, e1, e2, ← coe_sum, ← EReal.coe_add]
  rw [hs, ← EReal.coe_one, div_real _ _ (by positivity)]
  have hc : 0 ≤ 1 / (W * Real.exp (-m)) := by positivity
  rw [EReal.right_distrib_of_nonneg_of_ne_top (EReal.coe_nonneg.2 hc) (EReal.coe_ne_top _),
    EReal.right_distrib_of_nonneg_of_ne_top (EReal.coe_nonneg.2 hc) (EReal.coe_ne_top _), sum_mul_real _ _ _ hc,
    sum_mul_real _ _ _ hc, sum_mul_real _ _ _ hc]
  have key : ∀ w : ℝ, ∀ v : EReal, ((w * Real.exp (-m) : ℝ) : EReal) * v * ((1 / (W * Real.exp (-m)) : ℝ) : EReal)
      = ((w / W : ℝ) : EReal) * v := by
    intro w v
    rw [mul_right_comm, ← EReal.coe_mul]
    congr 2
    field_simp
  simp only [key]

/-- A sum whose terms vanish outside a window is the sum over the window, whatever is summed. -/
theorem sum_window' {M : Type*} [AddCommMonoid M] (F : ℕ → M) (a n N : ℕ) (h : a + n ≤ N)
    (hz : ∀ u < N, u < a ∨ a + n ≤ u → F u = 0) : ∑ j ∈ range n, F (a + j) = ∑ u ∈ range N, F u := by
  obtain ⟨d, rfl⟩ := Nat.exists_eq_add_of_le h
  rw [Finset.sum_range_add, Finset.sum_range_add, Finset.sum_eq_zero (s := range a), Finset.sum_eq_zero (s := range d),
    zero_add, add_zero]
  · intro t ht
    have ht := Finset.mem_range.1 ht
    exact hz _ (by omega) (Or.inr (by omega))
  · intro t ht
    have ht := Finset.mem_range.1 ht
    exact hz _ (by omega) (Or.inl ht)

/-- Three blocks of 256 terms are 768 terms. -/
theorem sum_three {M : Type*} [AddCommMonoid M] (F : ℕ → M) :
    ((∑ x : Fin 256, F x.val) + ∑ x : Fin 256, F (256 + x.val)) + ∑ x : Fin 256, F (512 + x.val) = ∑ u ∈ range 768, F u := by
  rw [show (768 : ℕ) = 256 + 256 + 256 from rfl, Finset.sum_range_add, Finset.sum_range_add, Finset.sum_range,
    Finset.sum_range, Finset.sum_range]

/-- Eight heads of 128 columns are 1024 columns. -/
theorem sum_heads {M : Type*} [AddCommMonoid M] (F : ℕ → M) (n : ℕ) :
    ∑ h ∈ range n, ∑ x : Fin 128, F (128 * h + x.val) = ∑ k ∈ range (128 * n), F k := by
  induction n with
  | zero => simp
  | succ n ih =>
    rw [Finset.sum_range_succ, ih, Nat.mul_succ, Finset.sum_range_add, Finset.sum_range (fun x => F (128 * n + x))]

/-- The mean square of a position's 1024 attention values. -/
def ms (b p : ℕ) : EReal :=
  (∑ k ∈ range 1024, att X R b (k / 128) p (k % 128) * att X R b (k / 128) p (k % 128)) * ((1 / 1024 : ℝ) : EReal)

/-- The attention's output at a position and a column. -/
def outF (G : (⟨2, ![1, 1024]⟩ : Shape).Idx → EReal) (b p k : ℕ) : EReal :=
  att X R b (k / 128) p (k % 128) * Ideal.rsqrt (ms X R b p + Ideal.ofBits .f32 925353388#32) * G (ix2 0 (Fin.ofNat 1024 k))

end Cert.Mix

end
-- ==== Proof.AttRefA.lean ====
module

public import proofs.«01_k».proof.Proof.Gath
public import proofs.«01_k».proof.Proof.AttSpec
public import proofs.«01_k».proof.Proof.Gen.ReferenceIdeal.Read

@[expose] public section

set_option maxRecDepth 16384

noncomputable section

/-! The reference's queries, and its keys and values cut into bands, entry by entry. -/

namespace Cert.Mix

open Cert.ReferenceIdeal Cert.ReferenceIdeal.Gen Cert.ReferenceIdeal.Read Idealize.ShloMosaic Idealize.ShloMosaic.TcCoe Idealize.SL.Sem

variable (x0 : FVec Ideal S8192x6144 .bf16)

theorem r37 (b : Fin 2) (c i : Fin 64) (h : Fin 8) (d : Fin 128) :
    (val_main_v37 (F := Ideal) x0 (ix5 b c i h d) : EReal) = xa x0 (b.val * 4096 + (c.val * 64 + i.val)) (128 * h.val + d.val) := by
  rw [val_main_v37_apply, val_main_v9_apply, val_main_v2_apply, val_main_v1_apply, val_main_v0_apply]
  refine congrArg x0 ?_
  have hb := b.isLt
  have hc := c.isLt
  have hi := i.isLt
  have hh := h.isLt
  have hd := d.isLt
  funext a
  apply Fin.ext
  fin_cases a <;> dsimp [idx_main_v37, idx_main_v9, idx_main_v2, idx_main_v1, ix2, ix3, ix4, ix5] <;> omega

theorem r10 (b : Fin 2) (s : Fin 4096) (h : Fin 8) (d : Fin 128) :
    (val_main_v10 (F := Ideal) x0 (ix4 b s h d) : EReal) = xa x0 (b.val * 4096 + s.val) (1024 + 128 * h.val + d.val) := by
  rw [val_main_v10_apply, val_main_v3_apply, val_main_v1_apply, val_main_v0_apply]
  refine congrArg x0 ?_
  have hb := b.isLt
  have hs := s.isLt
  have hh := h.isLt
  have hd := d.isLt
  funext a
  apply Fin.ext
  fin_cases a <;> dsimp [idx_main_v10, idx_main_v3, idx_main_v1, ix2, ix3, ix4] <;> omega

theorem r13 (b : Fin 2) (s : Fin 4608) (h : Fin 8) (d : Fin 128) (hs : 512 ≤ s.val) :
    (val_main_v13 (F := Ideal) x0 (ix4 b s h d) : EReal) = xa x0 (b.val * 4096 + (s.val - 512)) (1024 + 128 * h.val + d.val) := by
  have e : val_main_v13 (F := Ideal) x0 (ix4 b s h d) = val_main_v10 (F := Ideal) x0 (ix4 b ⟨s.val - 512, by omega⟩ h d) := by
    unfold val_main_v13
    pointwise
    rw [dif_pos ⟨hs, by omega⟩]
  rw [e]
  exact r10 x0 b _ h d

theorem r14 (b : Fin 2) (c : Fin 72) (i : Fin 64) (h : Fin 8) (d : Fin 128) (hs : 512 ≤ c.val * 64 + i.val) :
    (val_main_v14 (F := Ideal) x0 (ix5 b c i h d) : EReal) = xa x0 (b.val * 4096 + (c.val * 64 + i.val - 512)) (1024 + 128 * h.val + d.val) := by
  rw [val_main_v14_apply]
  have e : idx_main_v14 (ix5 b c i h d) = ix4 b ⟨c.val * 64 + i.val, by omega⟩ h d := by
    have hb := b.isLt
    have hc := c.isLt
    have hi := i.isLt
    have hh := h.isLt
    have hd := d.isLt
    funext a
    apply Fin.ext
    fin_cases a <;> dsimp [idx_main_v14, ix4, ix5] <;> omega
  rw [e]
  exact r13 x0 b ⟨c.val * 64 + i.val, by omega⟩ h d hs

theorem r17 (b : Fin 2) (c i : Fin 64) (h : Fin 8) (d : Fin 128) :
    val_main_v17 (F := Ideal) x0 (ix5 b c i h d) = val_main_v14 (F := Ideal) x0 (ix5 b ⟨c.val + 0, by omega⟩ i h d) := by
  rw [val_main_v17_apply]
  refine congrArg (val_main_v14 (F := Ideal) x0) ?_
  funext a
  apply Fin.ext
  fin_cases a <;> dsimp [idx_main_v17, ix5] <;> omega

theorem r18 (b : Fin 2) (c i : Fin 64) (h : Fin 8) (d : Fin 128) :
    val_main_v18 (F := Ideal) x0 (ix5 b c i h d) = val_main_v14 (F := Ideal) x0 (ix5 b ⟨c.val + 1, by omega⟩ i h d) := by
  rw [val_main_v18_apply]
  refine congrArg (val_main_v14 (F := Ideal) x0) ?_
  funext a
  apply Fin.ext
  fin_cases a <;> dsimp [idx_main_v18, ix5] <;> omega

theorem r19 (b : Fin 2) (c i : Fin 64) (h : Fin 8) (d : Fin 128) :
    val_main_v19 (F := Ideal) x0 (ix5 b c i h d) = val_main_v14 (F := Ideal) x0 (ix5 b ⟨c.val + 2, by omega⟩ i h d) := by
  rw [val_main_v19_apply]
  refine congrArg (val_main_v14 (F := Ideal) x0) ?_
  funext a
  apply Fin.ext
  fin_cases a <;> dsimp [idx_main_v19, ix5] <;> omega

theorem r20 (b : Fin 2) (c i : Fin 64) (h : Fin 8) (d : Fin 128) :
    val_main_v20 (F := Ideal) x0 (ix5 b c i h d) = val_main_v14 (F := Ideal) x0 (ix5 b ⟨c.val + 3, by omega⟩ i h d) := by
  rw [val_main_v20_apply]
  refine congrArg (val_main_v14 (F := Ideal) x0) ?_
  funext a
  apply Fin.ext
  fin_cases a <;> dsimp [idx_main_v20, ix5] <;> omega

theorem r21 (b : Fin 2) (c i : Fin 64) (h : Fin 8) (d : Fin 128) :
    val_main_v21 (F := Ideal) x0 (ix5 b c i h d) = val_main_v14 (F := Ideal) x0 (ix5 b ⟨c.val + 4, by omega⟩ i h d) := by
  rw [val_main_v21_apply]
  refine congrArg (val_main_v14 (F := Ideal) x0) ?_
  funext a
  apply Fin.ext
  fin_cases a <;> dsimp [idx_main_v21, ix5] <;> omega

theorem r22 (b : Fin 2) (c i : Fin 64) (h : Fin 8) (d : Fin 128) :
    val_main_v22 (F := Ideal) x0 (ix5 b c i h d) = val_main_v14 (F := Ideal) x0 (ix5 b ⟨c.val + 5, by omega⟩ i h d) := by
  rw [val_main_v22_apply]
  refine congrArg (val_main_v14 (F := Ideal) x0) ?_
  funext a
  apply Fin.ext
  fin_cases a <;> dsimp [idx_main_v22, ix5] <;> omega

theorem r23 (b : Fin 2) (c i : Fin 64) (h : Fin 8) (d : Fin 128) :
    val_main_v23 (F := Ideal) x0 (ix5 b c i h d) = val_main_v14 (F := Ideal) x0 (ix5 b ⟨c.val + 6, by omega⟩ i h d) := by
  rw [val_main_v23_apply]
  refine congrArg (val_main_v14 (F := Ideal) x0) ?_
  funext a
  apply Fin.ext
  fin_cases a <;> dsimp [idx_main_v23, ix5] <;> omega

theorem r24 (b : Fin 2) (c i : Fin 64) (h : Fin 8) (d : Fin 128) :
    val_main_v24 (F := Ideal) x0 (ix5 b c i h d) = val_main_v14 (F := Ideal) x0 (ix5 b ⟨c.val + 7, by omega⟩ i h d) := by
  rw [val_main_v24_apply]
  refine congrArg (val_main_v14 (F := Ideal) x0) ?_
  funext a
  apply Fin.ext
  fin_cases a <;> dsimp [idx_main_v24, ix5] <;> omega

theorem r25 (b : Fin 2) (c i : Fin 64) (h : Fin 8) (d : Fin 128) :
    val_main_v25 (F := Ideal) x0 (ix5 b c i h d) = val_main_v14 (F := Ideal) x0 (ix5 b ⟨c.val + 8, by omega⟩ i h d) := by
  rw [val_main_v25_apply]
  refine congrArg (val_main_v14 (F := Ideal) x0) ?_
  funext a
  apply Fin.ext
  fin_cases a <;> dsimp [idx_main_v25, ix5] <;> omega

theorem r26 (b : Fin 2) (c : Fin 64) (u : Fin 576) (h : Fin 8) (d : Fin 128) (hs : 512 ≤ c.val * 64 + u.val) :
    (val_main_v26 (F := Ideal) x0 (ix5 b c u h d) : EReal) = xa x0 (b.val * 4096 + (c.val * 64 + u.val - 512)) (1024 + 128 * h.val + d.val) := by
  have key : ∀ (w : ℕ) (hw : w < 9) (k : ℕ) (hk : k < 64), u.val = 64 * w + k →
      (val_main_v14 (F := Ideal) x0 (ix5 b ⟨c.val + w, by omega⟩ ⟨k, hk⟩ h d) : EReal)
        = xa x0 (b.val * 4096 + (c.val * 64 + u.val - 512)) (1024 + 128 * h.val + d.val) := by
    intro w hw k hk hu
    have e : (c.val + w) * 64 + k = c.val * 64 + u.val := by omega
    rw [r14 x0 b ⟨c.val + w, by omega⟩ ⟨k, hk⟩ h d (by show 512 ≤ (c.val + w) * 64 + k; omega)]
    show xa x0 (b.val * 4096 + ((c.val + w) * 64 + k - 512)) _ = _
    rw [e]
  have hu := u.isLt
  unfold val_main_v26
  pointwise
  by_cases h0 : u.val < 64
  · rw [dif_pos h0, r17]; exact key 0 (by norm_num) _ _ (by omega)
  rw [dif_neg h0]
  by_cases h1 : u.val - 64 < 64
  · rw [dif_pos h1, r18]; exact key 1 (by norm_num) _ _ (by omega)
  rw [dif_neg h1]
  by_cases h2 : u.val - 64 - 64 < 64
  · rw [dif_pos h2, r19]; exact key 2 (by norm_num) _ _ (by omega)
  rw [dif_neg h2]
  by_cases h3 : u.val - 64 - 64 - 64 < 64
  · rw [dif_pos h3, r20]; exact key 3 (by norm_num) _ _ (by omega)
  rw [dif_neg h3]
  by_cases h4 : u.val - 64 - 64 - 64 - 64 < 64
  · rw [dif_pos h4, r21]; exact key 4 (by norm_num) _ _ (by omega)
  rw [dif_neg h4]
  by_cases h5 : u.val - 64 - 64 - 64 - 64 - 64 < 64
  · rw [dif_pos h5, r22]; exact key 5 (by norm_num) _ _ (by omega)
  rw [dif_neg h5]
  by_cases h6 : u.val - 64 - 64 - 64 - 64 - 64 - 64 < 64
  · rw [dif_pos h6, r23]; exact key 6 (by norm_num) _ _ (by omega)
  rw [dif_neg h6]
  by_cases h7 : u.val - 64 - 64 - 64 - 64 - 64 - 64 - 64 < 64
  · rw [dif_pos h7, r24]; exact key 7 (by norm_num) _ _ (by omega)
  rw [dif_neg h7]
  rw [r25]; exact key 8 (by norm_num) _ _ (by omega)

theorem r11 (b : Fin 2) (s : Fin 4096) (h : Fin 8) (d : Fin 128) :
    (val_main_v11 (F := Ideal) x0 (ix4 b s h d) : EReal) = xa x0 (b.val * 4096 + s.val) (2048 + 128 * h.val + d.val) := by
  rw [val_main_v11_apply, val_main_v4_apply, val_main_v1_apply, val_main_v0_apply]
  refine congrArg x0 ?_
  have hb := b.isLt
  have hs := s.isLt
  have hh := h.isLt
  have hd := d.isLt
  funext a
  apply Fin.ext
  fin_cases a <;> dsimp [idx_main_v11, idx_main_v4, idx_main_v1, ix2, ix3, ix4] <;> omega

theorem r15 (b : Fin 2) (s : Fin 4608) (h : Fin 8) (d : Fin 128) (hs : 512 ≤ s.val) :
    (val_main_v15 (F := Ideal) x0 (ix4 b s h d) : EReal) = xa x0 (b.val * 4096 + (s.val - 512)) (2048 + 128 * h.val + d.val) := by
  have e : val_main_v15 (F := Ideal) x0 (ix4 b s h d) = val_main_v11 (F := Ideal) x0 (ix4 b ⟨s.val - 512, by omega⟩ h d) := by
    unfold val_main_v15
    pointwise
    rw [dif_pos ⟨hs, by omega⟩]
  rw [e]
  exact r11 x0 b _ h d

theorem r16 (b : Fin 2) (c : Fin 72) (i : Fin 64) (h : Fin 8) (d : Fin 128) (hs : 512 ≤ c.val * 64 + i.val) :
    (val_main_v16 (F := Ideal) x0 (ix5 b c i h d) : EReal) = xa x0 (b.val * 4096 + (c.val * 64 + i.val - 512)) (2048 + 128 * h.val + d.val) := by
  rw [val_main_v16_apply]
  have e : idx_main_v16 (ix5 b c i h d) = ix4 b ⟨c.val * 64 + i.val, by omega⟩ h d := by
    have hb := b.isLt
    have hc := c.isLt
    have hi := i.isLt
    have hh := h.isLt
    have hd := d.isLt
    funext a
    apply Fin.ext
    fin_cases a <;> dsimp [idx_main_v16, ix4, ix5] <;> omega
  rw [e]
  exact r15 x0 b ⟨c.val * 64 + i.val, by omega⟩ h d hs

theorem r27 (b : Fin 2) (c i : Fin 64) (h : Fin 8) (d : Fin 128) :
    val_main_v27 (F := Ideal) x0 (ix5 b c i h d) = val_main_v16 (F := Ideal) x0 (ix5 b ⟨c.val + 0, by omega⟩ i h d) := by
  rw [val_main_v27_apply]
  refine congrArg (val_main_v16 (F := Ideal) x0) ?_
  funext a
  apply Fin.ext
  fin_cases a <;> dsimp [idx_main_v27, ix5] <;> omega

theorem r28 (b : Fin 2) (c i : Fin 64) (h : Fin 8) (d : Fin 128) :
    val_main_v28 (F := Ideal) x0 (ix5 b c i h d) = val_main_v16 (F := Ideal) x0 (ix5 b ⟨c.val + 1, by omega⟩ i h d) := by
  rw [val_main_v28_apply]
  refine congrArg (val_main_v16 (F := Ideal) x0) ?_
  funext a
  apply Fin.ext
  fin_cases a <;> dsimp [idx_main_v28, ix5] <;> omega

theorem r29 (b : Fin 2) (c i : Fin 64) (h : Fin 8) (d : Fin 128) :
    val_main_v29 (F := Ideal) x0 (ix5 b c i h d) = val_main_v16 (F := Ideal) x0 (ix5 b ⟨c.val + 2, by omega⟩ i h d) := by
  rw [val_main_v29_apply]
  refine congrArg (val_main_v16 (F := Ideal) x0) ?_
  funext a
  apply Fin.ext
  fin_cases a <;> dsimp [idx_main_v29, ix5] <;> omega

theorem r30 (b : Fin 2) (c i : Fin 64) (h : Fin 8) (d : Fin 128) :
    val_main_v30 (F := Ideal) x0 (ix5 b c i h d) = val_main_v16 (F := Ideal) x0 (ix5 b ⟨c.val + 3, by omega⟩ i h d) := by
  rw [val_main_v30_apply]
  refine congrArg (val_main_v16 (F := Ideal) x0) ?_
  funext a
  apply Fin.ext
  fin_cases a <;> dsimp [idx_main_v30, ix5] <;> omega

theorem r31 (b : Fin 2) (c i : Fin 64) (h : Fin 8) (d : Fin 128) :
    val_main_v31 (F := Ideal) x0 (ix5 b c i h d) = val_main_v16 (F := Ideal) x0 (ix5 b ⟨c.val + 4, by omega⟩ i h d) := by
  rw [val_main_v31_apply]
  refine congrArg (val_main_v16 (F := Ideal) x0) ?_
  funext a
  apply Fin.ext
  fin_cases a <;> dsimp [idx_main_v31, ix5] <;> omega

theorem r32 (b : Fin 2) (c i : Fin 64) (h : Fin 8) (d : Fin 128) :
    val_main_v32 (F := Ideal) x0 (ix5 b c i h d) = val_main_v16 (F := Ideal) x0 (ix5 b ⟨c.val + 5, by omega⟩ i h d) := by
  rw [val_main_v32_apply]
  refine congrArg (val_main_v16 (F := Ideal) x0) ?_
  funext a
  apply Fin.ext
  fin_cases a <;> dsimp [idx_main_v32, ix5] <;> omega

theorem r33 (b : Fin 2) (c i : Fin 64) (h : Fin 8) (d : Fin 128) :
    val_main_v33 (F := Ideal) x0 (ix5 b c i h d) = val_main_v16 (F := Ideal) x0 (ix5 b ⟨c.val + 6, by omega⟩ i h d) := by
  rw [val_main_v33_apply]
  refine congrArg (val_main_v16 (F := Ideal) x0) ?_
  funext a
  apply Fin.ext
  fin_cases a <;> dsimp [idx_main_v33, ix5] <;> omega

theorem r34 (b : Fin 2) (c i : Fin 64) (h : Fin 8) (d : Fin 128) :
    val_main_v34 (F := Ideal) x0 (ix5 b c i h d) = val_main_v16 (F := Ideal) x0 (ix5 b ⟨c.val + 7, by omega⟩ i h d) := by
  rw [val_main_v34_apply]
  refine congrArg (val_main_v16 (F := Ideal) x0) ?_
  funext a
  apply Fin.ext
  fin_cases a <;> dsimp [idx_main_v34, ix5] <;> omega

theorem r35 (b : Fin 2) (c i : Fin 64) (h : Fin 8) (d : Fin 128) :
    val_main_v35 (F := Ideal) x0 (ix5 b c i h d) = val_main_v16 (F := Ideal) x0 (ix5 b ⟨c.val + 8, by omega⟩ i h d) := by
  rw [val_main_v35_apply]
  refine congrArg (val_main_v16 (F := Ideal) x0) ?_
  funext a
  apply Fin.ext
  fin_cases a <;> dsimp [idx_main_v35, ix5] <;> omega

theorem r36 (b : Fin 2) (c : Fin 64) (u : Fin 576) (h : Fin 8) (d : Fin 128) (hs : 512 ≤ c.val * 64 + u.val) :
    (val_main_v36 (F := Ideal) x0 (ix5 b c u h d) : EReal) = xa x0 (b.val * 4096 + (c.val * 64 + u.val - 512)) (2048 + 128 * h.val + d.val) := by
  have key : ∀ (w : ℕ) (hw : w < 9) (k : ℕ) (hk : k < 64), u.val = 64 * w + k →
      (val_main_v16 (F := Ideal) x0 (ix5 b ⟨c.val + w, by omega⟩ ⟨k, hk⟩ h d) : EReal)
        = xa x0 (b.val * 4096 + (c.val * 64 + u.val - 512)) (2048 + 128 * h.val + d.val) := by
    intro w hw k hk hu
    have e : (c.val + w) * 64 + k = c.val * 64 + u.val := by omega
    rw [r16 x0 b ⟨c.val + w, by omega⟩ ⟨k, hk⟩ h d (by show 512 ≤ (c.val + w) * 64 + k; omega)]
    show xa x0 (b.val * 4096 + ((c.val + w) * 64 + k - 512)) _ = _
    rw [e]
  have hu := u.isLt
  unfold val_main_v36
  pointwise
  by_cases h0 : u.val < 64
  · rw [dif_pos h0, r27]; exact key 0 (by norm_num) _ _ (by omega)
  rw [dif_neg h0]
  by_cases h1 : u.val - 64 < 64
  · rw [dif_pos h1, r28]; exact key 1 (by norm_num) _ _ (by omega)
  rw [dif_neg h1]
  by_cases h2 : u.val - 64 - 64 < 64
  · rw [dif_pos h2, r29]; exact key 2 (by norm_num) _ _ (by omega)
  rw [dif_neg h2]
  by_cases h3 : u.val - 64 - 64 - 64 < 64
  · rw [dif_pos h3, r30]; exact key 3 (by norm_num) _ _ (by omega)
  rw [dif_neg h3]
  by_cases h4 : u.val - 64 - 64 - 64 - 64 < 64
  · rw [dif_pos h4, r31]; exact key 4 (by norm_num) _ _ (by omega)
  rw [dif_neg h4]
  by_cases h5 : u.val - 64 - 64 - 64 - 64 - 64 < 64
  · rw [dif_pos h5, r32]; exact key 5 (by norm_num) _ _ (by omega)
  rw [dif_neg h5]
  by_cases h6 : u.val - 64 - 64 - 64 - 64 - 64 - 64 < 64
  · rw [dif_pos h6, r33]; exact key 6 (by norm_num) _ _ (by omega)
  rw [dif_neg h6]
  by_cases h7 : u.val - 64 - 64 - 64 - 64 - 64 - 64 - 64 < 64
  · rw [dif_pos h7, r34]; exact key 7 (by norm_num) _ _ (by omega)
  rw [dif_neg h7]
  rw [r35]; exact key 8 (by norm_num) _ _ (by omega)

end Cert.Mix

end
-- ==== Proof.Words.lean ====
module

public import Idealize.ShloMosaic.PureOps.Ideal.Laws
public import Idealize.ShloMosaic.Lib.WordCmp

@[expose] public section

noncomputable section

/-! Words of 32 bits that hold small integers: sums, differences, clips and comparisons of them, and the place in the
    table of distances that a clipped distance names. -/

namespace Cert.Mix

open Idealize Idealize.ShloMosaic

theorem ti_ofNat (n : ℕ) (h : n < 2147483648) : (BitVec.ofNat 32 n).toInt = n := by
  rw [BitVec.toInt_eq_toNat_cond, BitVec.toNat_ofNat]
  split <;> omega

theorem ti_add (x y : BitVec 32) (h1 : -2147483648 ≤ x.toInt + y.toInt) (h2 : x.toInt + y.toInt < 2147483648) :
    (IntOp.addi x y).toInt = x.toInt + y.toInt := by
  rw [IntOp.addi, BitVec.toInt_add]
  rw [Int.bmod_eq_of_le] <;> omega

theorem ti_sub (x y : BitVec 32) (h1 : -2147483648 ≤ x.toInt - y.toInt) (h2 : x.toInt - y.toInt < 2147483648) :
    (IntOp.subi x y).toInt = x.toInt - y.toInt := by
  rw [IntOp.subi, BitVec.toInt_sub]
  rw [Int.bmod_eq_of_le] <;> omega

theorem ti_mul (x y : BitVec 32) (h1 : -2147483648 ≤ x.toInt * y.toInt) (h2 : x.toInt * y.toInt < 2147483648) :
    (IntOp.muli x y).toInt = x.toInt * y.toInt := by
  rw [IntOp.muli, BitVec.toInt_mul]
  rw [Int.bmod_eq_of_le] <;> omega

theorem ti_max (x y : BitVec 32) : (IntOp.maxsi x y).toInt = max x.toInt y.toInt := by
  unfold IntOp.maxsi BitVec.slt
  by_cases h : y.toInt < x.toInt
  · simp only [h, decide_true, if_true]; omega
  · simp only [h, decide_false]; simp only [Bool.false_eq_true, if_false]; omega

theorem ti_min (x y : BitVec 32) : (IntOp.minsi x y).toInt = min x.toInt y.toInt := by
  unfold IntOp.minsi BitVec.slt
  by_cases h : x.toInt < y.toInt
  · simp only [h, decide_true, if_true]; omega
  · simp only [h, decide_false]; simp only [Bool.false_eq_true, if_false]; omega

theorem bit_of (p : Prop) [Decidable p] : BitVec.ofBool (decide p) = if p then 1#1 else 0#1 := by
  by_cases h : p <;> simp [h]

theorem w_sge (x y : BitVec 32) : IntOp.cmpi .sge x y = if y.toInt ≤ x.toInt then 1#1 else 0#1 := by
  exact bit_of _

theorem w_sle (x y : BitVec 32) : IntOp.cmpi .sle x y = if x.toInt ≤ y.toInt then 1#1 else 0#1 := by
  exact bit_of _

theorem w_slt (x y : BitVec 32) : IntOp.cmpi .slt x y = if x.toInt < y.toInt then 1#1 else 0#1 := by
  exact bit_of _

theorem sel_zero {α : Type} (a b : α) : Scalar.select 0#1 a b = b := rfl
theorem sel_one {α : Type} (a b : α) : Scalar.select 1#1 a b = a := rfl

/-- The distance `a − b`, clipped to the table and moved to its first entry, as the place it names. -/
theorem clip_word (x : BitVec 32) (a b : ℕ) (ha : a < 65536) (hb : b < 65536) (hx : x.toInt = (a : ℤ) - (b : ℤ)) :
    (Scalar.select (IntOp.cmpi .slt (IntOp.addi (IntOp.minsi 256#32 (IntOp.maxsi 4294967233#32 x)) 63#32) 0#32)
      (IntOp.addi (IntOp.addi (IntOp.minsi 256#32 (IntOp.maxsi 4294967233#32 x)) 63#32) 320#32)
      (IntOp.addi (IntOp.minsi 256#32 (IntOp.maxsi 4294967233#32 x)) 63#32)).toInt.toNat = min (a + 63 - b) 319 := by
  have c1 : (256#32 : BitVec 32).toInt = 256 := by decide
  have c2 : (4294967233#32 : BitVec 32).toInt = -63 := by decide
  have c3 : (63#32 : BitVec 32).toInt = 63 := by decide
  have c4 : (0#32 : BitVec 32).toInt = 0 := by decide
  have e : (IntOp.addi (IntOp.minsi 256#32 (IntOp.maxsi 4294967233#32 x)) 63#32).toInt
      = min 256 (max (-63) ((a : ℤ) - b)) + 63 := by
    rw [ti_add] <;> rw [ti_min, ti_max, c1, c2, c3, hx] <;> omega
  rw [w_slt, e, c4, if_neg (by omega), sel_zero, e]
  omega

/-- The floor of a small number over 64, as the words compute it. -/
theorem floor_word (n : ℕ) (hn : n < 1024) :
    Scalar.select (IntOp.andi (IntOp.cmpi .ne (if BitVec.ofNat 32 n = 0 then (0 : BitVec 32) else if (BitVec.ofNat 32 n).msb = true then -1 else 1)
        (if (64#32 : BitVec 32) = 0 then (0 : BitVec 32) else if BitVec.msb (64#32) = true then -1 else 1))
      (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32)
      = BitVec.ofNat 32 (n / 64) :=
  (by decide +kernel : ∀ n : Fin 1024,
    Scalar.select (IntOp.andi (IntOp.cmpi .ne (if BitVec.ofNat 32 n.val = 0 then (0 : BitVec 32) else if (BitVec.ofNat 32 n.val).msb = true then -1 else 1)
        (if (64#32 : BitVec 32) = 0 then (0 : BitVec 32) else if BitVec.msb (64#32) = true then -1 else 1))
      (IntOp.cmpi .ne (IntOp.remsi .host (BitVec.ofNat 32 n.val) 64#32) 0#32))
      (IntOp.subi (IntOp.divsi .host (BitVec.ofNat 32 n.val) 64#32) 1#32) (IntOp.divsi .host (BitVec.ofNat 32 n.val) 64#32)
      = BitVec.ofNat 32 (n.val / 64)) ⟨n, hn⟩

/-- The band of a query's chunk and the eight before it, as the words test it. -/
theorem band_word (a b : ℕ) (ha : a < 1024) (hb : b < 1024) :
    IntOp.andi (IntOp.cmpi .sle (BitVec.ofNat 32 b) (IntOp.addi (BitVec.ofNat 32 a) 8#32))
      (IntOp.cmpi .sge (BitVec.ofNat 32 b) (IntOp.subi (IntOp.addi (BitVec.ofNat 32 a) 8#32) 8#32))
      = if b ≤ a + 8 ∧ a ≤ b then 1#1 else 0#1 := by
  have c : (8#32 : BitVec 32).toInt = 8 := by decide
  have e1 : (IntOp.addi (BitVec.ofNat 32 a) 8#32).toInt = a + 8 := by
    rw [ti_add] <;> rw [ti_ofNat a (by omega), c] <;> omega
  have e2 : (IntOp.subi (IntOp.addi (BitVec.ofNat 32 a) 8#32) 8#32).toInt = a := by
    rw [ti_sub] <;> rw [e1, c] <;> omega
  rw [w_sle, w_sge, e1, e2, ti_ofNat b (by omega)]
  by_cases h1 : b ≤ a + 8 <;> by_cases h2 : a ≤ b
  · rw [if_pos (by omega), if_pos (by omega), if_pos ⟨h1, h2⟩]; decide
  · rw [if_pos (by omega), if_neg (by omega), if_neg (by tauto)]; decide
  · rw [if_neg (by omega), if_pos (by omega), if_neg (by tauto)]; decide
  · rw [if_neg (by omega), if_neg (by omega), if_neg (by tauto)]; decide

/-- A choice by the band. -/
theorem band_sel {α : Type} (FS FR : BitVec 32) (b a : ℕ) (hS : FS = BitVec.ofNat 32 b) (hR : FR = BitVec.ofNat 32 a) (hb : b < 1024)
    (ha : a < 1024) (v w : α) :
    Scalar.select (IntOp.andi (IntOp.cmpi .sle FS (IntOp.addi FR 8#32)) (IntOp.cmpi .sge FS (IntOp.subi (IntOp.addi FR 8#32) 8#32))) v w
      = if b ≤ a + 8 ∧ a ≤ b then v else w := by
  subst hS hR
  rw [band_word a b ha hb]
  by_cases h : b ≤ a + 8 ∧ a ≤ b
  · rw [if_pos h, if_pos h]; rfl
  · rw [if_neg h, if_neg h]; rfl

end Cert.Mix

end
-- ==== Proof.AttRefB.lean ====
module

public import proofs.«01_k».proof.Proof.Words
public import Idealize.ShloMosaic.Lib.Pointwise
public import proofs.«01_k».proof.Proof.Gath
public import proofs.«01_k».proof.Proof.AttSpec
public import proofs.«01_k».proof.Proof.Gen.ReferenceIdeal.Read

@[expose] public section

set_option maxRecDepth 16384

noncomputable section

/-! The reference's table lookup and its mask of the positions before the first key, entry by entry. -/

namespace Cert.Mix

open Cert.ReferenceIdeal Cert.ReferenceIdeal.Gen Cert.ReferenceIdeal.Read Idealize.ShloMosaic Idealize.ShloMosaic.TcCoe Idealize.SL.Sem

variable (x1 : FVec Ideal S1x8x320 .f32)

theorem r57 (i : Fin 64) (u : Fin 576) :
    (val_main_v57 (F := Ideal) (ix2 i u)).toInt.toNat = min (512 + i.val + 63 - u.val) 319 := by
  have hi := i.isLt
  have hu := u.isLt
  unfold val_main_v57 val_main_v54 val_main_v56 val_main_v53 val_main_v55 val_main_c_5 val_main_c_6 val_main_v52 val_main_v51
    val_main_c_4 val_main_v50 val_main_call2_v4 val_main_call2_v3 val_main_c_3 val_main_call2_v2 val_main_call2_v1
    val_main_call2_v0 val_main_c_2 val_main_v49 val_main_v48 val_main_v47 val_main_v46 val_main_v45 val_main_c_1
    val_main_v44 val_main_v43 val_main_v42 val_main_v41
  pointwise
  refine clip_word _ (512 + i.val) u.val (by omega) (by omega) ?_
  have c5 : (512#32 : BitVec 32).toInt = 512 := by decide
  have e5 : (IntOp.addi 512#32 (BitVec.ofNat 32 i.val)).toInt = 512 + i.val := by
    rw [ti_add] <;> rw [ti_ofNat i.val (by omega), c5] <;> omega
  have e6 : (IntOp.subi (IntOp.addi 512#32 (BitVec.ofNat 32 i.val)) (BitVec.ofNat 32 u.val)).toInt = 512 + i.val - u.val := by
    rw [ti_sub] <;> rw [ti_ofNat u.val (by omega), e5] <;> omega
  refine Eq.trans ?_ (e6.trans (by push_cast; rfl))
  rfl

theorem r70 (c : Fin 64) (u : Fin 576) :
    val_main_v70 (F := Ideal) (ix2 c u) = if 512 ≤ c.val * 64 + u.val then 1#1 else 0#1 := by
  have hi := c.isLt
  have hu := u.isLt
  unfold val_main_v70 val_main_v69 val_main_c_9 val_main_v68 val_main_v67 val_main_v66 val_main_v65 val_main_v64 val_main_c_8
    val_main_v63 val_main_v62 val_main_c_7 val_main_v61 val_main_v60 val_main_v44 val_main_v43
  pointwise
  have c1 : (64#32 : BitVec 32).toInt = 64 := by decide
  have c2 : (512#32 : BitVec 32).toInt = 512 := by decide
  have c3 : (0#32 : BitVec 32).toInt = 0 := by decide
  have e1 : (IntOp.muli (BitVec.ofNat 32 c.val) 64#32).toInt = c.val * 64 := by
    rw [ti_mul] <;> rw [ti_ofNat c.val (by omega), c1] <;> omega
  have e2 : (IntOp.subi (IntOp.muli (BitVec.ofNat 32 c.val) 64#32) 512#32).toInt = c.val * 64 - 512 := by
    rw [ti_sub] <;> rw [e1, c2] <;> omega
  have e3 : (IntOp.addi (IntOp.subi (IntOp.muli (BitVec.ofNat 32 c.val) 64#32) 512#32) (BitVec.ofNat 32 u.val)).toInt
      = c.val * 64 - 512 + u.val := by
    rw [ti_add] <;> rw [e2, ti_ofNat u.val (by omega)] <;> omega
  rw [w_sge, e3, c3]
  by_cases h : 512 ≤ c.val * 64 + u.val
  · rw [if_pos h, if_pos (by omega)]
  · rw [if_neg h, if_neg (by omega)]

theorem r59 (h : Fin 8) (i : Fin 64) (u : Fin 576) :
    (val_main_v59 (F := Ideal) x1 (ix3 h i u) : EReal) = rb x1 h.val (min (512 + i.val + 63 - u.val) 319) := by
  unfold val_main_v59
  refine (gather_cols (by norm_num) gather_S8x320_S64x576x1_S8x64x576_0_1_n_n_1_2_81_wf _ _ h i u).trans ?_
  have e : val_main_v58 (F := Ideal) (ix3 i u (0 : Fin 1)) = val_main_v57 (F := Ideal) (ix2 i u) := by
    rw [val_main_v58_apply]
    refine congrArg (val_main_v57 (F := Ideal)) ?_
    funext a
    apply Fin.ext
    fin_cases a <;> rfl
  rw [val_main_v12_apply]
  refine congrArg x1 ?_
  have hh := h.isLt
  have hr := r57 i u
  funext a
  apply Fin.ext
  fin_cases a
  · rfl
  · dsimp [idx_main_v12, ix2, ix3]; rw [e, hr]; omega
  · dsimp [idx_main_v12, ix2, ix3]; rw [e, hr]; omega

end Cert.Mix

end
-- ==== Proof.AttRefC.lean ====
module

public import proofs.«01_k».proof.Proof.AttRefA
public import proofs.«01_k».proof.Proof.AttRefB
public import Idealize.ShloMosaic.Lib.Pointwise

@[expose] public section

set_option maxRecDepth 16384

noncomputable section

/-! The reference's scores, their weights, and the weighted values, entry by entry. -/

namespace Cert.Mix

open Cert.ReferenceIdeal Cert.ReferenceIdeal.Gen Cert.ReferenceIdeal.Read Idealize.ShloMosaic Idealize.ShloMosaic.TcCoe Idealize.SL.Sem

variable (x0 : FVec Ideal S8192x6144 .bf16) (x1 : FVec Ideal S1x8x320 .f32)

theorem neg_lit : (Ideal.ofBits .f32 4286578688#32 : EReal) = ⊥ := by
  simp [Ideal.ofBits, Ideal.ieee]

theorem r75 (b : Fin 2) (h : Fin 8) (c i : Fin 64) (u : Fin 576) :
    (val_main_v75 (F := Ideal) x0 x1 (ix5 b h c i u) : EReal) = rs x0 x1 b.val h.val (c.val * 64 + i.val) u.val := by
  have hb := b.isLt
  have hc := c.isLt
  have hi := i.isLt
  have hh := h.isLt
  have hu := u.isLt
  have e1 : idx_main_v71 (idx_main_call3_v1 (ix5 b h c i u)) = ix2 c u := by
    funext a; fin_cases a <;> rfl
  have e2 : idx_main_v72 (idx_main_v73 (ix5 b h c i u)) = ix3 h i u := by
    funext a; fin_cases a <;> rfl
  have e3 : ∀ k : Fin 128, lidx_main_v38 (ix5 b h c i u) k = ix5 b c i h k := by
    intro k; funext a; fin_cases a <;> rfl
  have e4 : ∀ k : Fin 128, ridx_main_v38 (ix5 b h c i u) k = ix5 b c u h k := by
    intro k; funext a; fin_cases a <;> rfl
  have ep : (c.val * 64 + i.val) / 64 * 64 = c.val * 64 := by omega
  rw [val_main_v75_apply, val_main_call3_v1_apply, val_main_v71_apply, e1, r70]
  unfold rs
  rw [ep]
  by_cases h512 : 512 ≤ c.val * 64 + u.val
  · rw [if_pos h512, if_pos h512, sel_one, val_main_v74_apply, val_main_v40_apply, val_main_v73_apply, val_main_v72_apply, e2, r59,
      val_main_v38_apply, val_main_v39_apply]
    unfold sc
    refine congrArg₂ (fun x y : EReal => x * Ideal.ofBits .f32 1035273459#32 + y) ?_ ?_
    · refine Finset.sum_congr rfl fun k _ => ?_
      rw [e3, e4, r37, r26 _ _ _ _ _ _ h512]
    · refine congrArg (rb x1 h.val) ?_
      omega
  · rw [if_neg h512, if_neg h512, sel_zero, val_main_call3_v2_apply]
    exact neg_lit

theorem r76 (b : Fin 2) (h : Fin 8) (c i : Fin 64) :
    (val_main_v76 (F := Ideal) x0 x1 (ix4 b h c i) : EReal)
      = Finset.fold max (⊥ : EReal) (fun u : Fin 576 => rs x0 x1 b.val h.val (c.val * 64 + i.val) u.val) Finset.univ := by
  unfold val_main_v76
  pointwise
  rw [show (fun u : Fin 576 => rs x0 x1 b.val h.val (c.val * 64 + i.val) u.val) = fun u => val_main_v75 (F := Ideal) x0 x1 (ix5 b h c i u)
    from funext fun u => (r75 x0 x1 b h c i u).symm]
  rw [← neg_lit]
  rfl

/-- The largest score, as the reference takes it. -/
def mx (b : Fin 2) (h : Fin 8) (c i : Fin 64) : EReal := val_main_v78 (F := Ideal) x0 x1 (ix4 b h c i)

theorem mx_eq (b : Fin 2) (h : Fin 8) (c i : Fin 64) :
    mx x0 x1 b h c i = max ⊥ (Finset.fold max (⊥ : EReal) (fun u : Fin 576 => rs x0 x1 b.val h.val (c.val * 64 + i.val) u.val) Finset.univ) := by
  unfold mx
  rw [val_main_v78_apply, r76, ← neg_lit]
  rfl

theorem r82 (b : Fin 2) (h : Fin 8) (c i : Fin 64) (u : Fin 576) :
    (val_main_v82 (F := Ideal) x0 x1 (ix5 b h c i u) : EReal)
      = Ideal.exp (rs x0 x1 b.val h.val (c.val * 64 + i.val) u.val - mx x0 x1 b h c i) := by
  have e : idx_main_v79 (idx_main_v80 (ix5 b h c i u)) = ix4 b h c i := by
    funext a; fin_cases a <;> rfl
  rw [val_main_v82_apply, val_main_v81_apply, r75, val_main_v80_apply, val_main_v79_apply, e]
  rfl

theorem r86 (b : Fin 2) (h : Fin 8) (c i : Fin 64) (u : Fin 576) :
    (val_main_v86 (F := Ideal) x0 x1 (ix5 b h c i u) : EReal)
      = Ideal.div (Ideal.exp (rs x0 x1 b.val h.val (c.val * 64 + i.val) u.val - mx x0 x1 b h c i))
          (∑ u : Fin 576, Ideal.exp (rs x0 x1 b.val h.val (c.val * 64 + i.val) u.val - mx x0 x1 b h c i)) := by
  have e : idx_main_v84 (idx_main_v85 (ix5 b h c i u)) = ix4 b h c i := by
    funext a; fin_cases a <;> rfl
  have e' : ∀ k : Fin 576, idx_main_v83 (ix4 b h c i) k = ix5 b h c i k := by
    intro k; funext a; fin_cases a <;> rfl
  have z : (val_main_cst_13 (F := Ideal) (Shape.Idx.first h_S_) : EReal) = 0 := by
    show Ideal.ofBits .f32 0#32 = 0
    simp [Ideal.ofBits, Ideal.ieee]
  rw [val_main_v86_apply, r82, val_main_v85_apply, val_main_v84_apply, e, val_main_v83_apply, z, zero_add]
  refine congrArg (Ideal.div _) (Finset.sum_congr rfl fun k _ => ?_)
  rw [e', r82]

variable (hX : ∀ r c, c < 2048 → xa x0 r c ≠ ⊤ ∧ xa x0 r c ≠ ⊥) (hR : ∀ h n, rb x1 h n ≠ ⊤ ∧ rb x1 h n ≠ ⊥)

include hX hR

theorem rs_ne_top (b h p u : ℕ) (hh : h < 8) : rs x0 x1 b h p u ≠ ⊤ := by
  unfold rs
  by_cases h5 : 512 ≤ p / 64 * 64 + u
  · rw [if_pos h5]; exact (sc_finite x0 x1 hX hR b h p _ hh).1
  · rw [if_neg h5]; exact bot_ne_top

theorem rs_ne_bot (b h p u : ℕ) (hh : h < 8) (h5 : 512 ≤ p / 64 * 64 + u) : rs x0 x1 b h p u ≠ ⊥ := by
  unfold rs
  rw [if_pos h5]; exact (sc_finite x0 x1 hX hR b h p _ hh).2

theorem r87 (b : Fin 2) (c : Fin 64) (h : Fin 8) (d : Fin 128) (i : Fin 64) :
    (val_main_v87 (F := Ideal) x0 x1 (ix5 b c h d i) : EReal) = att x0 x1 b.val h.val (c.val * 64 + i.val) d.val := by
  have hb := b.isLt
  have hc := c.isLt
  have hi := i.isLt
  have hh := h.isLt
  have e3 : ∀ k : Fin 576, lidx_main_v87 (ix5 b c h d i) k = ix5 b c k h d := by
    intro k; funext a; fin_cases a <;> rfl
  have e4 : ∀ k : Fin 576, ridx_main_v87 (ix5 b c h d i) k = ix5 b h c i k := by
    intro k; funext a; fin_cases a <;> rfl
  have ep : (c.val * 64 + i.val) / 64 * 64 = c.val * 64 := by omega
  have ht : ∀ u : Fin 576, rs x0 x1 b.val h.val (c.val * 64 + i.val) u.val ≠ ⊤ := fun u => rs_ne_top x0 x1 hX hR _ _ _ _ hh
  have hj : rs x0 x1 b.val h.val (c.val * 64 + i.val) (⟨512, by omega⟩ : Fin 576).val ≠ ⊥ :=
    rs_ne_bot x0 x1 hX hR _ _ _ _ hh (by dsimp; omega)
  have hm1 : mx x0 x1 b h c i ≠ ⊤ := by
    rw [mx_eq]
    refine ne_of_lt (max_lt bot_lt_top (lt_top_iff_ne_top.2 (fold_max_ne_top _ _ bot_ne_top ht)))
  have hm2 : mx x0 x1 b h c i ≠ ⊥ := by
    rw [mx_eq]
    exact ne_of_gt (lt_of_lt_of_le (bot_lt_iff_ne_bot.2 (fold_max_ne_bot _ _ (⟨512, by omega⟩ : Fin 576) hj)) (le_max_right _ _))
  rw [val_main_v87_apply]
  simp only [e3, e4, r86]
  refine (attn_one (fun u : Fin 576 => rs x0 x1 b.val h.val (c.val * 64 + i.val) u.val) _ _ ht (⟨512, by omega⟩ : Fin 576) hj hm1 hm2).trans ?_
  unfold att
  rw [Finset.sum_range, Finset.sum_range]
  refine Finset.sum_congr rfl fun u _ => ?_
  rw [ep]
  by_cases h512 : 512 ≤ c.val * 64 + u.val
  · rw [r36 _ _ _ _ _ _ h512]
  · have : wt (rs x0 x1 b.val h.val (c.val * 64 + i.val) u.val) = 0 := by
      unfold rs
      rw [ep, if_neg h512, wt_bot]
    rw [this, zero_div, EReal.coe_zero, zero_mul, zero_mul]

end Cert.Mix

end
-- ==== Proof.AttRefD.lean ====
module

public import proofs.«01_k».proof.Proof.AttRefC

@[expose] public section

set_option maxRecDepth 16384

noncomputable section

/-! The reference's first 1024 columns, entry by entry: the attention's values over their mean square, times the gain. -/

namespace Cert.Mix

open Cert.ReferenceIdeal Cert.ReferenceIdeal.Gen Cert.ReferenceIdeal.Read Idealize.ShloMosaic Idealize.ShloMosaic.TcCoe Idealize.SL.Sem

variable (x0 : FVec Ideal S8192x6144 .bf16) (x1 : FVec Ideal S1x8x320 .f32) (x2 x3 : FVec Ideal S1x1024 .f32)

theorem mean_lit (s : EReal) : Ideal.div s (Ideal.ofBits .f32 1149239296#32) = s * ((1 / 1024 : ℝ) : EReal) := by
  have e : (Ideal.ofBits .f32 1149239296#32 : EReal) = ((1024 : ℝ) : EReal) := by
    simp [Ideal.ofBits, Ideal.ieee, -EReal.coe_mul]
    norm_num
  rw [e, Ideal.div_coe (by norm_num)]

variable (hX : ∀ r c, c < 2048 → xa x0 r c ≠ ⊤ ∧ xa x0 r c ≠ ⊥) (hR : ∀ h n, rb x1 h n ≠ ⊤ ∧ rb x1 h n ≠ ⊥)

include hX hR

theorem r89 (b : Fin 2) (p : Fin 4096) (k : Fin 1024) :
    (val_main_v89 (F := Ideal) x0 x1 (ix3 b p k) : EReal) = att x0 x1 b.val (k.val / 128) p.val (k.val % 128) := by
  have hb := b.isLt
  have hp := p.isLt
  have hk := k.isLt
  have e : idx_main_v88 (idx_main_v89 (ix3 b p k))
      = ix5 b (⟨p.val / 64, by omega⟩ : Fin 64) (⟨k.val / 128, by omega⟩ : Fin 8) (⟨k.val % 128, by omega⟩ : Fin 128)
          (⟨p.val % 64, by omega⟩ : Fin 64) := by
    funext a
    apply Fin.ext
    fin_cases a <;> dsimp [idx_main_v88, idx_main_v89, ix3, ix5] <;> omega
  rw [val_main_v89_apply, val_main_v88_apply, e, r87 x0 x1 hX hR]
  dsimp only
  rw [show p.val / 64 * 64 + p.val % 64 = p.val by omega]

theorem r95 (b : Fin 2) (p : Fin 4096) :
    (val_main_v95 (F := Ideal) x0 x1 (ix3 b p (0 : Fin 1)) : EReal) = ms x0 x1 b.val p.val := by
  have e : idx_main_v93 (ix3 b p (0 : Fin 1)) = ix2 b p := by
    funext a; fin_cases a <;> rfl
  have e' : ∀ k : Fin 1024, idx_main_v92 (ix2 b p) k = ix3 b p k := by
    intro k; funext a; fin_cases a <;> rfl
  have z : (val_main_cst_14 (F := Ideal) (Shape.Idx.first h_S_) : EReal) = 0 := by
    show Ideal.ofBits .f32 0#32 = 0
    simp [Ideal.ofBits, Ideal.ieee]
  rw [val_main_v95_apply, val_main_v93_apply, e, val_main_v92_apply, z, zero_add, val_main_v94_apply]
  refine (mean_lit _).trans ?_
  unfold ms
  rw [Finset.sum_range]
  refine congrArg (fun x : EReal => x * ((1 / 1024 : ℝ) : EReal)) (Finset.sum_congr rfl fun k _ => ?_)
  rw [e', val_main_v91_apply, r89 x0 x1 hX hR]
  rfl

theorem r103 (b : Fin 2) (p : Fin 4096) (k : Fin 1024) :
    (val_main_v103 (F := Ideal) x0 x1 x2 (ix3 b p k) : EReal) = outF x0 x1 x2 b.val p.val k.val := by
  have hk := k.isLt
  have e : idx_main_v99 (ix3 b p k) = ix3 b p (0 : Fin 1) := by
    funext a; fin_cases a <;> rfl
  have e' : idx_main_v90 (idx_main_v101 (idx_main_v102 (ix3 b p k))) = ix2 (0 : Fin 1) (Fin.ofNat 1024 k.val) := by
    funext a
    apply Fin.ext
    fin_cases a <;> dsimp [idx_main_v90, idx_main_v101, idx_main_v102, ix2, ix3] <;> omega
  rw [val_main_v103_apply, val_main_v100_apply, r89 x0 x1 hX hR, val_main_v99_apply, e, val_main_v98_apply, val_main_v97_apply,
    r95 x0 x1 hX hR, val_main_v96_apply, val_main_v102_apply, val_main_v101_apply, val_main_v90_apply, e']
  rfl

theorem r713 (i : Fin 8192) (k : Fin 2048) (hk : k.val < 1024) :
    (val_main_v713 (F := Ideal) x0 x1 x2 x3 (ix2 i k) : EReal) = outF x0 x1 x2 (i.val / 4096) (i.val % 4096) k.val := by
  have hi := i.isLt
  have e : idx_main_v712 (ix2 i k) = ix3 (⟨i.val / 4096, by omega⟩ : Fin 2) (⟨i.val % 4096, by omega⟩ : Fin 4096) k := by
    funext a
    apply Fin.ext
    fin_cases a <;> dsimp [idx_main_v712, ix2, ix3] <;> omega
  rw [val_main_v713_apply, val_main_v712_apply, e]
  refine Eq.trans ?_ (r103 x0 x1 x2 hX hR (⟨i.val / 4096, by omega⟩ : Fin 2) (⟨i.val % 4096, by omega⟩ : Fin 4096) ⟨k.val, hk⟩)
  unfold val_main_v711
  pointwise
  exact dif_pos hk

end Cert.Mix

end
-- ==== Proof.Heads.lean ====
module

public import proofs.«01_k».proof.Proof.Gen.KernelIdeal.Value

@[expose] public section

set_option maxRecDepth 16384

noncomputable section

/-! One attention head, one retention head and one head's state update, as functions of the slices they read; each of the
    eight heads' own terms is one of these. -/

namespace Cert.Mix

open Cert.KernelIdeal Cert.KernelIdeal.Gen Idealize.ShloMosaic Idealize.ShloMosaic.TcCoe

abbrev QB := Vec Ideal S256x128 .bf16
abbrev QF := FVec Ideal S256x128 .f32
abbrev BB := Vec Ideal S1x256x256 .f32
abbrev ST := Vec Ideal S1x128x128 .f32
abbrev XB := Vec Ideal S1x256x128 .f32

/-- One attention head: its three score blocks, their weights and the weighted values. -/
def attn (o0 o1 : BitVec 1) (q k0 k1 k2 v0 v1 v2 : QB) (b0 b1 b2 : BB) : QF :=
  k0_pay33 (k0_pay17 o0 q k0 b0) (k0_pay17 o1 q k1 b1) (k0_pay32 q k2 b2) v0 v1 v2

/-- The lanes a retention head's query keeps. -/
def mask (h : ℕ) : IVec S256x128 1 := if h % 2 = 0 then k0_pay73 else k0_pay97 k0_pay73

/-- One retention head before its norm. -/
def ret (mk : IVec S256x128 1) (cs sn : QF) (q k v : QB) (st : ST) (de : BB) (xi : XB) : QF :=
  let qm : FVec Ideal S256x128 .bf16 := truncf .bf16 (select mk (k0_pay74 cs sn k0_pay72 q) (broadcast S256x128 (Scalar.ofBits (F := Ideal) .f32 0x00000000#32))) bitsLt_bf16_f32
  addf
    (matmul (φ₁ := .bf16) (φ₂ := .bf16) dot_S256x256_S256x128_S256x128_1_0_0_1_n_n none
      (truncf .bf16
        (mulf (matmul (φ₁ := .bf16) (φ₂ := .bf16) dot_S256x128_S256x128_S256x256_1_1_0_0_n_n none qm (k0_pay75 cs sn k0_pay72 k) (constant S256x256 .f32 0x00000000#32))
          (shapeCast S256x256 de shapeCasts_S1x256x256_S256x256)) bitsLt_bf16_f32)
      v (constant S256x128 .f32 0x00000000#32))
    (mulf
      (matmul (φ₁ := .bf16) (φ₂ := .bf16) dot_S256x128_S128x128_S256x128_1_0_0_1_n_n none qm
        (truncf .bf16 (shapeCast S128x128 st shapeCasts_S1x128x128_S128x128) bitsLt_bf16_f32) (constant S256x128 .f32 0x00000000#32))
      (shapeCast S256x128 xi shapeCasts_S1x256x128_S256x128))

/-- One retention head's state after the block. -/
def upd (g : Ideal .f32) (cs sn : QF) (k v : QB) (st : ST) (ze : XB) : ST :=
  shapeCast S1x128x128
    (addf (mulf (broadcast S128x128 g) (shapeCast S128x128 st shapeCasts_S1x128x128_S128x128))
      (matmul (φ₁ := .bf16) (φ₂ := .bf16) dot_S256x128_S256x128_S128x128_0_0_1_1_n_n none (k0_pay75 cs sn k0_pay72 k)
        (truncf .bf16 (mulf (extf .f32 v bitsLt_bf16_f32) (shapeCast S256x128 ze shapeCasts_S1x256x128_S256x128)) bitsLt_bf16_f32)
        (constant S128x128 .f32 0x00000000#32))) shapeCasts_S128x128_S1x128x128

variable (o0 o1 : BitVec 1) (i : grid0.Coords) (a : FVec Ideal S256x1 .f32) (q k0 k1 k2 k v v0 v1 v2 g : QB) (b0 b1 b2 de : BB) (cs sn : QF)
  (st : ST) (xi ze : XB) (gn : Vec Ideal S1x128 .f32)

/-- May the block two back be read (`n = 2`), the one before (`n = 1`)? -/
abbrev ge (i : grid0.Coords) (n : BitVec 32) : BitVec 1 := Scalar.cmpi CmpIPredicate.sge (BitVec.ofNat 32 (i 1).val) n

/-! The attention heads' running sums of squares and stored values. -/

theorem sq0 : k0_pay16 a (k0_pay12 (k0_pay4 i q k0 b0) (k0_pay5 i q k1 b1) (k0_pay6 q k2) b2 v0 v1 v2) (k0_pay13 (k0_pay4 i q k0 b0) (k0_pay5 i q k1 b1) (k0_pay6 q k2) b2) = k0_pay22 a (attn (ge i 2#32) (ge i 1#32) q k0 k1 k2 v0 v1 v2 b0 b1 b2) := by
  simp only [attn, k0_pay4, k0_pay5, k0_pay6, k0_pay7, k0_pay8, k0_pay9, k0_pay10, k0_pay11, k0_pay12, k0_pay13, k0_pay14, k0_pay16, k0_pay17, k0_pay22, k0_pay32, k0_pay33]
theorem sq1 : k0_pay22 a (k0_pay20 (k0_pay17 o0 q k0 b0) (k0_pay18 o1 q k1 b1) (k0_pay19 q k2) b2 v0 v1 v2) = k0_pay22 a (attn o0 o1 q k0 k1 k2 v0 v1 v2 b0 b1 b2) := by
  simp only [attn, k0_pay17, k0_pay18, k0_pay19, k0_pay20, k0_pay22, k0_pay32, k0_pay33]
theorem sq2 : k0_pay29 a (k0_pay27 (k0_pay23 o0 q k0 b0) (k0_pay24 o1 q k1 b1) (k0_pay25 q k2) (k0_pay26 b2) v0 v1 v2) = k0_pay22 a (attn o0 o1 q k0 k1 k2 v0 v1 v2 b0 b1 b2) := by
  simp only [attn, k0_pay17, k0_pay22, k0_pay23, k0_pay24, k0_pay25, k0_pay26, k0_pay27, k0_pay29, k0_pay32, k0_pay33]
theorem sq3 : k0_pay35 a (k0_pay33 (k0_pay30 o0 q k0 b0) (k0_pay31 o1 q k1 b1) (k0_pay32 q k2 b2) v0 v1 v2) = k0_pay22 a (attn o0 o1 q k0 k1 k2 v0 v1 v2 b0 b1 b2) := by
  simp only [attn, k0_pay17, k0_pay22, k0_pay30, k0_pay31, k0_pay32, k0_pay33, k0_pay35]
theorem sq4 : k0_pay43 a (k0_pay42 (k0_pay36 o0 q k0 b0) (k0_pay37 o1 q k1 b1) (k0_pay38 q k2 b2) (k0_pay39 o0 q k0 b0) v0 v1 v2) = k0_pay22 a (attn o0 o1 q k0 k1 k2 v0 v1 v2 b0 b1 b2) := by
  simp only [attn, k0_pay17, k0_pay22, k0_pay32, k0_pay33, k0_pay36, k0_pay37, k0_pay38, k0_pay39, k0_pay40, k0_pay42, k0_pay43]
theorem sq5 : k0_pay52 a (k0_pay51 (k0_pay44 o0 q k0 b0) (k0_pay45 o1 q k1 b1) (k0_pay46 q k2 b2) (k0_pay47 o0 q k0 b0) (k0_pay48 o1 q k1 b1) v0 v1 v2) = k0_pay22 a (attn o0 o1 q k0 k1 k2 v0 v1 v2 b0 b1 b2) := by
  simp only [attn, k0_pay17, k0_pay22, k0_pay32, k0_pay33, k0_pay44, k0_pay45, k0_pay46, k0_pay47, k0_pay48, k0_pay49, k0_pay51, k0_pay52]
theorem sq6 : k0_pay59 a (k0_pay53 o0 q k0 b0) (k0_pay54 o1 q k1 b1) (k0_pay55 q k2 b2) (k0_pay56 o0 o1 q k0 b0 k1 b1) v0 v1 v2 = k0_pay22 a (attn o0 o1 q k0 k1 k2 v0 v1 v2 b0 b1 b2) := by
  simp only [attn, k0_pay17, k0_pay22, k0_pay32, k0_pay33, k0_pay53, k0_pay54, k0_pay55, k0_pay56, k0_pay57, k0_pay59]
theorem sq7 : k0_pay67 a (k0_pay60 o0 q k0 b0) (k0_pay61 o1 q k1 b1) (k0_pay62 q k2 b2) (k0_pay63 o0 o1 q k0 b0 k1 b1) (k0_pay64 q k2 b2) v0 v1 v2 = k0_pay22 a (attn o0 o1 q k0 k1 k2 v0 v1 v2 b0 b1 b2) := by
  simp only [attn, k0_pay17, k0_pay22, k0_pay32, k0_pay33, k0_pay60, k0_pay61, k0_pay62, k0_pay63, k0_pay64, k0_pay65, k0_pay67]
theorem sv0 : k0_pay15 (k0_pay12 (k0_pay4 i q k0 b0) (k0_pay5 i q k1 b1) (k0_pay6 q k2) b2 v0 v1 v2) (k0_pay13 (k0_pay4 i q k0 b0) (k0_pay5 i q k1 b1) (k0_pay6 q k2) b2) = k0_pay21 (attn (ge i 2#32) (ge i 1#32) q k0 k1 k2 v0 v1 v2 b0 b1 b2) := by
  simp only [attn, k0_pay4, k0_pay5, k0_pay6, k0_pay7, k0_pay8, k0_pay9, k0_pay10, k0_pay11, k0_pay12, k0_pay13, k0_pay14, k0_pay15, k0_pay17, k0_pay21, k0_pay32, k0_pay33]
theorem sv1 : k0_pay21 (k0_pay20 (k0_pay17 o0 q k0 b0) (k0_pay18 o1 q k1 b1) (k0_pay19 q k2) b2 v0 v1 v2) = k0_pay21 (attn o0 o1 q k0 k1 k2 v0 v1 v2 b0 b1 b2) := by
  simp only [attn, k0_pay17, k0_pay18, k0_pay19, k0_pay20, k0_pay21, k0_pay32, k0_pay33]
theorem sv2 : k0_pay28 (k0_pay27 (k0_pay23 o0 q k0 b0) (k0_pay24 o1 q k1 b1) (k0_pay25 q k2) (k0_pay26 b2) v0 v1 v2) = k0_pay21 (attn o0 o1 q k0 k1 k2 v0 v1 v2 b0 b1 b2) := by
  simp only [attn, k0_pay17, k0_pay21, k0_pay23, k0_pay24, k0_pay25, k0_pay26, k0_pay27, k0_pay28, k0_pay32, k0_pay33]
theorem sv3 : k0_pay34 (k0_pay30 o0 q k0 b0) (k0_pay31 o1 q k1 b1) (k0_pay32 q k2 b2) v0 v1 v2 = k0_pay21 (attn o0 o1 q k0 k1 k2 v0 v1 v2 b0 b1 b2) := by
  simp only [attn, k0_pay17, k0_pay21, k0_pay30, k0_pay31, k0_pay32, k0_pay33, k0_pay34]
theorem sv4 : k0_pay41 (k0_pay36 o0 q k0 b0) (k0_pay37 o1 q k1 b1) (k0_pay38 q k2 b2) (k0_pay39 o0 q k0 b0) v0 v1 v2 = k0_pay21 (attn o0 o1 q k0 k1 k2 v0 v1 v2 b0 b1 b2) := by
  simp only [attn, k0_pay17, k0_pay21, k0_pay32, k0_pay33, k0_pay36, k0_pay37, k0_pay38, k0_pay39, k0_pay40, k0_pay41]
theorem sv5 : k0_pay50 (k0_pay44 o0 q k0 b0) (k0_pay45 o1 q k1 b1) (k0_pay46 q k2 b2) (k0_pay47 o0 q k0 b0) (k0_pay48 o1 q k1 b1) v0 v1 v2 = k0_pay21 (attn o0 o1 q k0 k1 k2 v0 v1 v2 b0 b1 b2) := by
  simp only [attn, k0_pay17, k0_pay21, k0_pay32, k0_pay33, k0_pay44, k0_pay45, k0_pay46, k0_pay47, k0_pay48, k0_pay49, k0_pay50]
theorem sv6 : k0_pay58 (k0_pay53 o0 q k0 b0) (k0_pay54 o1 q k1 b1) (k0_pay55 q k2 b2) (k0_pay56 o0 o1 q k0 b0 k1 b1) v0 v1 v2 = k0_pay21 (attn o0 o1 q k0 k1 k2 v0 v1 v2 b0 b1 b2) := by
  simp only [attn, k0_pay17, k0_pay21, k0_pay32, k0_pay33, k0_pay53, k0_pay54, k0_pay55, k0_pay56, k0_pay57, k0_pay58]
theorem sv7 : k0_pay66 (k0_pay60 o0 q k0 b0) (k0_pay61 o1 q k1 b1) (k0_pay62 q k2 b2) (k0_pay63 o0 o1 q k0 b0 k1 b1) (k0_pay64 q k2 b2) v0 v1 v2 = k0_pay21 (attn o0 o1 q k0 k1 k2 v0 v1 v2 b0 b1 b2) := by
  simp only [attn, k0_pay17, k0_pay21, k0_pay32, k0_pay33, k0_pay60, k0_pay61, k0_pay62, k0_pay63, k0_pay64, k0_pay65, k0_pay66]

/-! The retention heads' stored values. -/

theorem rv0 : k0_pay81 (k0_pay80 (k0_pay77 cs sn k0_pay72 k0_pay73 q k v st de xi) g gn) = k0_pay85 (ret (k0_pay73) cs sn q k v st de xi) g gn := by
  simp only [ret, k0_pay74, k0_pay75, k0_pay76, k0_pay77, k0_pay80, k0_pay81, k0_pay85]
theorem rv1 : k0_pay85 (k0_pay83 k0_pay73 (k0_pay74 cs sn k0_pay72 q) (k0_pay75 cs sn k0_pay72 k) v st de xi) g gn = k0_pay85 (ret ((k0_pay97 k0_pay73)) cs sn q k v st de xi) g gn := by
  simp only [ret, k0_pay74, k0_pay75, k0_pay82, k0_pay83, k0_pay85, k0_pay97]
theorem rv2 : k0_pay96 (k0_pay92 cs sn k0_pay72 k0_pay73 (k0_pay87 cs q) (k0_pay88 sn k0_pay72 q) k v st de xi) g gn = k0_pay85 (ret (k0_pay73) cs sn q k v st de xi) g gn := by
  simp only [ret, k0_pay74, k0_pay75, k0_pay85, k0_pay86, k0_pay87, k0_pay88, k0_pay89, k0_pay90, k0_pay91, k0_pay92, k0_pay96]
theorem rv3 : k0_pay102 (k0_pay101 (k0_pay89 (k0_pay87 cs q) (k0_pay88 sn k0_pay72 q)) (k0_pay90 cs sn k0_pay72 k) (k0_pay97 k0_pay73) k0_pay98 v st de xi) g gn = k0_pay85 (ret ((k0_pay97 k0_pay73)) cs sn q k v st de xi) g gn := by
  simp only [ret, k0_pay74, k0_pay75, k0_pay85, k0_pay86, k0_pay87, k0_pay88, k0_pay89, k0_pay90, k0_pay97, k0_pay98, k0_pay99, k0_pay101, k0_pay102]
theorem rv4 : k0_pay111 (k0_pay109 cs sn k0_pay72 k0_pay73 (k0_pay103 cs sn k0_pay72 q) (k0_pay104 k) (k0_pay105 k) (k0_pay106 k) v st de xi) g gn = k0_pay85 (ret (k0_pay73) cs sn q k v st de xi) g gn := by
  simp only [ret, k0_pay74, k0_pay75, k0_pay85, k0_pay103, k0_pay104, k0_pay105, k0_pay106, k0_pay107, k0_pay108, k0_pay109, k0_pay111]
theorem rv5 : k0_pay117 (k0_pay115 (k0_pay107 cs sn k0_pay72 (k0_pay104 k) (k0_pay105 k) (k0_pay106 k)) (k0_pay112 k0_pay73 (k0_pay103 cs sn k0_pay72 q)) v st de xi) (k0_pay116 (k0_pay107 cs sn k0_pay72 (k0_pay104 k) (k0_pay105 k) (k0_pay106 k)) (k0_pay112 k0_pay73 (k0_pay103 cs sn k0_pay72 q)) v st de xi) g gn = k0_pay85 (ret ((k0_pay97 k0_pay73)) cs sn q k v st de xi) g gn := by
  simp only [ret, k0_pay74, k0_pay75, k0_pay85, k0_pay97, k0_pay103, k0_pay104, k0_pay105, k0_pay106, k0_pay107, k0_pay112, k0_pay113, k0_pay115, k0_pay116, k0_pay117]
theorem rv6 : k0_pay125 (k0_pay123 (k0_pay119 cs sn k0_pay72 k) (k0_pay120 cs sn k0_pay72 k0_pay73 q) v st de xi) (k0_pay124 (k0_pay119 cs sn k0_pay72 k) (k0_pay120 cs sn k0_pay72 k0_pay73 q) v st de xi) g gn = k0_pay85 (ret (k0_pay73) cs sn q k v st de xi) g gn := by
  simp only [ret, k0_pay74, k0_pay75, k0_pay85, k0_pay118, k0_pay119, k0_pay120, k0_pay121, k0_pay123, k0_pay124, k0_pay125]
theorem rv7 : k0_pay1 (k0_pay130 (k0_pay126 k0_pay73 (k0_pay118 cs sn k0_pay72 q)) v (k0_pay127 st) (k0_pay128 k0_pay73 (k0_pay118 cs sn k0_pay72 q) (k0_pay119 cs sn k0_pay72 k) de) xi) (k0_pay131 (k0_pay126 k0_pay73 (k0_pay118 cs sn k0_pay72 q)) v (k0_pay127 st) (k0_pay128 k0_pay73 (k0_pay118 cs sn k0_pay72 q) (k0_pay119 cs sn k0_pay72 k) de) xi) (k0_pay132 g) (k0_pay133 g) gn = k0_pay85 (ret ((k0_pay97 k0_pay73)) cs sn q k v st de xi) g gn := by
  simp only [ret, k0_pay1, k0_pay74, k0_pay75, k0_pay85, k0_pay97, k0_pay118, k0_pay119, k0_pay126, k0_pay127, k0_pay128, k0_pay130, k0_pay131, k0_pay132, k0_pay133]

/-! The retention heads' states. -/

theorem uv0 : k0_pay79 (k0_pay75 cs sn k0_pay72 k) (k0_pay76 st) (k0_pay78 v) ze = upd (Named.named κ "g0" 0x399ACCA1#32) cs sn k v st ze := by
  simp only [upd, k0_pay75, k0_pay76, k0_pay78, k0_pay79]
theorem uv1 : k0_pay84 (k0_pay75 cs sn k0_pay72 k) v st ze = upd (Named.named κ "g1" 0x3C9160A5#32) cs sn k v st ze := by
  simp only [upd, k0_pay75, k0_pay82, k0_pay84]
theorem uv2 : k0_pay95 (k0_pay93 cs sn k0_pay72 k v ze) (k0_pay94 st) = upd (Named.named κ "g2" 0x3E097FCE#32) cs sn k v st ze := by
  simp only [upd, k0_pay75, k0_pay90, k0_pay91, k0_pay93, k0_pay94, k0_pay95]
theorem uv3 : k0_pay100 (k0_pay90 cs sn k0_pay72 k) v st ze = upd (Named.named κ "g3" 0x3EBBFC5D#32) cs sn k v st ze := by
  simp only [upd, k0_pay75, k0_pay90, k0_pay99, k0_pay100]
theorem uv4 : k0_pay110 cs sn k0_pay72 (k0_pay104 k) (k0_pay105 k) (k0_pay106 k) v st ze = upd (Named.named κ "g4" 0x3F1B322A#32) cs sn k v st ze := by
  simp only [upd, k0_pay75, k0_pay104, k0_pay105, k0_pay106, k0_pay107, k0_pay108, k0_pay110]
theorem uv5 : k0_pay114 (k0_pay107 cs sn k0_pay72 (k0_pay104 k) (k0_pay105 k) (k0_pay106 k)) v st ze = upd (Named.named κ "g5" 0x3F475941#32) cs sn k v st ze := by
  simp only [upd, k0_pay75, k0_pay104, k0_pay105, k0_pay106, k0_pay107, k0_pay113, k0_pay114]
theorem uv6 : k0_pay122 (k0_pay119 cs sn k0_pay72 k) v st ze = upd (Named.named κ "g6" 0x3F61E98D#32) cs sn k v st ze := by
  simp only [upd, k0_pay75, k0_pay119, k0_pay121, k0_pay122]
theorem uv7 : k0_pay129 (k0_pay119 cs sn k0_pay72 k) v (k0_pay127 st) ze = upd (Named.named κ "g7" 0x3F707CE8#32) cs sn k v st ze := by
  simp only [upd, k0_pay75, k0_pay119, k0_pay127, k0_pay129]

end Cert.Mix

end
-- ==== Proof.Cuts.lean ====
module

public import proofs.«01_k».proof.Defs
public import proofs.«01_k».proof.Proof.Gen.KernelIdeal.Value
public import proofs.«01_k».proof.Proof.Heads
public import Idealize.ShloMosaic.Lib.Pipeline.ValueKit
public import Idealize.ShloMosaic.Lib.Pointwise
public import Idealize.ShloMosaic.Lib.Pipeline.ReadBack

@[expose] public section

set_option maxRecDepth 16384

noncomputable section

/-! The slices of the blocks a grid point reads, as functions of the head; what a grid point stores, head by head. -/

namespace Cert.Mix

open Cert.KernelIdeal Cert.KernelIdeal.Gen Idealize.ShloMosaic Idealize.ShloMosaic.TcCoe Idealize.SL.Sem

/-- Head `h`'s 128 columns of a row block. -/
def cut {W : ℕ} [NeZero W] (X : Vec Ideal ⟨2, ![256, W]⟩ .bf16) (h : ℕ) : QB :=
  fun x => X (ix2 (x 0) (Fin.ofNat W (128 * h + (x 1).val)))

/-- Head `h`'s 128 columns of a gain. -/
def cutg (X : Vec Ideal S1x1024 .f32) (h : ℕ) : Vec Ideal S1x128 .f32 :=
  fun x => X (ix2 (x 0) (Fin.ofNat 1024 (128 * h + (x 1).val)))

/-- Head `h`'s page of a table, from column `o` on. -/
def page {n W w : ℕ} [NeZero W] (X : Vec Ideal ⟨3, ![8, n, W]⟩ .f32) (h o : ℕ) : Vec Ideal ⟨3, ![1, n, w]⟩ .f32 :=
  fun x => X (ix3 (Fin.ofNat 8 h) (x 1) (Fin.ofNat W (o + (x 2).val)))

theorem ld_cut {W : ℕ} [NeZero W] (X : Vec Ideal ⟨2, ![256, W]⟩ .bf16) (h off : ℕ) (e : off = 128 * h) (inb) :
    View.ld X (Rect.unit ![0, off] ![256, 128] inb) = cut X h := by
  subst e
  funext x
  refine View.ld_unit_apply_of _ _ _ _ _ _ fun a => ?_
  have h1 : 128 * h + 128 ≤ W := inb 1
  have hx : (x 1).val < 128 := (x 1).isLt
  fin_cases a
  · simp
  · simp only [Fin.mk_one, ix2_1, Fin.val_ofNat, Matrix.cons_val_one]
    exact Nat.mod_eq_of_lt (by omega)

theorem ld_cutg (X : Vec Ideal S1x1024 .f32) (h off : ℕ) (e : off = 128 * h) (inb) :
    View.ld X (Rect.unit ![0, off] ![1, 128] inb) = cutg X h := by
  subst e
  funext x
  refine View.ld_unit_apply_of _ _ _ _ _ _ fun a => ?_
  have h1 : 128 * h + 128 ≤ 1024 := inb 1
  have hx : (x 1).val < 128 := (x 1).isLt
  fin_cases a
  · simp
  · simp only [Fin.mk_one, ix2_1, Fin.val_ofNat, Matrix.cons_val_one]
    exact Nat.mod_eq_of_lt (by omega)

theorem ld_page {n W w : ℕ} [NeZero W] (X : Vec Ideal ⟨3, ![8, n, W]⟩ .f32) (h o : ℕ) (inb) :
    View.ld X (Rect.unit ![h, 0, o] ![1, n, w] inb) = page X h o := by
  funext x
  refine View.ld_unit_apply_of _ _ _ _ _ _ fun a => ?_
  have h0 : h + 1 ≤ 8 := inb 0
  have h1 : o + w ≤ W := inb 2
  have hx : (x 2).val < w := (x 2).isLt
  have hx0 : (x 0).val < 1 := (x 0).isLt
  fin_cases a
  · show h % 8 = h + (x 0).val
    rw [Nat.mod_eq_of_lt (by omega)]; omega
  · show (x 1).val = 0 + (x 1).val
    omega
  · show (o + (x 2).val) % W = o + (x 2).val
    exact Nat.mod_eq_of_lt (by omega)

variable (m : (ℓ : Loc nD τ sig) → Buf (Elt Ideal) ℓ) (c : Dev nD) (t : Fin cfg0.N)

/-- One attention head at a grid point. -/
def attH (h : ℕ) : QF :=
  attn (ge (grid0.coords t) 2#32) (ge (grid0.coords t) 1#32) (cut (iblk m c 0 t) h) (cut (iblk m c 1 t) h) (cut (iblk m c 2 t) h)
    (cut (iblk m c 3 t) h) (cut (iblk m c 4 t) h) (cut (iblk m c 5 t) h) (cut (iblk m c 6 t) h)
    (page (iblk m c 11 t) h 0) (page (iblk m c 11 t) h 256) (page (iblk m c 11 t) h 512)

/-- All heads side by side. -/
def attA : FVec Ideal S256x1024 .f32 :=
  fun x => attH m c t ((x 1).val / 128) (ix2 (x 0) (Fin.ofNat 128 ((x 1).val % 128)))

/-- The sum of squares of the first `n` heads, as the kernel accumulates it. -/
def sqA : ℕ → FVec Ideal S256x1 .f32
  | 0 => k0_pay3
  | n + 1 => k0_pay22 (sqA n) (attH m c t n)

/-- One retention head at a grid point, over the state `S` before it. -/
def retH (S : Vec Ideal S8x128x128 .f32) (h : ℕ) : QF :=
  ret (if h % 2 = 0 then k0_pay73 else k0_pay97 k0_pay73) (k0_pay70 (iblk m c 12 t)) (k0_pay71 (iblk m c 13 t)) (cut (iblk m c 7 t) (h / 2))
    (cut (iblk m c 8 t) (h / 2)) (cut (iblk m c 9 t) h) (page S h 0) (page (iblk m c 14 t) h 0) (page (iblk m c 15 t) h 0)

/-- The named power of head `h`'s decay. -/
def gam (h : ℕ) : Ideal .f32 :=
  match h with
  | 0 => Named.named κ "g0" 0x399ACCA1#32
  | 1 => Named.named κ "g1" 0x3C9160A5#32
  | 2 => Named.named κ "g2" 0x3E097FCE#32
  | 3 => Named.named κ "g3" 0x3EBBFC5D#32
  | 4 => Named.named κ "g4" 0x3F1B322A#32
  | 5 => Named.named κ "g5" 0x3F475941#32
  | 6 => Named.named κ "g6" 0x3F61E98D#32
  | 7 => Named.named κ "g7" 0x3F707CE8#32
  | _ => 0

/-- The state's page `h` after a grid point. -/
def updH (S : Vec Ideal S8x128x128 .f32) (h : ℕ) : ST :=
  upd (gam h) (k0_pay70 (iblk m c 12 t)) (k0_pay71 (iblk m c 13 t)) (cut (iblk m c 8 t) (h / 2)) (cut (iblk m c 9 t) h) (page S h 0)
    (page (iblk m c 16 t) h 0)

/-- What a grid point writes, over the state `S` before it. -/
def outV (S : Vec Ideal S8x128x128 .f32) : Vec Ideal S256x2048 .bf16 := fun y =>
  if (y 1).val < 1024 then
    k0_pay69 (sqA m c t 8) k0_pay68 (attA m c t) (iblk m c 17 t) (ix2 (y 0) (Fin.ofNat 1024 (y 1).val))
  else
    k0_pay85 (retH m c t S ((y 1).val / 128 - 8)) (cut (iblk m c 10 t) ((y 1).val / 128 - 8)) (cutg (iblk m c 18 t) ((y 1).val / 128 - 8))
      (ix2 (y 0) (Fin.ofNat 128 ((y 1).val % 128)))

/-- The state after a grid point. -/
def stV (S : Vec Ideal S8x128x128 .f32) : Vec Ideal S8x128x128 .f32 := fun y => updH m c t S (y 0).val (ix3 0 (y 1) (y 2))

theorem outV_ret (S : Vec Ideal S8x128x128 .f32) (y : S256x2048.Idx) (x : S256x128.Idx) (h off : ℕ) (e : off = 1024 + 128 * h)
    (h0 : (y 0).val = (x 0).val) (h1 : (y 1).val = off + (x 1).val) :
    k0_pay85 (retH m c t S h) (cut (iblk m c 10 t) h) (cutg (iblk m c 18 t) h) x = outV m c t S y := by
  have hx : (x 1).val < 128 := (x 1).isLt
  have e1 : (y 1).val / 128 - 8 = h := by omega
  have e2 : (y 1).val % 128 = (x 1).val := by omega
  unfold outV
  rw [if_neg (by omega), e1, e2]
  congr 1
  funext a
  fin_cases a
  · exact Fin.ext h0.symm
  · exact Fin.ext (Nat.mod_eq_of_lt hx).symm

theorem outV_att (S : Vec Ideal S8x128x128 .f32) (y : S256x2048.Idx) (x : S256x1024.Idx)
    (h0 : (y 0).val = (x 0).val) (h1 : (y 1).val = (x 1).val) :
    k0_pay69 (sqA m c t 8) k0_pay68 (attA m c t) (iblk m c 17 t) x = outV m c t S y := by
  have hx : (x 1).val < 1024 := (x 1).isLt
  unfold outV
  rw [if_pos (by omega), h1]
  congr 1
  funext a
  fin_cases a
  · exact Fin.ext h0.symm
  · exact Fin.ext (Nat.mod_eq_of_lt hx).symm

theorem outV_att' (S : Vec Ideal S8x128x128 .f32) (y : S256x2048.Idx) (x : S256x1024.Idx)
    (h0 : (y 0).val = (x 0).val) (h1 : (y 1).val = (x 1).val) (CH : FVec Ideal S256x1 .f32) (OA : FVec Ideal S256x1024 .f32)
    (e1 : CH = sqA m c t 8) (e2 : ∀ z, OA z = attA m c t z) :
    k0_pay69 CH k0_pay68 OA (iblk m c 17 t) x = outV m c t S y := by
  rw [e1, show OA = attA m c t from funext e2]
  exact outV_att m c t S y x h0 h1

theorem whole_idx (inb) (z : S256x1024.Idx) : (Rect.unit ![0, 0] ![256, 1024] inb : Rect S256x1024).toLoadRect.idx z = z := by
  funext a
  fin_cases a
  · exact Fin.ext (by show 0 + 1 * (z 0).val = (z 0).val; omega)
  · exact Fin.ext (by show 0 + 1 * (z 1).val = (z 1).val; omega)

theorem skip_page {v : View sig .tc .vmem S8x128x128 .f32} (k h : ℕ) (inb inb') (w) (L : List (View.Piece (Elt Ideal) S8x128x128 .f32))
    (hk : k < h) :
    v.readCov (⟨Rect.unit ![k, 0, 0] ![1, 128, 128] inb, w⟩ :: L) (Rect.unit ![h, 0, 0] ![1, 128, 128] inb').toLoadRect
      = v.readCov L (Rect.unit ![h, 0, 0] ![1, 128, 128] inb').toLoadRect := by
  rw [View.readCov_eq_canon', View.readCov_eq_canon']
  funext x
  refine View.canon_cons_of_not_mem _ _ fun hm => ?_
  obtain ⟨z, hz⟩ := (Rect.unit ![k, 0, 0] ![1, 128, 128] inb : Rect S8x128x128).exists_idx_of_mem hm
  have h0 : k + 1 * (z 0).val = h + 1 * (x 0).val := congrArg (fun y : S8x128x128.Idx => (y 0).val) hz
  have hz0 : (z 0).val < 1 := (z 0).isLt
  omega

theorem zero_page {v : View sig .tc .vmem S8x128x128 .f32} (h : ℕ) (inb inb') (X : Vec Ideal S8x128x128 .f32) :
    v.readCov [⟨Rect.unit ![0, 0, 0] ![8, 128, 128] inb, X⟩] (Rect.unit ![h, 0, 0] ![1, 128, 128] inb').toLoadRect = page X h 0 := by
  rw [View.readCov_eq_canon']
  funext x
  have h0 : h + 1 ≤ 8 := inb' 0
  have hx0 : (x 0).val < 1 := (x 0).isLt
  refine View.canon_eq_of_allAt _ _ _ (View.cover_of_tiledL _ ![8, 128, 128] (by sl_kernel_rfl) _) ?_
  refine View.allAt_cons_unit _ _ _ _ _ ?_ (View.allAt_nil _ _)
  intro z hz
  have e0 : h + 1 * (x 0).val = 0 + (z 0).val := hz 0
  have e1 : 0 + 1 * (x 1).val = 0 + (z 1).val := hz 1
  have e2 : 0 + 1 * (x 2).val = 0 + (z 2).val := hz 2
  have hx2 : (x 2).val < 128 := (x 2).isLt
  show X z = X _
  congr 1
  funext a
  fin_cases a
  · exact Fin.ext (by show (z 0).val = h % 8; rw [Nat.mod_eq_of_lt (by omega)]; omega)
  · exact Fin.ext (by show (z 1).val = (x 1).val; omega)
  · exact Fin.ext (by show (z 2).val = (0 + (x 2).val) % 128; rw [Nat.mod_eq_of_lt (by omega)]; omega)

theorem canon_append {s : Shape} {e : EltTy} (L M : List (View.Piece (Elt Ideal) s e)) (y : s.Idx) (v : Elt Ideal e)
    (hc : ∃ p ∈ L, y ∈ p.1.set) (h : View.AllAt L y v) : View.canon (L ++ M) y = v := by
  induction L with
  | nil => obtain ⟨p, hp, _⟩ := hc; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      refine ih ?_ fun q hq => h q (List.mem_cons_of_mem _ hq)
      obtain ⟨q, hq, hyq⟩ := hc
      rcases List.mem_cons.mp hq with rfl | hq
      · exact absurd hyq hm
      · exact ⟨q, hq, hyq⟩

theorem attA_eq (y : S256x1024.Idx) (x : S256x128.Idx) (h off : ℕ) (e : off = 128 * h)
    (h0 : (y 0).val = (x 0).val) (h1 : (y 1).val = off + (x 1).val) :
    k0_pay21 (attH m c t h) x = attA m c t y := by
  have hx : (x 1).val < 128 := (x 1).isLt
  have e1 : (y 1).val / 128 = h := by omega
  have e2 : (y 1).val % 128 = (x 1).val := by omega
  unfold attA k0_pay21
  rw [e1, e2]
  rw [shapeCast_self]
  congr 1
  funext a
  fin_cases a
  · exact Fin.ext h0.symm
  · exact Fin.ext (Nat.mod_eq_of_lt hx).symm

theorem stV_eq (S : Vec Ideal S8x128x128 .f32) (y : S8x128x128.Idx) (x : S1x128x128.Idx) (h : ℕ)
    (h0 : (y 0).val = h + (x 0).val) (h1 : (y 1).val = (x 1).val) (h2 : (y 2).val = (x 2).val) :
    updH m c t S h x = stV m c t S y := by
  have hx : (x 0).val < 1 := (x 0).isLt
  have e0 : (y 0).val = h := by omega
  unfold stV
  rw [e0]
  congr 1
  funext a
  fin_cases a
  · exact Fin.ext (by show (x 0).val = 0; omega)
  · exact Fin.ext h1.symm
  · exact Fin.ext h2.symm

end Cert.Mix

end
-- ==== Proof.AttPt.lean ====
module

public import proofs.«01_k».proof.Proof.Cuts
public import proofs.«01_k».proof.Proof.AttSpec

@[expose] public section

set_option maxRecDepth 16384

noncomputable section

/-! One attention head's block, read at a row and a column. -/

namespace Cert.Mix

open Cert.KernelIdeal Cert.KernelIdeal.Gen Idealize.ShloMosaic Idealize.ShloMosaic.TcCoe Idealize.SL.Sem

theorem pay32_pt (q k : QB) (b : BB) (r s : Fin 256) :
    k0_pay32 q k b (ix2 r s)
      = ((∑ x : Fin 128, q (ix2 r x) * k (ix2 s x)) * Ideal.ofBits .f32 1035273459#32 + b (ix3 (0 : Fin 1) r s) : EReal) := by
  unfold k0_pay32
  pointwise
  try rfl

theorem pay17_pt (o : BitVec 1) (q k : QB) (b : BB) (r s : Fin 256) :
    k0_pay17 o q k b (ix2 r s)
      = (if o = 1#1 then (∑ x : Fin 128, q (ix2 r x) * k (ix2 s x)) * Ideal.ofBits .f32 1035273459#32 + b (ix3 (0 : Fin 1) r s) else ⊥ : EReal) := by
  unfold k0_pay17
  pointwise
  rfl

theorem lit_bot : (Ideal.ofBits .f32 4286578688#32 : EReal) = ⊥ := by
  simp [Ideal.ofBits, Ideal.ieee]

theorem pay33_pt (s0 s1 s2 : FVec Ideal S256x256 .f32) (v0 v1 v2 : QB) (r : Fin 256) (d : Fin 128)
    (h0 : ∀ j : Fin 256, (s0 (ix2 r j) : EReal) ≠ ⊤) (h1 : ∀ j : Fin 256, (s1 (ix2 r j) : EReal) ≠ ⊤)
    (h2 : ∀ j : Fin 256, (s2 (ix2 r j) : EReal) ≠ ⊤) (j0 : Fin 256) (hj : (s2 (ix2 r j0) : EReal) ≠ ⊥)
    (W : ℝ) (hW : W = ((∑ j : Fin 256, wt (s0 (ix2 r j))) + ∑ j : Fin 256, wt (s1 (ix2 r j))) + ∑ j : Fin 256, wt (s2 (ix2 r j))) :
    k0_pay33 s0 s1 s2 v0 v1 v2 (ix2 r d)
      = (((∑ j : Fin 256, ((wt (s0 (ix2 r j)) / W : ℝ) : EReal) * v0 (ix2 j d)) + ∑ j : Fin 256, ((wt (s1 (ix2 r j)) / W : ℝ) : EReal) * v1 (ix2 j d))
          + ∑ j : Fin 256, ((wt (s2 (ix2 r j)) / W : ℝ) : EReal) * v2 (ix2 j d) : EReal) := by
  unfold k0_pay33
  pointwise
  refine (attn_three (fun j : Fin 256 => s0 (ix2 r j)) (fun j => s1 (ix2 r j)) (fun j => s2 (ix2 r j)) (fun j => v0 (ix2 j d))
    (fun j => v1 (ix2 j d)) (fun j => v2 (ix2 j d)) _ h0 h1 h2 j0 hj ?_ ?_ W hW)
  · refine ne_of_lt (max_lt (max_lt ?_ ?_) ?_) <;> refine lt_top_iff_ne_top.2 (fold_max_ne_top _ _ ?_ ?_) <;>
      first | exact h0 | exact h1 | exact h2 | (rw [lit_bot]; exact bot_ne_top)
  · refine ne_of_gt (lt_of_lt_of_le (bot_lt_iff_ne_bot.2 (fold_max_ne_bot _ _ j0 hj)) (le_max_right _ _))

theorem pay69_pt (a b : FVec Ideal S256x1 .f32) (o : FVec Ideal S256x1024 .f32) (g : Vec Ideal S1x1024 .f32) (r : Fin 256) (d : Fin 1024) :
    k0_pay69 a b o g (ix2 r d)
      = (o (ix2 r d) * Ideal.rsqrt (a (ix2 r (0 : Fin 1)) * b (ix2 r (0 : Fin 1)) + Ideal.ofBits .f32 925353388#32) * g (ix2 (0 : Fin 1) d) : EReal) := by
  unfold k0_pay69
  pointwise
  try rfl

theorem pay22_pt (a : FVec Ideal S256x1 .f32) (o : FVec Ideal S256x128 .f32) (r : Fin 256)  :
    k0_pay22 a o (ix2 r (0 : Fin 1)) = (a (ix2 r (0 : Fin 1)) + ∑ x : Fin 128, o (ix2 r x) * o (ix2 r x) : EReal) := by
  unfold k0_pay22
  pointwise
  try rfl

theorem pay3_pt (r : Fin 256) : (k0_pay3 (F := Ideal) (ix2 r (0 : Fin 1)) : EReal) = 0 := by
  unfold k0_pay3
  pointwise
  try simp [Ideal.ofBits, Ideal.ieee]

theorem pay68_pt (r : Fin 256) : (k0_pay68 (F := Ideal) (ix2 r (0 : Fin 1)) : EReal) = ((1 / 1024 : ℝ) : EReal) := by
  unfold k0_pay68
  pointwise
  simp [Ideal.ofBits, Ideal.ieee, -EReal.coe_mul]
  norm_num

variable (m : (ℓ : Loc nD τ sig) → Buf (Elt Ideal) ℓ) (c : Dev nD) (t : Fin cfg0.N)

theorem sqA_pt (r : Fin 256) (n : ℕ) :
    (sqA m c t n (ix2 r (0 : Fin 1)) : EReal) = ∑ h ∈ Finset.range n, ∑ x : Fin 128, (attH m c t h (ix2 r x) * attH m c t h (ix2 r x) : EReal) := by
  induction n with
  | zero => rw [Finset.range_zero, Finset.sum_empty]; exact pay3_pt r
  | succ n ih => rw [sqA, pay22_pt, ih, Finset.sum_range_succ]

end Cert.Mix

end
-- ==== Proof.AttRd.lean ====
module

public import proofs.«01_k».proof.Proof.Cuts
public import proofs.«01_k».proof.Proof.Words
public import proofs.«01_k».proof.Proof.Gath
public import proofs.«01_k».proof.Proof.AttSpec
public import Idealize.ShloMosaic.Lib.StableHlo.ReadAt

@[expose] public section

set_option maxRecDepth 16384

noncomputable section

/-! The blocks a grid point reads, entry by entry, from the arguments. -/

namespace Cert.Mix

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

theorem idxq : ∀ t : Fin cfg0.N, win0_0.index t = ![t.val, 0]
    ∧ win0_1.index t = ![16 * (t.val / 16) + (t.val % 16 - 2), 1] ∧ win0_2.index t = ![16 * (t.val / 16) + (t.val % 16 - 1), 1]
    ∧ win0_3.index t = ![t.val, 1]
    ∧ win0_4.index t = ![16 * (t.val / 16) + (t.val % 16 - 2), 2] ∧ win0_5.index t = ![16 * (t.val / 16) + (t.val % 16 - 1), 2]
    ∧ win0_6.index t = ![t.val, 2] ∧ win0_11.index t = ![0, 0, 0] ∧ win0_17.index t = ![0, 0] ∧ win0_19.index t = ![t.val, 0] := (by decide +kernel : ∀ t : Fin grid0.N, _)

theorem rd0 (r : Fin 256) (x : Fin 1024) :
    (iblk m c 0 t (ix2 r x) : EReal) = xa (m ((c.tc : Thread nD τ).loc main_arg0)) (t.val * 256 + r.val) x.val := by
  have hr := r.isLt
  have hx := x.isLt
  have ht : t.val < 32 := t.isLt
  unfold xa
  blk_point [iblk, V, idxq t]
  all_goals (simp only [Fin.val_ofNat]; omega)

theorem rd1 (r : Fin 256) (x : Fin 1024) :
    (iblk m c 1 t (ix2 r x) : EReal) = xa (m ((c.tc : Thread nD τ).loc main_arg0)) ((16 * (t.val / 16) + (t.val % 16 - 2)) * 256 + r.val) (1024 + x.val) := by
  have hr := r.isLt
  have hx := x.isLt
  have ht : t.val < 32 := t.isLt
  unfold xa
  blk_point [iblk, V, idxq t]
  all_goals (simp only [Fin.val_ofNat]; omega)

theorem rd2 (r : Fin 256) (x : Fin 1024) :
    (iblk m c 2 t (ix2 r x) : EReal) = xa (m ((c.tc : Thread nD τ).loc main_arg0)) ((16 * (t.val / 16) + (t.val % 16 - 1)) * 256 + r.val) (1024 + x.val) := by
  have hr := r.isLt
  have hx := x.isLt
  have ht : t.val < 32 := t.isLt
  unfold xa
  blk_point [iblk, V, idxq t]
  all_goals (simp only [Fin.val_ofNat]; omega)

theorem rd3 (r : Fin 256) (x : Fin 1024) :
    (iblk m c 3 t (ix2 r x) : EReal) = xa (m ((c.tc : Thread nD τ).loc main_arg0)) (t.val * 256 + r.val) (1024 + x.val) := by
  have hr := r.isLt
  have hx := x.isLt
  have ht : t.val < 32 := t.isLt
  unfold xa
  blk_point [iblk, V, idxq t]
  all_goals (simp only [Fin.val_ofNat]; omega)

theorem rd4 (r : Fin 256) (x : Fin 1024) :
    (iblk m c 4 t (ix2 r x) : EReal) = xa (m ((c.tc : Thread nD τ).loc main_arg0)) ((16 * (t.val / 16) + (t.val % 16 - 2)) * 256 + r.val) (2048 + x.val) := by
  have hr := r.isLt
  have hx := x.isLt
  have ht : t.val < 32 := t.isLt
  unfold xa
  blk_point [iblk, V, idxq t]
  all_goals (simp only [Fin.val_ofNat]; omega)

theorem rd5 (r : Fin 256) (x : Fin 1024) :
    (iblk m c 5 t (ix2 r x) : EReal) = xa (m ((c.tc : Thread nD τ).loc main_arg0)) ((16 * (t.val / 16) + (t.val % 16 - 1)) * 256 + r.val) (2048 + x.val) := by
  have hr := r.isLt
  have hx := x.isLt
  have ht : t.val < 32 := t.isLt
  unfold xa
  blk_point [iblk, V, idxq t]
  all_goals (simp only [Fin.val_ofNat]; omega)

theorem rd6 (r : Fin 256) (x : Fin 1024) :
    (iblk m c 6 t (ix2 r x) : EReal) = xa (m ((c.tc : Thread nD τ).loc main_arg0)) (t.val * 256 + r.val) (2048 + x.val) := by
  have hr := r.isLt
  have hx := x.isLt
  have ht : t.val < 32 := t.isLt
  unfold xa
  blk_point [iblk, V, idxq t]
  all_goals (simp only [Fin.val_ofNat]; omega)

theorem rd11 (h : Fin 8) (r : Fin 256) (s : Fin 768) :
    iblk m c 11 t (ix3 h r s) = V m c main_v36 (ix3 h r s) := by
  blk_simp [iblk, idxq t]
  have e : ((View.whole main_v36).slice (win0_11.rect t)).emb (ix3 h r s) = ix3 h r s := by
    funext a; apply Fin.ext; fin_cases a <;> blk_simp [idxq t] <;> first | rfl | simp | omega
  rw [e]

theorem rd17 (k : Fin 1024) :
    (iblk m c 17 t (ix2 (0 : Fin 1) k) : EReal) = m ((c.tc : Thread nD τ).loc main_arg2) (ix2 (0 : Fin 1) k) := by
  blk_simp [iblk, idxq t]
  have e : ((View.whole main_v123).slice (win0_17.rect t)).emb (ix2 (0 : Fin 1) k) = ix2 (0 : Fin 1) k := by
    funext a; apply Fin.ext; fin_cases a <;> blk_simp [idxq t] <;> first | rfl | simp | omega
  have f : (win0_17.blk t).view.emb (ix2 (0 : Fin 1) k) = ix2 (0 : Fin 1) k := e
  rw [f]
  unfold V
  after_reads_at

end Cert.Mix

end
-- ==== Proof.AttTab.lean ====
module

public import proofs.«01_k».proof.Proof.Cuts
public import proofs.«01_k».proof.Proof.Words
public import proofs.«01_k».proof.Proof.Gath
public import proofs.«01_k».proof.Proof.AttPt
public import proofs.«01_k».proof.Proof.AttSpec
public import Idealize.ShloMosaic.Lib.StableHlo.ReadAt

@[expose] public section

set_option maxRecDepth 16384

noncomputable section

/-! The blocks a grid point reads, entry by entry, from the arguments. -/

namespace Cert.Mix

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

set_option maxHeartbeats 4000000 in
/-- The table the grid points read: the table of distances in the band of nine chunks, nothing outside it. -/
theorem vtab (h : Fin 8) (r : Fin 256) (s : Fin 768) :
    (V m c main_v36 (ix3 h r s) : EReal) = if s.val / 64 ≤ r.val / 64 + 8 ∧ r.val / 64 ≤ s.val / 64
      then rb (m ((c.tc : Thread nD τ).loc main_arg1)) h.val (min (r.val + 512 + 63 - s.val) 319) else ⊥ := by
  have hr := r.isLt
  have hs := s.isLt
  unfold V
  after_reads_at
  rw [show Host.gather gather_S8x320_S256x768x1_S8x256x768_0_1_n_n_1_2_81 = Host.gather (colsDims 8 320 256 768 gather_S8x320_S256x768x1_S8x256x768_0_1_n_n_1_2_81_wf) from rfl]
  rw [gather_cols (by norm_num)]
  pointwise
  simp only [id, constantI]
  refine (band_sel _ _ (s.val / 64) (r.val / 64) (floor_word s.val (by omega)) (floor_word r.val (by omega)) (by omega) (by omega) _ _).trans ?_
  by_cases hb : s.val / 64 ≤ r.val / 64 + 8 ∧ r.val / 64 ≤ s.val / 64
  · rw [if_pos hb, if_pos hb]
    unfold rb
    refine congrArg (m ((c.tc : Thread nD τ).loc main_arg1)) ?_
    have c5 : (512#32 : BitVec 32).toInt = 512 := by decide
    have e5 : (IntOp.addi (BitVec.ofNat 32 r.val) 512#32).toInt = r.val + 512 := by
      rw [ti_add] <;> rw [ti_ofNat r.val (by omega), c5] <;> omega
    have e6 : (IntOp.subi (IntOp.addi (BitVec.ofNat 32 r.val) 512#32) (BitVec.ofNat 32 s.val)).toInt = r.val + 512 - s.val := by
      rw [ti_sub] <;> rw [ti_ofNat s.val (by omega), e5] <;> omega
    have hw := clip_word _ (r.val + 512) s.val (by omega) (by omega) (e6.trans (by push_cast; rfl))
    have hh := h.isLt
    funext a
    apply Fin.ext
    fin_cases a
    · rfl
    · show h.val = h.val % 8
      omega
    · show min _ 319 = _ % 320
      rw [hw]
      omega
  · rw [if_neg hb, if_neg hb]
    exact lit_bot

end Cert.Mix

end
-- ==== Proof.AttKer.lean ====
module

public import proofs.«01_k».proof.Proof.AttPt
public import proofs.«01_k».proof.Proof.AttRd
public import proofs.«01_k».proof.Proof.AttTab

@[expose] public section

set_option maxRecDepth 16384

noncomputable section

/-! One attention head's block at a grid point: its three score blocks are the scores of the query's window of 576 keys
    and nothing beside it, so its weighted values are the window's. -/

namespace Cert.Mix

open Cert.KernelIdeal Cert.KernelIdeal.Gen Idealize.ShloMosaic Idealize.ShloMosaic.TcCoe Idealize.SL.Sem

theorem ge_two : ∀ t : Fin cfg0.N, ge (grid0.coords t) 2#32 = if 2 ≤ t.val % 16 then 1#1 else 0#1 :=
  (by decide +kernel : ∀ t : Fin grid0.N, ge (grid0.coords t) 2#32 = if 2 ≤ t.val % 16 then 1#1 else 0#1)

theorem ge_one : ∀ t : Fin cfg0.N, ge (grid0.coords t) 1#32 = if 1 ≤ t.val % 16 then 1#1 else 0#1 :=
  (by decide +kernel : ∀ t : Fin grid0.N, ge (grid0.coords t) 1#32 = if 1 ≤ t.val % 16 then 1#1 else 0#1)

/-- The kernel's score at place `j` of the 768 keys that end with the query's block of 256. -/
def ks (X : (⟨2, ![8192, 6144]⟩ : Shape).Idx → EReal) (R : (⟨3, ![1, 8, 320]⟩ : Shape).Idx → EReal) (b i h r j : ℕ) : EReal :=
  if 512 ≤ i * 256 + j ∧ j / 64 ≤ r / 64 + 8 ∧ r / 64 ≤ j / 64 then sc X R b h (i * 256 + r) (i * 256 + j - 512) else ⊥

variable (m : (ℓ : Loc nD τ sig) → Buf (Elt Ideal) ℓ) (c : Dev nD) (t : Fin cfg0.N)

/-- The projection and the table of distances. -/
abbrev aX : (⟨2, ![8192, 6144]⟩ : Shape).Idx → EReal := m ((c.tc : Thread nD τ).loc main_arg0)
abbrev aR : (⟨3, ![1, 8, 320]⟩ : Shape).Idx → EReal := m ((c.tc : Thread nD τ).loc main_arg1)

theorem q_pt (h : ℕ) (hh : h < 8) (r : Fin 256) (x : Fin 128) :
    (cut (iblk m c 0 t) h (ix2 r x) : EReal) = xa (aX m c) (t.val / 16 * 4096 + (t.val % 16 * 256 + r.val)) (128 * h + x.val) := by
  have hx := x.isLt
  refine (rd0 m c t r (Fin.ofNat 1024 (128 * h + x.val))).trans ?_
  rw [Fin.val_ofNat, Nat.mod_eq_of_lt (show 128 * h + x.val < 1024 by omega)]
  refine congrArg₂ (xa (aX m c)) ?_ ?_ <;> omega

theorem k0_pt (h : ℕ) (hh : h < 8) (s : Fin 256) (x : Fin 128) (hi : 2 ≤ t.val % 16) :
    (cut (iblk m c 1 t) h (ix2 s x) : EReal)
      = xa (aX m c) (t.val / 16 * 4096 + (t.val % 16 * 256 + s.val - 512)) (1024 + 128 * h + x.val) := by
  have hx := x.isLt
  refine (rd1 m c t s (Fin.ofNat 1024 (128 * h + x.val))).trans ?_
  rw [Fin.val_ofNat, Nat.mod_eq_of_lt (show 128 * h + x.val < 1024 by omega)]
  refine congrArg₂ (xa (aX m c)) ?_ ?_ <;> omega

theorem k1_pt (h : ℕ) (hh : h < 8) (s : Fin 256) (x : Fin 128) (hi : 1 ≤ t.val % 16) :
    (cut (iblk m c 2 t) h (ix2 s x) : EReal)
      = xa (aX m c) (t.val / 16 * 4096 + (t.val % 16 * 256 + (256 + s.val) - 512)) (1024 + 128 * h + x.val) := by
  have hx := x.isLt
  refine (rd2 m c t s (Fin.ofNat 1024 (128 * h + x.val))).trans ?_
  rw [Fin.val_ofNat, Nat.mod_eq_of_lt (show 128 * h + x.val < 1024 by omega)]
  refine congrArg₂ (xa (aX m c)) ?_ ?_ <;> omega

theorem k2_pt (h : ℕ) (hh : h < 8) (s : Fin 256) (x : Fin 128) :
    (cut (iblk m c 3 t) h (ix2 s x) : EReal)
      = xa (aX m c) (t.val / 16 * 4096 + (t.val % 16 * 256 + (512 + s.val) - 512)) (1024 + 128 * h + x.val) := by
  have hx := x.isLt
  refine (rd3 m c t s (Fin.ofNat 1024 (128 * h + x.val))).trans ?_
  rw [Fin.val_ofNat, Nat.mod_eq_of_lt (show 128 * h + x.val < 1024 by omega)]
  refine congrArg₂ (xa (aX m c)) ?_ ?_ <;> omega

theorem v0_pt (h : ℕ) (hh : h < 8) (s : Fin 256) (x : Fin 128) (hi : 2 ≤ t.val % 16) :
    (cut (iblk m c 4 t) h (ix2 s x) : EReal)
      = xa (aX m c) (t.val / 16 * 4096 + (t.val % 16 * 256 + s.val - 512)) (2048 + 128 * h + x.val) := by
  have hx := x.isLt
  refine (rd4 m c t s (Fin.ofNat 1024 (128 * h + x.val))).trans ?_
  rw [Fin.val_ofNat, Nat.mod_eq_of_lt (show 128 * h + x.val < 1024 by omega)]
  refine congrArg₂ (xa (aX m c)) ?_ ?_ <;> omega

theorem v1_pt (h : ℕ) (hh : h < 8) (s : Fin 256) (x : Fin 128) (hi : 1 ≤ t.val % 16) :
    (cut (iblk m c 5 t) h (ix2 s x) : EReal)
      = xa (aX m c) (t.val / 16 * 4096 + (t.val % 16 * 256 + (256 + s.val) - 512)) (2048 + 128 * h + x.val) := by
  have hx := x.isLt
  refine (rd5 m c t s (Fin.ofNat 1024 (128 * h + x.val))).trans ?_
  rw [Fin.val_ofNat, Nat.mod_eq_of_lt (show 128 * h + x.val < 1024 by omega)]
  refine congrArg₂ (xa (aX m c)) ?_ ?_ <;> omega

theorem v2_pt (h : ℕ) (hh : h < 8) (s : Fin 256) (x : Fin 128) :
    (cut (iblk m c 6 t) h (ix2 s x) : EReal)
      = xa (aX m c) (t.val / 16 * 4096 + (t.val % 16 * 256 + (512 + s.val) - 512)) (2048 + 128 * h + x.val) := by
  have hx := x.isLt
  refine (rd6 m c t s (Fin.ofNat 1024 (128 * h + x.val))).trans ?_
  rw [Fin.val_ofNat, Nat.mod_eq_of_lt (show 128 * h + x.val < 1024 by omega)]
  refine congrArg₂ (xa (aX m c)) ?_ ?_ <;> omega

theorem tb_pt (h : ℕ) (hh : h < 8) (o : ℕ) (ho : o + 256 ≤ 768) (r s : Fin 256) :
    (page (w := 256) (iblk m c 11 t) h o (ix3 (0 : Fin 1) r s) : EReal)
      = if (o + s.val) / 64 ≤ r.val / 64 + 8 ∧ r.val / 64 ≤ (o + s.val) / 64
          then rb (aR m c) h (min (r.val + 512 + 63 - (o + s.val)) 319) else ⊥ := by
  have hs := s.isLt
  refine ((rd11 m c t (Fin.ofNat 8 h) r (Fin.ofNat 768 (o + s.val))).trans (vtab m c _ _ _)).trans ?_
  rw [Fin.val_ofNat, Fin.val_ofNat, Nat.mod_eq_of_lt (by omega), Nat.mod_eq_of_lt hh]

/-- A dot product, scaled, plus the table's entry, is the score in the band and nothing outside it. -/
theorem ks_of (b i h r j : ℕ) (S : EReal) (hr : r < 256) (hj : j < 768) (h5 : 512 ≤ i * 256 + j)
    (hS : S = ∑ d : Fin 128, xa (aX m c) (b * 4096 + (i * 256 + r)) (128 * h + d.val)
      * xa (aX m c) (b * 4096 + (i * 256 + j - 512)) (1024 + 128 * h + d.val)) :
    S * Ideal.ofBits .f32 1035273459#32
        + (if j / 64 ≤ r / 64 + 8 ∧ r / 64 ≤ j / 64 then rb (aR m c) h (min (r + 512 + 63 - j) 319) else ⊥)
      = ks (aX m c) (aR m c) b i h r j := by
  unfold ks
  by_cases hb : j / 64 ≤ r / 64 + 8 ∧ r / 64 ≤ j / 64
  · rw [if_pos hb, if_pos ⟨h5, hb⟩, hS]
    unfold sc
    rw [show i * 256 + r + 63 - (i * 256 + j - 512) = r + 512 + 63 - j by omega]
  · rw [if_neg hb, if_neg (fun hn => hb hn.2), EReal.add_bot]

theorem s0_pt (h : ℕ) (hh : h < 8) (r s : Fin 256) :
    (k0_pay17 (ge (grid0.coords t) 2#32) (cut (iblk m c 0 t) h) (cut (iblk m c 1 t) h) (page (iblk m c 11 t) h 0) (ix2 r s) : EReal)
      = ks (aX m c) (aR m c) (t.val / 16) (t.val % 16) h r.val s.val := by
  have hr := r.isLt
  have hs := s.isLt
  rw [pay17_pt, ge_two]
  by_cases hi : 2 ≤ t.val % 16
  · rw [if_pos hi, if_pos rfl, tb_pt m c t h hh 0 (by omega), Nat.zero_add]
    refine ks_of m c _ _ _ _ _ _ hr (by omega) (by omega) (Finset.sum_congr rfl fun x _ => ?_)
    rw [q_pt m c t h hh, k0_pt m c t h hh _ _ hi]
  · rw [if_neg hi, if_neg (by decide)]
    unfold ks
    rw [if_neg (by omega)]

theorem s1_pt (h : ℕ) (hh : h < 8) (r s : Fin 256) :
    (k0_pay17 (ge (grid0.coords t) 1#32) (cut (iblk m c 0 t) h) (cut (iblk m c 2 t) h) (page (iblk m c 11 t) h 256) (ix2 r s) : EReal)
      = ks (aX m c) (aR m c) (t.val / 16) (t.val % 16) h r.val (256 + s.val) := by
  have hr := r.isLt
  have hs := s.isLt
  rw [pay17_pt, ge_one]
  by_cases hi : 1 ≤ t.val % 16
  · rw [if_pos hi, if_pos rfl, tb_pt m c t h hh 256 (by omega)]
    refine ks_of m c _ _ _ _ _ _ hr (by omega) (by omega) (Finset.sum_congr rfl fun x _ => ?_)
    rw [q_pt m c t h hh, k1_pt m c t h hh _ _ hi]
  · rw [if_neg hi, if_neg (by decide)]
    unfold ks
    rw [if_neg (by omega)]

theorem s2_pt (h : ℕ) (hh : h < 8) (r s : Fin 256) :
    (k0_pay32 (cut (iblk m c 0 t) h) (cut (iblk m c 3 t) h) (page (iblk m c 11 t) h 512) (ix2 r s) : EReal)
      = ks (aX m c) (aR m c) (t.val / 16) (t.val % 16) h r.val (512 + s.val) := by
  have hr := r.isLt
  have hs := s.isLt
  rw [pay32_pt, tb_pt m c t h hh 512 (by omega)]
  refine ks_of m c _ _ _ _ _ _ hr (by omega) (by omega) (Finset.sum_congr rfl fun x _ => ?_)
  rw [q_pt m c t h hh, k2_pt m c t h hh]

theorem ks_in (X : (⟨2, ![8192, 6144]⟩ : Shape).Idx → EReal) (R : (⟨3, ![1, 8, 320]⟩ : Shape).Idx → EReal) (b i h r u : ℕ) (hr : r < 256)
    (hu : u < 576) : ks X R b i h r (64 * (r / 64) + u) = rs X R b h (i * 256 + r) u := by
  unfold ks rs
  have ep : (i * 256 + r) / 64 * 64 = i * 256 + 64 * (r / 64) := by omega
  rw [ep]
  by_cases h5 : 512 ≤ i * 256 + 64 * (r / 64) + u
  · rw [if_pos h5, if_pos ⟨by omega, by omega, by omega⟩, Nat.add_assoc]
  · rw [if_neg h5, if_neg (by omega)]

theorem ks_out (X : (⟨2, ![8192, 6144]⟩ : Shape).Idx → EReal) (R : (⟨3, ![1, 8, 320]⟩ : Shape).Idx → EReal) (b i h r j : ℕ) (hr : r < 256)
    (hj : j < 64 * (r / 64) ∨ 64 * (r / 64) + 576 ≤ j) : ks X R b i h r j = ⊥ := by
  unfold ks
  rw [if_neg (by omega)]

theorem wts_eq (X : (⟨2, ![8192, 6144]⟩ : Shape).Idx → EReal) (R : (⟨3, ![1, 8, 320]⟩ : Shape).Idx → EReal) (b i h r : ℕ) (hr : r < 256) :
    ∑ u ∈ Finset.range 576, wt (rs X R b h (i * 256 + r) u) = ∑ j ∈ Finset.range 768, wt (ks X R b i h r j) := by
  rw [← sum_window' (fun j => wt (ks X R b i h r j)) (64 * (r / 64)) 576 768 (by omega)]
  · refine Finset.sum_congr rfl fun u hu => ?_
    rw [ks_in X R b i h r u hr (Finset.mem_range.1 hu)]
  · intro j hj ho
    show wt (ks X R b i h r j) = 0
    rw [ks_out X R b i h r j hr ho, wt_bot]

variable (hX : ∀ r k, k < 2048 → xa (aX m c) r k ≠ ⊤ ∧ xa (aX m c) r k ≠ ⊥) (hR : ∀ h n, rb (aR m c) h n ≠ ⊤ ∧ rb (aR m c) h n ≠ ⊥)

include hX hR

theorem ks_top (b i h r j : ℕ) (hh : h < 8) : ks (aX m c) (aR m c) b i h r j ≠ ⊤ := by
  unfold ks
  by_cases h5 : 512 ≤ i * 256 + j ∧ j / 64 ≤ r / 64 + 8 ∧ r / 64 ≤ j / 64
  · rw [if_pos h5]; exact (sc_finite _ _ hX hR b h _ _ hh).1
  · rw [if_neg h5]; exact bot_ne_top

theorem ks_bot (b i h r : ℕ) (hh : h < 8) : ks (aX m c) (aR m c) b i h r (512 + r) ≠ ⊥ := by
  unfold ks
  rw [if_pos (by omega)]; exact (sc_finite _ _ hX hR b h _ _ hh).2

/-- One attention head at a grid point is the reference's attention. -/
theorem attH_pt (h : ℕ) (hh : h < 8) (r : Fin 256) (d : Fin 128) :
    (attH m c t h (ix2 r d) : EReal) = att (aX m c) (aR m c) (t.val / 16) h (t.val % 16 * 256 + r.val) d.val := by
  have hr := r.isLt
  have key : ∀ j : ℕ, ∀ v : EReal,
      (512 ≤ t.val % 16 * 256 + j → v = xa (aX m c) (t.val / 16 * 4096 + (t.val % 16 * 256 + j - 512)) (2048 + 128 * h + d.val)) →
      ((wt (ks (aX m c) (aR m c) (t.val / 16) (t.val % 16) h r.val j)
          / ∑ u ∈ Finset.range 576, wt (rs (aX m c) (aR m c) (t.val / 16) h (t.val % 16 * 256 + r.val) u) : ℝ) : EReal) * v
        = ((wt (ks (aX m c) (aR m c) (t.val / 16) (t.val % 16) h r.val j)
          / ∑ u ∈ Finset.range 576, wt (rs (aX m c) (aR m c) (t.val / 16) h (t.val % 16 * 256 + r.val) u) : ℝ) : EReal)
          * xa (aX m c) (t.val / 16 * 4096 + (t.val % 16 * 256 + j - 512)) (2048 + 128 * h + d.val) := by
    intro j v hv
    by_cases h5 : 512 ≤ t.val % 16 * 256 + j
    · rw [hv h5]
    · have : wt (ks (aX m c) (aR m c) (t.val / 16) (t.val % 16) h r.val j) = 0 := by
        unfold ks
        rw [if_neg (fun hn => h5 hn.1), wt_bot]
      rw [this, zero_div, EReal.coe_zero, zero_mul, zero_mul]
  unfold attH attn
  rw [pay33_pt _ _ _ _ _ _ r d (fun j => by rw [s0_pt m c t h hh]; exact ks_top m c hX hR _ _ _ _ _ hh)
    (fun j => by rw [s1_pt m c t h hh]; exact ks_top m c hX hR _ _ _ _ _ hh)
    (fun j => by rw [s2_pt m c t h hh]; exact ks_top m c hX hR _ _ _ _ _ hh) r
    (by rw [s2_pt m c t h hh]; exact ks_bot m c hX hR _ _ _ _ hh)
    (∑ u ∈ Finset.range 576, wt (rs (aX m c) (aR m c) (t.val / 16) h (t.val % 16 * 256 + r.val) u))
    (by
      simp only [s0_pt m c t h hh, s1_pt m c t h hh, s2_pt m c t h hh]
      rw [sum_three (fun j => wt (ks (aX m c) (aR m c) (t.val / 16) (t.val % 16) h r.val j))]
      exact wts_eq _ _ _ _ _ _ hr)]
  simp only [s0_pt m c t h hh, s1_pt m c t h hh, s2_pt m c t h hh]
  rw [Finset.sum_congr rfl fun (j : Fin 256) _ => key j.val _ fun h5 => v0_pt m c t h hh j d (by omega),
    Finset.sum_congr rfl fun (j : Fin 256) _ => key (256 + j.val) _ fun h5 => v1_pt m c t h hh j d (by omega),
    Finset.sum_congr rfl fun (j : Fin 256) _ => key (512 + j.val) _ fun h5 => v2_pt m c t h hh j d]
  rw [sum_three (fun j => ((wt (ks (aX m c) (aR m c) (t.val / 16) (t.val % 16) h r.val j)
          / ∑ u ∈ Finset.range 576, wt (rs (aX m c) (aR m c) (t.val / 16) h (t.val % 16 * 256 + r.val) u) : ℝ) : EReal)
          * xa (aX m c) (t.val / 16 * 4096 + (t.val % 16 * 256 + j - 512)) (2048 + 128 * h + d.val)),
    ← sum_window' _ (64 * (r.val / 64)) 576 768 (by omega)]
  · unfold att
    refine Finset.sum_congr rfl fun u hu => ?_
    rw [ks_in _ _ _ _ _ _ u hr (Finset.mem_range.1 hu),
      show t.val % 16 * 256 + (64 * (r.val / 64) + u) - 512 = (t.val % 16 * 256 + r.val) / 64 * 64 + u - 512 by omega]
  · intro j hj ho
    rw [ks_out _ _ _ _ _ _ j hr ho, wt_bot, zero_div, EReal.coe_zero, zero_mul]

end Cert.Mix

end
-- ==== Proof.OutA1.lean ====
module

public import proofs.«01_k».proof.Defs
public import proofs.«01_k».proof.Proof.Gen.KernelIdeal.Value
public import proofs.«01_k».proof.Proof.Cuts
public import Idealize.ShloMosaic.Lib.Pipeline.ValueKit
public import Idealize.ShloMosaic.Lib.Pointwise
public import Idealize.ShloMosaic.Lib.Pipeline.ReadBack

@[expose] public section

set_option maxRecDepth 16384

noncomputable section

/-! What a grid point that zeroes the state writes and keeps. -/

namespace Cert.Mix

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

theorem outA (h : t.val % 16 = 0) : (outsAt0 m c t.val t.isLt).1 = outV m c t (k0_pay2 (F := Ideal)) := by
  funext y
  rw [outsAt0_A m c t h]
  frame_out
  refine View.canon_eq_of_allAt _ y _ (View.cover_of_tiledBy _ ![256, 128] (by sl_kernel_rfl) y) ?_
  refine View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <|  View.allAt_nil _ _
  all_goals tile_intro x h
  · simp (config := { decide := true }) only [↓skip_page, ↓zero_page]
    rw [rv7]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 7 1920 rfl (by omega) (by omega)
  · simp (config := { decide := true }) only [↓skip_page, ↓zero_page]
    rw [rv6]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 6 1792 rfl (by omega) (by omega)
  · simp (config := { decide := true }) only [↓skip_page, ↓zero_page]
    rw [rv5]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 5 1664 rfl (by omega) (by omega)
  · simp (config := { decide := true }) only [↓skip_page, ↓zero_page]
    rw [rv4]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 4 1536 rfl (by omega) (by omega)
  · simp (config := { decide := true }) only [↓skip_page, ↓zero_page]
    rw [rv3]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 3 1408 rfl (by omega) (by omega)
  · simp (config := { decide := true }) only [↓skip_page, ↓zero_page]
    rw [rv2]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 2 1280 rfl (by omega) (by omega)
  · simp (config := { decide := true }) only [↓skip_page, ↓zero_page]
    rw [rv1]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 1 1152 rfl (by omega) (by omega)
  · simp (config := { decide := true }) only [↓skip_page, ↓zero_page]
    rw [rv0]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 0 1024 rfl (by omega) (by omega)
  · refine outV_att' m c t _ y x (by omega) (by omega) _ _ ?_ fun z => ?_
    · rw [sq7, sq6, sq5, sq4, sq3, sq2, sq1, sq0]
      simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
      rfl
    · rw [View.readCov_eq_canon']
      refine View.canon_eq_of_allAt _ _ _ (View.cover_of_tiledL _ ![256, 128] (by sl_kernel_rfl) _) ?_
      refine View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <|  View.allAt_nil _ _
      all_goals rw [whole_idx]
      all_goals tile_intro w h
      · rw [sv7]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 7 896 rfl (by omega) (by omega)
      · rw [sv6]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 6 768 rfl (by omega) (by omega)
      · rw [sv5]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 5 640 rfl (by omega) (by omega)
      · rw [sv4]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 4 512 rfl (by omega) (by omega)
      · rw [sv3]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 3 384 rfl (by omega) (by omega)
      · rw [sv2]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 2 256 rfl (by omega) (by omega)
      · rw [sv1]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 1 128 rfl (by omega) (by omega)
      · rw [sv0]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 0 0 rfl (by omega) (by omega)

end Cert.Mix

end
-- ==== Proof.OutB1.lean ====
module

public import proofs.«01_k».proof.Defs
public import proofs.«01_k».proof.Proof.Gen.KernelIdeal.Value
public import proofs.«01_k».proof.Proof.Cuts
public import Idealize.ShloMosaic.Lib.Pipeline.ValueKit
public import Idealize.ShloMosaic.Lib.Pointwise
public import Idealize.ShloMosaic.Lib.Pipeline.ReadBack

@[expose] public section

set_option maxRecDepth 16384

noncomputable section

/-! What a grid point that keeps the state writes. -/

namespace Cert.Mix

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

theorem outB (h : ¬ t.val % 16 = 0) (hp : t.val - 1 < cfg0.N) :
    (outsAt0 m c t.val t.isLt).1 = outV m c t (outsAt0 m c (t.val - 1) hp).2 := by
  funext y
  rw [outsAt0_B m c t h]
  frame_out
  refine View.canon_eq_of_allAt _ y _ (View.cover_of_tiledBy _ ![256, 128] (by sl_kernel_rfl) y) ?_
  refine View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <|  View.allAt_nil _ _
  all_goals tile_intro x h
  · rw [read_unread_whole]
    rw [rv7]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 7 1920 rfl (by omega) (by omega)
  · rw [read_unread_whole]
    rw [rv6]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 6 1792 rfl (by omega) (by omega)
  · rw [read_unread_whole]
    rw [rv5]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 5 1664 rfl (by omega) (by omega)
  · rw [read_unread_whole]
    rw [rv4]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 4 1536 rfl (by omega) (by omega)
  · rw [read_unread_whole]
    rw [rv3]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 3 1408 rfl (by omega) (by omega)
  · rw [read_unread_whole]
    rw [rv2]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 2 1280 rfl (by omega) (by omega)
  · rw [read_unread_whole]
    rw [rv1]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 1 1152 rfl (by omega) (by omega)
  · rw [read_unread_whole]
    rw [rv0]
    simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
    exact outV_ret m c t _ y x 0 1024 rfl (by omega) (by omega)
  · refine outV_att' m c t _ y x (by omega) (by omega) _ _ ?_ fun z => ?_
    · rw [sq7, sq6, sq5, sq4, sq3, sq2, sq1, sq0]
      simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
      rfl
    · rw [View.readCov_eq_canon']
      refine View.canon_eq_of_allAt _ _ _ (View.cover_of_tiledL _ ![256, 128] (by sl_kernel_rfl) _) ?_
      refine View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <| View.allAt_cons_unit _ _ _ _ _ ?_ <|  View.allAt_nil _ _
      all_goals rw [whole_idx]
      all_goals tile_intro w h
      · rw [sv7]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 7 896 rfl (by omega) (by omega)
      · rw [sv6]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 6 768 rfl (by omega) (by omega)
      · rw [sv5]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 5 640 rfl (by omega) (by omega)
      · rw [sv4]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 4 512 rfl (by omega) (by omega)
      · rw [sv3]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 3 384 rfl (by omega) (by omega)
      · rw [sv2]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 2 256 rfl (by omega) (by omega)
      · rw [sv1]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 1 128 rfl (by omega) (by omega)
      · rw [sv0]
        simp only [ld_cut _ 0 0 rfl, ld_cut _ 1 128 rfl, ld_cut _ 2 256 rfl, ld_cut _ 3 384 rfl, ld_cut _ 4 512 rfl, ld_cut _ 5 640 rfl, ld_cut _ 6 768 rfl, ld_cut _ 7 896 rfl, ld_cutg _ 0 0 rfl, ld_cutg _ 1 128 rfl, ld_cutg _ 2 256 rfl, ld_cutg _ 3 384 rfl, ld_cutg _ 4 512 rfl, ld_cutg _ 5 640 rfl, ld_cutg _ 6 768 rfl, ld_cutg _ 7 896 rfl, ld_page]
        exact attA_eq m c t z w 0 0 rfl (by omega) (by omega)

end Cert.Mix

end
-- ==== Proof.AttAlg.lean ====
module

public import proofs.«01_k».proof.Defs
public import proofs.«01_k».proof.Proof.AttKer
public import proofs.«01_k».proof.Proof.OutA1
public import proofs.«01_k».proof.Proof.OutB1

@[expose] public section

set_option maxRecDepth 16384

noncomputable section

/-! The mixer's first 1024 columns after the run: at every row and column, the attention's output. -/

namespace Cert.Mix

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The attention's gain. -/
abbrev aG : (⟨2, ![1, 1024]⟩ : Shape).Idx → EReal := m ((c.tc : Thread nD τ).loc main_arg2)

variable (hX : ∀ r k, k < 2048 → xa (aX m c) r k ≠ ⊤ ∧ xa (aX m c) r k ≠ ⊥) (hR : ∀ h n, rb (aR m c) h n ≠ ⊤ ∧ rb (aR m c) h n ≠ ⊥)

include hX hR

theorem attA_pt (r : Fin 256) (k : ℕ) (hk : k < 1024) :
    (attA m c t (ix2 r (Fin.ofNat 1024 k)) : EReal) = att (aX m c) (aR m c) (t.val / 16) (k / 128) (t.val % 16 * 256 + r.val) (k % 128) := by
  unfold attA
  have e : ((ix2 r (Fin.ofNat 1024 k) : S256x1024.Idx) 1).val = k := by
    show k % 1024 = k
    omega
  rw [e]
  refine (attH_pt m c t hX hR (k / 128) (by omega) r (Fin.ofNat 128 (k % 128))).trans ?_
  rw [Fin.val_ofNat, Nat.mod_mod]

theorem outV_pt (S : Vec Ideal S8x128x128 .f32) (r : Fin 256) (k : Fin 2048) (hk : k.val < 1024) :
    (outV m c t S (ix2 r k) : EReal) = outF (aX m c) (aR m c) (aG m c) (t.val / 16) (t.val % 16 * 256 + r.val) k.val := by
  have e : outV m c t S (ix2 r k) = k0_pay69 (sqA m c t 8) k0_pay68 (attA m c t) (iblk m c 17 t) (ix2 r (Fin.ofNat 1024 k.val)) := by
    unfold outV
    exact if_pos hk
  have es : ∀ h ∈ Finset.range 8, (∑ x : Fin 128, (attH m c t h (ix2 r x) * attH m c t h (ix2 r x) : EReal))
      = ∑ x : Fin 128, (fun k => att (aX m c) (aR m c) (t.val / 16) (k / 128) (t.val % 16 * 256 + r.val) (k % 128)
          * att (aX m c) (aR m c) (t.val / 16) (k / 128) (t.val % 16 * 256 + r.val) (k % 128)) (128 * h + x.val) := by
    intro h hh
    refine Finset.sum_congr rfl fun x _ => ?_
    have hx := x.isLt
    rw [attH_pt m c t hX hR h (Finset.mem_range.1 hh) r x]
    dsimp only
    rw [show (128 * h + x.val) / 128 = h by omega, show (128 * h + x.val) % 128 = x.val by omega]
  rw [e, pay69_pt, attA_pt m c t hX hR r k.val hk, pay68_pt, sqA_pt, Finset.sum_congr rfl es,
    sum_heads (fun k => att (aX m c) (aR m c) (t.val / 16) (k / 128) (t.val % 16 * 256 + r.val) (k % 128)
          * att (aX m c) (aR m c) (t.val / 16) (k / 128) (t.val % 16 * 256 + r.val) (k % 128)) 8, rd17]
  rfl

omit hX hR in
theorem outs_eq : ∃ S, (outsAt0 m c t.val t.isLt).1 = outV m c t S := by
  by_cases h : t.val % 16 = 0
  · exact ⟨_, outA m c t h⟩
  · exact ⟨_, outB m c t h (by have := t.isLt; omega)⟩

omit hX hR in
/-- What the run leaves in the output: each grid point's block at its rows. -/
theorem final19 : (dats m 0 c).arrAt 19 (cfgs 0).N = fun i : S8192x2048.Idx =>
    (outsAt0 m c ((i 0).val / 256) (by have h : (i 0).val < 8192 := (i 0).isLt; show _ < 32; omega)).1
      (ix2 (Fin.ofNat 256 (i 0).val) (i 1)) := by
  refine (dats m 0 c).arrAt_eq_of_covers 19 _ (by decide +kernel) fun t _ y => ?_
  have ht : t.val < 32 := t.isLt
  have hy0 : (y 0).val < 256 := (y 0).isLt
  have e1 : ((win0_19.blk t).view.emb y 1).val = (y 1).val := by
    blk_simp [idxq t]
  have same : ∀ (n : ℕ) (hn : n < cfg0.N) (z : S256x2048.Idx), n = t.val → (z 0).val = (y 0).val → (z 1).val = (y 1).val →
      (outsAt0 m c n hn).1 z = (outsAt0 m c t.val t.isLt).1 y := by
    intro n hn z h h0 h1
    subst h
    refine congrArg _ ?_
    funext a
    fin_cases a
    · exact Fin.ext h0
    · exact Fin.ext h1
  have ei : win0_19.index t 0 = t.val := by
    rw [(idxq t).2.2.2.2.2.2.2.2.2]; rfl
  blk_simp
  rw [after0_19]
  refine (same _ _ _ ?_ ?_ ?_).symm
  · rw [ei]; omega
  · show (win0_19.index t 0 * 256 + (y 0).val) % 256 = (y 0).val
    omega
  · exact e1

/-- The mixer's first 1024 columns after the run are the attention's output, normed and scaled. -/
theorem out_pt (i : S8192x2048.Idx) (hk : (i 1).val < 1024) :
    ((dats m 0 c).arrAt 19 (cfgs 0).N i : EReal) = outF (aX m c) (aR m c) (aG m c) ((i 0).val / 4096) ((i 0).val % 4096) (i 1).val := by
  have hi : (i 0).val < 8192 := (i 0).isLt
  have hn : (i 0).val / 256 < cfg0.N := by show _ < 32; omega
  obtain ⟨S, hS⟩ := outs_eq m c ⟨(i 0).val / 256, hn⟩
  refine (congrFun (final19 m c) i).trans ((congrFun hS _).trans ?_)
  refine (outV_pt m c ⟨(i 0).val / 256, hn⟩ hX hR S (Fin.ofNat 256 (i 0).val) (i 1) hk).trans ?_
  show outF (aX m c) (aR m c) (aG m c) ((i 0).val / 256 / 16) ((i 0).val / 256 % 16 * 256 + (i 0).val % 256) (i 1).val = _
  rw [show (i 0).val / 256 / 16 = (i 0).val / 4096 by omega, show (i 0).val / 256 % 16 * 256 + (i 0).val % 256 = (i 0).val % 4096 by omega]

end Cert.Mix

end
-- ==== Proof.AttFin.lean ====
module

public import proofs.«01_k».proof.Defs
public import Idealize.ShloMosaic.Lib.ReduceAll
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_scores_finite
public import proofs.«01_k».proof.Proof.Gen.On_attention_columns
public import proofs.«01_k».proof.Proof.AttRefD
public import proofs.«01_k».proof.Proof.AttAlg

@[expose] public section

set_option maxRecDepth 16384

/-! The mixer's claim on its first 1024 columns: what the mask and the precondition say, and the two runs' agreement. -/

namespace Cert.Mix

open Idealize.ShloMosaic Idealize.ShloMosaic.TcCoe Idealize.SL.Sem Idealize.ShloMosaic.StableHlo

/-- The mask is set at the columns below 1024 only. -/
theorem mask_lt (x : FVec Ideal Cert.On_attention_columns.S8192x6144 .bf16) (y : FVec Ideal Cert.On_attention_columns.S1x8x320 .f32)
    (z w : FVec Ideal Cert.On_attention_columns.S1x1024 .f32) (i : (⟨2, ![8192, 2048]⟩ : Shape).Idx)
    (h : Cert.On_attention_columns.fn (F := Ideal) x y z w i = 1#1) : (i 1).val < 1024 := by
  have hi : (i 1).val < 2048 := (i 1).isLt
  have h' : IntOp.cmpi .slt (BitVec.ofNat 32 (i 1).val) (BitVec.ofNat 32 1024) = 1#1 := h
  rw [w_slt, ti_ofNat _ (by omega), ti_ofNat _ (by omega)] at h'
  split at h'
  · omega
  · exact absurd h' (by decide)

/-- A value whose magnitude is below infinity is neither infinity. -/
theorem fin_of_abs (x : Ideal .f32) (h : FloatOps.cmpf .olt (FloatOps.absf x) (Scalar.ofBits .f32 0x7F800000#32 : Ideal .f32) = 1#1) :
    (x : EReal) ≠ ⊤ ∧ (x : EReal) ≠ ⊥ := by
  have hT : (Scalar.ofBits .f32 0x7F800000#32 : Ideal .f32) = (⊤ : EReal) := by
    show Ideal.ofBits .f32 0x7F800000#32 = ⊤
    simp [Ideal.ofBits, Ideal.ieee]
  rw [hT] at h
  have h' : BitVec.ofBool (decide (max (x : EReal) (-x) < ⊤)) = 1#1 := h
  have h2 : max (x : EReal) (-x) < ⊤ := by
    by_contra hc
    rw [decide_eq_false hc] at h'
    exact absurd h' (by decide)
  obtain ⟨h3, h4⟩ := max_lt_iff.1 h2
  refine ⟨h3.ne, fun hb => ?_⟩
  rw [hb] at h4
  exact absurd h4 (by simp)

section Pre

variable (X : FVec Ideal Cert.Pre_scores_finite.S8192x6144 .bf16) (R : FVec Ideal Cert.Pre_scores_finite.S1x8x320 .f32)
  (z w : FVec Ideal Cert.Pre_scores_finite.S1x1024 .f32) (h : Cert.Pre_scores_finite.fn (F := Ideal) X R z w = fun _ => 1#1)

include h

/-- The two halves of the precondition. -/
theorem pre_split : (∀ i : Cert.Pre_scores_finite.S8192x2048.Idx,
      FloatOps.cmpf .olt (FloatOps.absf (X (ix2 (Fin.ofNat 8192 (i 0).val) (Fin.ofNat 6144 (i 1).val)) : Ideal .f32)) (Scalar.ofBits .f32 0x7F800000#32 : Ideal .f32) = 1#1)
    ∧ ∀ i : Cert.Pre_scores_finite.S1x8x320.Idx,
      FloatOps.cmpf .olt (FloatOps.absf (R i)) (Scalar.ofBits .f32 0x7F800000#32 : Ideal .f32) = 1#1 := by
  haveI : Subsingleton Cert.Pre_scores_finite.S_.Idx := ⟨fun a b => funext fun k => k.elim0⟩
  have h0 := congrFun h (fun k => k.elim0)
  obtain ⟨h1, h2⟩ := IntOp.andi_eq_one.1 h0
  refine ⟨fun i => ?_, fun i => ?_⟩
  · have := Host.reduce_andi_all _ _ _ _ _ h1 i
    refine Eq.trans ?_ this
    have hi0 : (i 0).val < 8192 := (i 0).isLt
    have hi1 : (i 1).val < 2048 := (i 1).isLt
    refine congrArg (fun v : EReal => FloatOps.cmpf (F := Ideal) (φ := .f32) .olt (FloatOps.absf (F := Ideal) (φ := .f32) v) (Scalar.ofBits .f32 0x7F800000#32)) ?_
    refine congrArg X ?_
    funext a
    apply Fin.ext
    fin_cases a
    · show (i 0).val % 8192 = 0 + (i 0).val
      omega
    · show (i 1).val % 6144 = 0 + (i 1).val
      omega
  · exact Host.reduce_andi_all _ _ _ _ _ h2 i

theorem pre_X (r k : ℕ) (hk : k < 2048) : xa X r k ≠ ⊤ ∧ xa X r k ≠ ⊥ := by
  have := fin_of_abs _ ((pre_split X R z w h).1 (ix2 (Fin.ofNat 8192 r) (⟨k, hk⟩ : Fin 2048)))
  have e : xa X r k = X (ix2 (Fin.ofNat 8192 ((ix2 (Fin.ofNat 8192 r) (⟨k, hk⟩ : Fin 2048) : Cert.Pre_scores_finite.S8192x2048.Idx) 0).val)
      (Fin.ofNat 6144 ((ix2 (Fin.ofNat 8192 r) (⟨k, hk⟩ : Fin 2048) : Cert.Pre_scores_finite.S8192x2048.Idx) 1).val)) := by
    unfold xa
    refine congrArg X ?_
    funext a
    apply Fin.ext
    fin_cases a
    · show r % 8192 = r % 8192 % 8192
      omega
    · rfl
  rw [e]
  exact this

theorem pre_R (p n : ℕ) : rb R p n ≠ ⊤ ∧ rb R p n ≠ ⊥ :=
  fin_of_abs _ ((pre_split X R z w h).2 (ix3 0 (Fin.ofNat 8 p) (Fin.ofNat 320 n)))

end Pre

/-- The reference's value at a column below 1024. -/
theorem ref_pt (x0 : (⟨2, ![8192, 6144]⟩ : Shape).Idx → EReal) (x1 : (⟨3, ![1, 8, 320]⟩ : Shape).Idx → EReal) (x2 x3 : (⟨2, ![1, 1024]⟩ : Shape).Idx → EReal)
    (hX : ∀ r k, k < 2048 → xa x0 r k ≠ ⊤ ∧ xa x0 r k ≠ ⊥) (hR : ∀ h n, rb x1 h n ≠ ⊤ ∧ rb x1 h n ≠ ⊥)
    (i : (⟨2, ![8192, 2048]⟩ : Shape).Idx) (hk : (i 1).val < 1024) :
    (Cert.ReferenceIdeal.Read.val_main_v713 (F := Ideal) x0 x1 x2 x3 i : EReal) = outF x0 x1 x2 ((i 0).val / 4096) ((i 0).val % 4096) (i 1).val := by
  have e : i = ix2 (i 0) (i 1) := by
    funext a
    fin_cases a <;> rfl
  rw [e]
  exact r713 x0 x1 x2 x3 hX hR (i 0) (i 1) hk

/-- The kernel and its reference end with equal results at the columns below 1024. -/
theorem alg : Cert.algebraic_KernelIdeal_ReferenceIdeal_on_attention_columns_pre_scores_finite := by
  intro m g m' g' hpre hagree
  refine ⟨fun c => Cert.KernelIdeal.Value.G19 m c, ?_, ?_⟩
  · refine (θ_run Cert.KernelIdeal.defs _ _).mono (fun r hr c => ?_) (Cert.KernelIdeal.Value.run (F := Ideal) m g)
    exact ⟨fun i _ => congrFun (hr c).1 i, (hr c).2⟩
  · refine (θ_run Cert.ReferenceIdeal.defs _ _).mono (fun r hr c => ?_) (Cert.ReferenceIdeal.Value.run (F := Ideal) m' g')
    refine ⟨fun i hi => ?_, (hr c).2⟩
    obtain ⟨a0, a1, a2, a3⟩ := hagree c
    have hk := mask_lt _ _ _ _ i hi
    have hX := pre_X _ _ _ _ (hpre c)
    have hR := pre_R _ _ _ _ (hpre c)
    have k := (congrFun (Cert.KernelIdeal.Value.final19 m c) i).symm.trans (out_pt m c hX hR i hk)
    have q := ref_pt (aX m c) (aR m c) (aG m c) (m ((c.tc : Thread Cert.KernelIdeal.nD Cert.KernelIdeal.τ).loc Cert.KernelIdeal.main_arg3)) hX hR i hk
    have b0 : launchContents m' c (Proc.devRef .tc Cert.ReferenceIdeal.main_arg0) = aX m c := a0
    have b1 : launchContents m' c (Proc.devRef .tc Cert.ReferenceIdeal.main_arg1) = aR m c := a1
    have b2 : launchContents m' c (Proc.devRef .tc Cert.ReferenceIdeal.main_arg2) = aG m c := a2
    have b3 : launchContents m' c (Proc.devRef .tc Cert.ReferenceIdeal.main_arg3)
      = m ((c.tc : Thread Cert.KernelIdeal.nD Cert.KernelIdeal.τ).loc Cert.KernelIdeal.main_arg3) := a3
    have v := congrFun ((hr c).1.trans (Cert.ReferenceIdeal.Read.val_main_v713_eq (launchContents m' c))) i
    rw [b0, b1, b2, b3] at v
    exact v.trans (q.trans k.symm)

end Cert.Mix
-- ==== Proof.In.lean ====
module

public import proofs.«01_k».proof.Defs
public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The input projection: every block of the kernel's result is the modulated rows times the weight columns. -/

namespace Cert.InProj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Where each window stands at grid point `t`. -/
theorem idx : ∀ t : Fin cfg0.N, win0_0.index t = ![t.val % 16, 0] ∧ win0_1.index t = ![t.val % 16 / 8, 0, 0]
    ∧ win0_2.index t = ![0, t.val / 16] ∧ win0_3.index t = ![t.val % 16, t.val / 16] :=
  (by decide +kernel : ∀ t : Fin grid0.N, _)

/-- The rounded weights a first point of a column of blocks leaves are that column's weights. -/
theorem wA (t : Fin cfg0.N) (h : t.val % 16 = 0) :
    (outsAt0 m c t.val t.isLt).2 = k0_pay1 (iblk m c 2 t) := by
  rw [outsAt0_A m c t h]
  frame_out

theorem wB (t : Fin cfg0.N) (h : ¬ t.val % 16 = 0) (hp : t.val - 1 < cfg0.N) :
    (outsAt0 m c t.val t.isLt).2 = (outsAt0 m c (t.val - 1) hp).2 := by
  rw [outsAt0_B m c t h]
  rfl

/-- Two points of one column of blocks see the same weights. -/
theorem wsame (t t' : Fin cfg0.N) (h : t.val / 16 = t'.val / 16) : iblk m c 2 t = iblk m c 2 t' := by
  funext y
  blk_ext [iblk, V, idx t, idx t']

/-- So at every point the scratch holds the column's weights. -/
theorem wAll : ∀ (n : ℕ) (hn : n < cfg0.N), (outsAt0 m c n hn).2 = k0_pay1 (iblk m c 2 ⟨n, hn⟩) := by
  intro n
  induction n with
  | zero => intro hn; exact wA m c ⟨0, hn⟩ rfl
  | succ n ih =>
    intro hn
    by_cases h : (n + 1) % 16 = 0
    · exact wA m c ⟨n + 1, hn⟩ h
    · rw [wB m c ⟨n + 1, hn⟩ h (by show n < _; omega)]
      show (outsAt0 m c n _).2 = _
      rw [ih (by omega), wsame m c ⟨n, by omega⟩ ⟨n + 1, hn⟩ (by show n / 16 = (n + 1) / 16; omega)]

/-- What a point writes. -/
theorem outAll (t : Fin cfg0.N) : (outsAt0 m c t.val t.isLt).1
    = k0_pay2 (View.ld (iblk m c 1 t) (Rect.unit (s := S1x6x2048) ![0, 0, 0] S1x1x2048.size inb_S1x6x2048_S1x1x2048_0_0_0))
       (View.ld (iblk m c 1 t) (Rect.unit (s := S1x6x2048) ![0, 1, 0] S1x1x2048.size inb_S1x6x2048_S1x1x2048_0_1_0)) (iblk m c 0 t) (k0_pay1 (iblk m c 2 t)) := by
  by_cases h : t.val % 16 = 0
  · rw [outsAt0_A m c t h]
    frame_out
    try rfl
  · rw [outsAt0_B m c t h, wAll m c, wsame m c ⟨t.val - 1, by omega⟩ t (by show (t.val - 1) / 16 = _; omega)]
    frame_out
    rw [read_unread_whole]
    try rfl

/-- One entry of the projection: a modulated row of `x` times a column of `w`. -/
def PROJ (x : FVec Ideal S8192x2048 .f32) (md : FVec Ideal S2x6x2048 .f32) (w : FVec Ideal S2048x6144 .f32) :
    FVec Ideal S8192x6144 .bf16 := fun i =>
  ∑ k : Fin 2048, (x (ix2 (i 0) k) * (1 + md (ix3 (⟨(i 0).val / 4096, by have : (i 0).val < 8192 := (i 0).isLt; omega⟩ : Fin 2) (1 : Fin 6) k))
    + md (ix3 (⟨(i 0).val / 4096, by have : (i 0).val < 8192 := (i 0).isLt; omega⟩ : Fin 2) (0 : Fin 6) k)) * w (ix2 k (i 1))

theorem one_lit : (FloatOps.ofBits .f32 0x3F800000#32 : Ideal .f32) = (1 : EReal) := by
  show Ideal.ofBits .f32 _ = _
  simp [Ideal.ofBits, Ideal.ieee, -EReal.coe_mul]
  norm_num

theorem payIn (md : FVec Ideal S1x6x2048 .f32) (x : FVec Ideal S512x2048 .f32) (w : FVec Ideal S2048x1024 .f32) (j : S512x1024.Idx) :
    k0_pay2 (F := Ideal) (View.ld md (Rect.unit (s := S1x6x2048) ![0, 0, 0] S1x1x2048.size inb_S1x6x2048_S1x1x2048_0_0_0))
       (View.ld md (Rect.unit (s := S1x6x2048) ![0, 1, 0] S1x1x2048.size inb_S1x6x2048_S1x1x2048_0_1_0)) x (k0_pay1 (F := Ideal) w) j
    = ∑ k : Fin 2048, (x (ix2 (j 0) k) * (1 + md (ix3 (0 : Fin 1) (1 : Fin 6) k)) + md (ix3 (0 : Fin 1) (0 : Fin 6) k)) * w (ix2 k (j 1)) := by
  pointwise [k0_pay2, k0_pay1]
theorem final : (dats m 0 c).arrAt 3 (cfgs 0).N = PROJ (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outAll m c t]
  refine (payIn _ _ _ _).trans ?_
  unfold PROJ
  refine Finset.sum_congr rfl fun k _ => ?_
  blk_point [iblk, V, idx t]

theorem ref (x : FVec Ideal S8192x2048 .f32) (md : FVec Ideal S2x6x2048 .f32) (w : FVec Ideal S2048x6144 .f32) :
    Cert.Reference2Ideal.Read.val_main_v11 (F := Ideal) x md w = PROJ x md w := by
  funext i
  rw [Cert.Reference2Ideal.Read.val_main_v11_apply]
  show Cert.Reference2Ideal.Read.val_main_v10 (F := Ideal) x md w i = _
  rw [Cert.Reference2Ideal.Read.val_main_v10_apply, Cert.Reference2Ideal.Read.val_main_v9_apply]
  refine Finset.sum_congr rfl fun k _ => ?_
  rw [Cert.Reference2Ideal.Read.val_main_v8_apply, Cert.Reference2Ideal.Read.val_main_v6_apply, Cert.Reference2Ideal.Read.val_main_v7_apply,
    Cert.Reference2Ideal.Read.val_main_v1_apply, Cert.Reference2Ideal.Read.val_main_v5_apply, Cert.Reference2Ideal.Read.val_main_v4_apply,
    Cert.Reference2Ideal.Read.val_main_v3_apply, Cert.Reference2Ideal.Read.val_main_v2_apply, Cert.Reference2Ideal.Read.val_main_cst_apply,
    Cert.Reference2Ideal.Read.val_main_v0_apply, one_lit]
  have h0 : (i 0).val < 8192 := (i 0).isLt
  have h1 : (i 1).val < 6144 := (i 1).isLt
  have hk : k.val < 2048 := k.isLt
  refine congrArg₂ (fun a b : EReal => a * b) (congrArg₂ (fun a b : EReal => a + b) (congrArg₂ (fun a b : EReal => a * b) (congrArg x ?_) (congrArg (fun b : EReal => 1 + b) (congrArg md ?_))) (congrArg md ?_)) (congrArg w ?_)
  all_goals (funext a; apply Fin.ext; fin_cases a)
  all_goals (dsimp [Cert.Reference2Ideal.Read.idx_main_v0, Cert.Reference2Ideal.Read.idx_main_v1, Cert.Reference2Ideal.Read.idx_main_v2, Cert.Reference2Ideal.Read.idx_main_v5, Cert.Reference2Ideal.Read.idx_main_v7, Cert.Reference2Ideal.Read.idx_main_v10, Cert.Reference2Ideal.Read.lidx_main_v9, Cert.Reference2Ideal.Read.ridx_main_v9, ix2, ix3])
  all_goals omega

end Cert.InProj
-- ==== Proof.Alg2.lean ====
module

public import proofs.«01_k».proof.Proof.In
public import Idealize.ShloMosaic.Lib.Claim

@[expose] public section

set_option maxRecDepth 16384

/-! The input projection's claims. -/

namespace Cert.InProj

open Idealize.ShloMosaic Idealize.ShloMosaic.TcCoe Idealize.SL.Sem

/-- The projected kernel and its reference end with equal results. -/
theorem alg : Cert.algebraic_Kernel2Ideal_Reference2Ideal := by
  pair_intro
  · run_from Cert.Kernel2Ideal.Gen.run_main m g
  · run_from Cert.Reference2Ideal.Value.run m' g'
    rw [Cert.Reference2Ideal.Read.val_main_v11_eq]
    exact (ref _ _ _).trans (final m c).symm

end Cert.InProj
-- ==== Proof.Row.lean ====
module

public import proofs.«01_k».proof.Defs
public import Idealize.ShloMosaic.Lib.Pipeline.ValueKit
public import Idealize.ShloMosaic.Lib.Pointwise

@[expose] public section

noncomputable section

/-! One row of the block between the projections: the residual sum, its norm, the modulated row and the router's score. -/

namespace Cert.OutProj

open Idealize.ShloMosaic

/-- The mean of the 2048 entries of a row. -/
def mean (z : Fin 2048 → EReal) : EReal := Ideal.div (∑ k : Fin 2048, z k) (Ideal.ofBits .f32 0x45000000#32)

/-- The row less its mean. -/
def cen (z : Fin 2048 → EReal) (k : Fin 2048) : EReal := z k - mean z

/-- The row's norm with gain `g` and bias `b`. -/
def norm (z g b : Fin 2048 → EReal) (k : Fin 2048) : EReal :=
  cen z k * Ideal.rsqrt (mean (fun j => cen z j * cen z j) + Ideal.ofBits .f32 0x3727C5AC#32) * g k + b k

/-- The residual sum: `alpha` times the row of `x` plus the gate times the row's projection. -/
def resid (x gate mx : Fin 2048 → EReal) (w : Fin 2048 → Fin 2048 → EReal) (k : Fin 2048) : EReal :=
  Ideal.ofBits .f32 0x3F9837F0#32 * x k + gate k * ∑ e : Fin 2048, mx e * w e k

/-- The modulated row. -/
def modl (z sc sh : Fin 2048 → EReal) (k : Fin 2048) : EReal := z k * (1 + sc k) + sh k

/-- The logistic function of the row's product with a column of the router. -/
def score (z w : Fin 2048 → EReal) : EReal := Ideal.div 1 (1 + Ideal.exp (0 - ∑ k : Fin 2048, z k * w k))

end Cert.OutProj
-- ==== Proof.OutPay.lean ====
module

public import proofs.«01_k».proof.Proof.Row
public import proofs.«01_k».proof.Proof.Gen.Kernel3Ideal.Value

@[expose] public section

set_option maxRecDepth 16384

noncomputable section

/-! What a block of the output projection's kernel computes, entry by entry. -/

namespace Cert.OutProj

open Cert.Kernel3Ideal Cert.Kernel3Ideal.Gen Idealize.ShloMosaic Idealize.ShloMosaic.TcCoe Idealize.SL.Sem

/-- The normed row. -/
theorem payNorm (mx : FVec Ideal S256x2048 .bf16) (w : FVec Ideal S2048x2048 .bf16) (gt : FVec Ideal S1x1x2048 .f32) (x : FVec Ideal S256x2048 .f32)
    (g b : FVec Ideal S1x2048 .f32) (j : S256x2048.Idx) :
    k0_pay4 (F := Ideal) mx w gt x g b j
      = norm (resid (fun k => x (ix2 (j 0) k)) (fun k => gt (ix3 (0 : Fin 1) (0 : Fin 1) k)) (fun e => mx (ix2 (j 0) e)) (fun e k => w (ix2 e k)))
          (fun k => g (ix2 (0 : Fin 1) k)) (fun k => b (ix2 (0 : Fin 1) k)) (j 1) := by
  unfold norm cen mean resid
  beta_reduce
  pointwise [k0_pay4]

theorem payMod (z : FVec Ideal S256x2048 .f32) (sc sh : FVec Ideal S1x1x2048 .f32) (j : S256x2048.Idx) :
    k0_pay5 (F := Ideal) z sc sh j
      = modl (fun k => z (ix2 (j 0) k)) (fun k => sc (ix3 (0 : Fin 1) (0 : Fin 1) k)) (fun k => sh (ix3 (0 : Fin 1) (0 : Fin 1) k)) (j 1) := by
  unfold modl
  beta_reduce
  pointwise [k0_pay5]

theorem payScore (z : FVec Ideal S256x2048 .f32) (sc sh : FVec Ideal S1x1x2048 .f32) (w : FVec Ideal S2048x256 .bf16) (j : S256x256.Idx) :
    k0_pay6 (F := Ideal) z sc sh w j
      = score (fun k => k0_pay5 (F := Ideal) z sc sh (ix2 (j 0) k)) (fun k => w (ix2 k (j 1))) := by
  unfold score
  pointwise [k0_pay6]

end Cert.OutProj
-- ==== Proof.OutPiece.lean ====
module

public import proofs.«01_k».proof.Proof.OutPay

@[expose] public section

set_option maxRecDepth 16384

noncomputable section

/-! The eight stores of the pairs: the store of chunk `c` holds, at half `e` and lane `l`, column
`1024 e + 128 c + l` of the modulated row. -/

namespace Cert.OutProj

open Cert.Kernel3Ideal Cert.Kernel3Ideal.Gen Idealize.ShloMosaic Idealize.ShloMosaic.TcCoe Idealize.SL.Sem

/-- Column of a row that chunk `c` keeps at half `e` and lane `l`. -/
def col (c : Fin 8) (e : Fin 2) (l : Fin 128) : Fin 2048 :=
  ⟨e.val * 1024 + c.val * 128 + l.val, by omega⟩

theorem piece0 (z : FVec Ideal S256x2048 .f32) (sc sh : FVec Ideal S1x1x2048 .f32) (a : Fin 256) (u : Fin 1) (e : Fin 2) (l : Fin 128) :
    k0_pay7 (F := Ideal) z sc sh (ix4 a u e l) = k0_pay5 (F := Ideal) z sc sh (ix2 a (col 0 e l)) := by
  have hu : u = 0 := Subsingleton.elim _ _
  subst hu
  have hl := l.isLt
  rcases (by omega : e = 0 ∨ e = 1) with rfl | rfl
  · refine Eq.trans (b := k0_pay5 (F := Ideal) z sc sh (ix2 a (⟨0 + l.val, by omega⟩ : Fin 2048))) ?_ (congrArg _ (congrArg _ (Fin.ext (by simp [col]))))
    pointwise [k0_pay7]
  · refine Eq.trans (b := k0_pay5 (F := Ideal) z sc sh (ix2 a (⟨1024 + l.val, by omega⟩ : Fin 2048))) ?_ (congrArg _ (congrArg _ (Fin.ext (by simp [col]))))
    pointwise [k0_pay7]

theorem piece1 (z : FVec Ideal S256x2048 .f32) (sc sh : FVec Ideal S1x1x2048 .f32) (a : Fin 256) (u : Fin 1) (e : Fin 2) (l : Fin 128) :
    k0_pay10 (F := Ideal) (k0_pay8 (F := Ideal) z sc sh) (k0_pay9 (F := Ideal) z sc sh) (ix4 a u e l) = k0_pay5 (F := Ideal) z sc sh (ix2 a (col 1 e l)) := by
  have hu : u = 0 := Subsingleton.elim _ _
  subst hu
  have hl := l.isLt
  rcases (by omega : e = 0 ∨ e = 1) with rfl | rfl
  · refine Eq.trans (b := k0_pay5 (F := Ideal) z sc sh (ix2 a (⟨128 + l.val, by omega⟩ : Fin 2048))) ?_ (congrArg _ (congrArg _ (Fin.ext (by simp [col]))))
    pointwise [k0_pay10, k0_pay8, k0_pay9]
  · refine Eq.trans (b := k0_pay5 (F := Ideal) z sc sh (ix2 a (⟨1152 + l.val, by omega⟩ : Fin 2048))) ?_ (congrArg _ (congrArg _ (Fin.ext (by simp [col]))))
    pointwise [k0_pay10, k0_pay8, k0_pay9]

theorem piece2 (z : FVec Ideal S256x2048 .f32) (a : Fin 256) (u : Fin 1) (e : Fin 2) (l : Fin 128) :
    k0_pay11 (F := Ideal) z (ix4 a u e l) = z (ix2 a (col 2 e l)) := by
  have hu : u = 0 := Subsingleton.elim _ _
  subst hu
  have hl := l.isLt
  rcases (by omega : e = 0 ∨ e = 1) with rfl | rfl
  · refine Eq.trans (b := z (ix2 a (⟨256 + l.val, by omega⟩ : Fin 2048))) ?_ (congrArg _ (congrArg _ (Fin.ext (by simp [col]))))
    pointwise [k0_pay11]
  · refine Eq.trans (b := z (ix2 a (⟨1280 + l.val, by omega⟩ : Fin 2048))) ?_ (congrArg _ (congrArg _ (Fin.ext (by simp [col]))))
    pointwise [k0_pay11]

theorem piece3 (z : FVec Ideal S256x2048 .f32) (a : Fin 256) (u : Fin 1) (e : Fin 2) (l : Fin 128) :
    k0_pay12 (F := Ideal) z (ix4 a u e l) = z (ix2 a (col 3 e l)) := by
  have hu : u = 0 := Subsingleton.elim _ _
  subst hu
  have hl := l.isLt
  rcases (by omega : e = 0 ∨ e = 1) with rfl | rfl
  · refine Eq.trans (b := z (ix2 a (⟨384 + l.val, by omega⟩ : Fin 2048))) ?_ (congrArg _ (congrArg _ (Fin.ext (by simp [col]))))
    pointwise [k0_pay12]
  · refine Eq.trans (b := z (ix2 a (⟨1408 + l.val, by omega⟩ : Fin 2048))) ?_ (congrArg _ (congrArg _ (Fin.ext (by simp [col]))))
    pointwise [k0_pay12]

theorem piece4 (z : FVec Ideal S256x2048 .f32) (a : Fin 256) (u : Fin 1) (e : Fin 2) (l : Fin 128) :
    k0_pay13 (F := Ideal) z (ix4 a u e l) = z (ix2 a (col 4 e l)) := by
  have hu : u = 0 := Subsingleton.elim _ _
  subst hu
  have hl := l.isLt
  rcases (by omega : e = 0 ∨ e = 1) with rfl | rfl
  · refine Eq.trans (b := z (ix2 a (⟨512 + l.val, by omega⟩ : Fin 2048))) ?_ (congrArg _ (congrArg _ (Fin.ext (by simp [col]))))
    pointwise [k0_pay13]
  · refine Eq.trans (b := z (ix2 a (⟨1536 + l.val, by omega⟩ : Fin 2048))) ?_ (congrArg _ (congrArg _ (Fin.ext (by simp [col]))))
    pointwise [k0_pay13]

theorem piece6 (z : FVec Ideal S256x2048 .f32) (a : Fin 256) (u : Fin 1) (e : Fin 2) (l : Fin 128) :
    k0_pay2 (F := Ideal) z (ix4 a u e l) = z (ix2 a (col 6 e l)) := by
  have hu : u = 0 := Subsingleton.elim _ _
  subst hu
  have hl := l.isLt
  rcases (by omega : e = 0 ∨ e = 1) with rfl | rfl
  · refine Eq.trans (b := z (ix2 a (⟨768 + l.val, by omega⟩ : Fin 2048))) ?_ (congrArg _ (congrArg _ (Fin.ext (by simp [col]))))
    pointwise [k0_pay2]
  · refine Eq.trans (b := z (ix2 a (⟨1792 + l.val, by omega⟩ : Fin 2048))) ?_ (congrArg _ (congrArg _ (Fin.ext (by simp [col]))))
    pointwise [k0_pay2]

theorem piece7 (z : FVec Ideal S256x2048 .f32) (a : Fin 256) (u : Fin 1) (e : Fin 2) (l : Fin 128) :
    k0_pay3 (F := Ideal) z (ix4 a u e l) = z (ix2 a (col 7 e l)) := by
  have hu : u = 0 := Subsingleton.elim _ _
  subst hu
  have hl := l.isLt
  rcases (by omega : e = 0 ∨ e = 1) with rfl | rfl
  · refine Eq.trans (b := z (ix2 a (⟨896 + l.val, by omega⟩ : Fin 2048))) ?_ (congrArg _ (congrArg _ (Fin.ext (by simp [col]))))
    pointwise [k0_pay3]
  · refine Eq.trans (b := z (ix2 a (⟨1920 + l.val, by omega⟩ : Fin 2048))) ?_ (congrArg _ (congrArg _ (Fin.ext (by simp [col]))))
    pointwise [k0_pay3]

theorem piece5 (z : FVec Ideal S256x2048 .f32) (a : Fin 256) (u : Fin 1) (e : Fin 2) (l : Fin 128) :
    k0_pay1 (F := Ideal) (k0_pay14 (F := Ideal) z) (k0_pay15 (F := Ideal) z) (ix4 a u e l) = z (ix2 a (col 5 e l)) := by
  have hu : u = 0 := Subsingleton.elim _ _
  subst hu
  have hl := l.isLt
  rcases (by omega : e = 0 ∨ e = 1) with rfl | rfl
  · refine Eq.trans (b := z (ix2 a (⟨640 + l.val, by omega⟩ : Fin 2048))) ?_ (congrArg _ (congrArg _ (Fin.ext (by simp [col]))))
    pointwise [k0_pay1, k0_pay14, k0_pay15]
  · refine Eq.trans (b := z (ix2 a (⟨1664 + l.val, by omega⟩ : Fin 2048))) ?_ (congrArg _ (congrArg _ (Fin.ext (by simp [col]))))
    pointwise [k0_pay1, k0_pay14, k0_pay15]

end Cert.OutProj
-- ==== Proof.OutFin.lean ====
module

public import proofs.«01_k».proof.Proof.OutPiece
public import Idealize.ShloMosaic.Lib.Pipeline.ReadBack

@[expose] public section

set_option maxRecDepth 16384

noncomputable section

/-! The three arrays that the output projection's kernel leaves: the normed rows, the modulated rows in pairs, the scores. -/

namespace Cert.OutProj

open Cert.Kernel3Ideal Cert.Kernel3Ideal.Gen Idealize.ShloMosaic Idealize.ShloMosaic.TcCoe Idealize.SL.Sem

/-- The batch entry that a row belongs to. -/
def bt (r : Fin 8192) : Fin 2 := ⟨r.val / 4096, by omega⟩

/-- The normed rows. -/
def NORMED (mx : FVec Ideal S8192x2048 .bf16) (x : FVec Ideal S8192x2048 .f32) (md : FVec Ideal S2x6x2048 .f32) (w : FVec Ideal S2048x2048 .f32)
    (g b : FVec Ideal S2048 .f32) (r : Fin 8192) (k : Fin 2048) : EReal :=
  norm (resid (fun k => x (ix2 r k)) (fun k => md (ix3 (bt r) (2 : Fin 6) k)) (fun e => mx (ix2 r e)) (fun e k => w (ix2 e k)))
    (fun k => g (ix1 k)) (fun k => b (ix1 k)) k

/-- The modulated rows. -/
def MODL (mx : FVec Ideal S8192x2048 .bf16) (x : FVec Ideal S8192x2048 .f32) (md : FVec Ideal S2x6x2048 .f32) (w : FVec Ideal S2048x2048 .f32)
    (g b : FVec Ideal S2048 .f32) (r : Fin 8192) (k : Fin 2048) : EReal :=
  modl (NORMED mx x md w g b r) (fun k => md (ix3 (bt r) (4 : Fin 6) k)) (fun k => md (ix3 (bt r) (3 : Fin 6) k)) k

/-- The router's scores. -/
def SCORE (mx : FVec Ideal S8192x2048 .bf16) (x : FVec Ideal S8192x2048 .f32) (md : FVec Ideal S2x6x2048 .f32) (w : FVec Ideal S2048x2048 .f32)
    (g b : FVec Ideal S2048 .f32) (wr : FVec Ideal S2048x256 .f32) (r : Fin 8192) (n : Fin 256) : EReal :=
  score (MODL mx x md w g b r) (fun k => wr (ix2 k n))

variable (m : (ℓ : Loc nD τ sig) → Buf (Elt Ideal) ℓ) (c : Dev nD)

/-- Where each window stands at grid point `t`. -/
theorem idx : ∀ t : Fin cfg0.N, win0_0.index t = ![t.val, 0] ∧ win0_1.index t = ![t.val, 0]
    ∧ win0_2.index t = ![t.val / 16, 0, 0] ∧ win0_3.index t = ![0, 0] ∧ win0_4.index t = ![0, 0] ∧ win0_5.index t = ![0, 0]
    ∧ win0_6.index t = ![0, 0] ∧ win0_7.index t = ![t.val, 0] ∧ win0_8.index t = ![t.val, 0, 0, 0] ∧ win0_9.index t = ![t.val, 0] :=
  (by decide +kernel : ∀ t : Fin grid0.N, _)

section Reads

variable (t : Fin cfg0.N) (r : Fin 8192) (a : Fin 256) (k e : Fin 2048) (n : Fin 256)

theorem rd0 (hr : r.val = 256 * t.val + a.val) :
    View.ld (iblk m c 0 t) r0_0 (ix2 a k) = m ((c : Thread nD τ).loc main_arg0) (ix2 r k) := by
  have ht : t.val < 32 := t.isLt
  blk_point [iblk, V, idx t]

theorem rd1 (hr : r.val = 256 * t.val + a.val) :
    View.ld (iblk m c 1 t) r0_0 (ix2 a k) = m ((c : Thread nD τ).loc main_arg1) (ix2 r k) := by
  have ht : t.val < 32 := t.isLt
  blk_point [iblk, V, idx t]

theorem rd2 (hr : r.val = 256 * t.val + a.val) :
    View.ld (iblk m c 2 t) r0_2 (ix3 (0 : Fin 1) (0 : Fin 1) k) = m ((c : Thread nD τ).loc main_arg2) (ix3 (bt r) (2 : Fin 6) k) := by
  have ht : t.val < 32 := t.isLt
  unfold bt
  blk_point [iblk, V, idx t]

theorem rd4 (hr : r.val = 256 * t.val + a.val) :
    View.ld (iblk m c 2 t) r0_4 (ix3 (0 : Fin 1) (0 : Fin 1) k) = m ((c : Thread nD τ).loc main_arg2) (ix3 (bt r) (4 : Fin 6) k) := by
  have ht : t.val < 32 := t.isLt
  unfold bt
  blk_point [iblk, V, idx t]

theorem rd3 (hr : r.val = 256 * t.val + a.val) :
    View.ld (iblk m c 2 t) r0_5 (ix3 (0 : Fin 1) (0 : Fin 1) k) = m ((c : Thread nD τ).loc main_arg2) (ix3 (bt r) (3 : Fin 6) k) := by
  have ht : t.val < 32 := t.isLt
  unfold bt
  blk_point [iblk, V, idx t]

theorem rdW : View.ld (iblk m c 3 t) r0_1 (ix2 e k) = m ((c : Thread nD τ).loc main_arg3) (ix2 e k) := by
  blk_simp [iblk, idx t]
  entry_read
  pointwise
  try blk_point [iblk, idx t]

theorem rdG : View.ld (iblk m c 4 t) r0_3 (ix2 (0 : Fin 1) k) = m ((c : Thread nD τ).loc main_arg4) (ix1 k) := by
  blk_simp [iblk, idx t]
  entry_read
  pointwise
  refine shapeCast_apply (s := S2048) (t := S1x2048) _ shapeCasts_S2048_S1x2048 _ (ix1 k) ?_
  have e : ((View.whole main_v2).slice ((win0 4).rect t)).emb (ix2 (0 : Fin 1) k) = ix2 (0 : Fin 1) k := by
    funext a
    apply Fin.ext
    fin_cases a <;> blk_simp [idx t] <;> first | rfl | simp | omega
  rw [e]
  exact (Shape.rowMajor_val_one _).trans ((Shape.rowMajor_val_two _).trans (by simp)).symm

theorem rdB : View.ld (iblk m c 5 t) r0_3 (ix2 (0 : Fin 1) k) = m ((c : Thread nD τ).loc main_arg5) (ix1 k) := by
  blk_simp [iblk, idx t]
  entry_read
  pointwise
  refine shapeCast_apply (s := S2048) (t := S1x2048) _ shapeCasts_S2048_S1x2048 _ (ix1 k) ?_
  have e : ((View.whole main_v3).slice ((win0 5).rect t)).emb (ix2 (0 : Fin 1) k) = ix2 (0 : Fin 1) k := by
    funext a
    apply Fin.ext
    fin_cases a <;> blk_simp [idx t] <;> first | rfl | simp | omega
  rw [e]
  exact (Shape.rowMajor_val_one _).trans ((Shape.rowMajor_val_two _).trans (by simp)).symm

theorem rdR : View.ld (iblk m c 6 t) r0_6 (ix2 k n) = m ((c : Thread nD τ).loc main_arg6) (ix2 k n) := by
  blk_simp [iblk, idx t]
  entry_read
  pointwise
  try blk_point [iblk, idx t]

end Reads

/-- The normed rows of a block. -/
theorem blkNorm (t : Fin cfg0.N) (a : Fin 256) (k : Fin 2048) (r : Fin 8192) (hr : r.val = 256 * t.val + a.val) :
    k0_pay16 (F := Ideal) (iblk m c 0 t) (iblk m c 1 t) (iblk m c 2 t) (iblk m c 3 t) (iblk m c 4 t) (iblk m c 5 t) (iblk m c 6 t) (ix2 a k)
      = NORMED (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r k := by
  unfold k0_pay16
  refine (payNorm _ _ _ _ _ _ _).trans ?_
  show norm (resid (fun k => View.ld (iblk m c 1 t) r0_0 (ix2 a k)) (fun k => View.ld (iblk m c 2 t) r0_2 (ix3 (0 : Fin 1) (0 : Fin 1) k))
      (fun e => View.ld (iblk m c 0 t) r0_0 (ix2 a e)) (fun e k => View.ld (iblk m c 3 t) r0_1 (ix2 e k)))
    (fun k => View.ld (iblk m c 4 t) r0_3 (ix2 (0 : Fin 1) k)) (fun k => View.ld (iblk m c 5 t) r0_3 (ix2 (0 : Fin 1) k)) k = _
  simp only [rd0 m c t r a _ hr, rd1 m c t r a _ hr, rd2 m c t r a _ hr, rdW, rdG, rdB]
  rfl

/-- The modulated rows of a block. -/
theorem blkMod (t : Fin cfg0.N) (a : Fin 256) (k : Fin 2048) (r : Fin 8192) (hr : r.val = 256 * t.val + a.val) :
    k0_pay17 (F := Ideal) (iblk m c 0 t) (iblk m c 1 t) (iblk m c 2 t) (iblk m c 3 t) (iblk m c 4 t) (iblk m c 5 t) (iblk m c 6 t) (ix2 a k)
      = MODL (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r k := by
  unfold k0_pay17
  refine (payMod _ _ _ _).trans ?_
  show modl (fun k => k0_pay16 (F := Ideal) (iblk m c 0 t) (iblk m c 1 t) (iblk m c 2 t) (iblk m c 3 t) (iblk m c 4 t) (iblk m c 5 t) (iblk m c 6 t) (ix2 a k))
    (fun k => View.ld (iblk m c 2 t) r0_4 (ix3 (0 : Fin 1) (0 : Fin 1) k)) (fun k => View.ld (iblk m c 2 t) r0_5 (ix3 (0 : Fin 1) (0 : Fin 1) k)) k = _
  simp only [blkNorm m c t a _ r hr, rd3 m c t r a _ hr, rd4 m c t r a _ hr]
  rfl

/-- The scores of a block. -/
theorem blkScore (t : Fin cfg0.N) (a : Fin 256) (n : Fin 256) (r : Fin 8192) (hr : r.val = 256 * t.val + a.val) :
    k0_pay6 (F := Ideal) (k0_pay16 (F := Ideal) (iblk m c 0 t) (iblk m c 1 t) (iblk m c 2 t) (iblk m c 3 t) (iblk m c 4 t) (iblk m c 5 t) (iblk m c 6 t))
        (View.ld (iblk m c 2 t) r0_4) (View.ld (iblk m c 2 t) r0_5) (View.ld (iblk m c 6 t) r0_6) (ix2 a n)
      = SCORE (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) r n := by
  refine (payScore _ _ _ _ _).trans ?_
  show score (fun k => k0_pay17 (F := Ideal) (iblk m c 0 t) (iblk m c 1 t) (iblk m c 2 t) (iblk m c 3 t) (iblk m c 4 t) (iblk m c 5 t) (iblk m c 6 t) (ix2 a k))
    (fun k => View.ld (iblk m c 6 t) r0_6 (ix2 k n)) = _
  simp only [blkMod m c t a _ r hr, rdR]
  rfl

theorem final7 : (dats m 0 c).arrAt 7 (cfgs 0).N = fun i : S8192x2048.Idx => NORMED (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 7 _ (by decide +kernel) fun t _ y => ?_
  blk_simp
  rw [after0_7]
  canon_tiles x h
  obtain ⟨a, k, rfl⟩ : ∃ a k, x = ix2 a k := ⟨x 0, x 1, eq_ix2 x⟩
  have ht : t.val < 32 := t.isLt
  simp only [ix2_0, ix2_1] at h0 h1
  have e0 : ((win0_7.blk t).view.emb y 0).val = 256 * t.val + a.val := by
    blk_simp [idx t]; omega
  have e1 : (win0_7.blk t).view.emb y 1 = k := by
    apply Fin.ext; blk_simp [idx t]; omega
  rw [e1]
  exact blkNorm m c t a k _ e0

theorem final9 : (dats m 0 c).arrAt 9 (cfgs 0).N = fun i : S8192x256.Idx => SCORE (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 9 _ (by decide +kernel) fun t _ y => ?_
  blk_simp
  rw [after0_9]
  canon_tiles x h
  obtain ⟨a, k, rfl⟩ : ∃ a k, x = ix2 a k := ⟨x 0, x 1, eq_ix2 x⟩
  have ht : t.val < 32 := t.isLt
  simp only [ix2_0, ix2_1] at h0 h1
  have e0 : ((win0_9.blk t).view.emb y 0).val = 256 * t.val + a.val := by
    blk_simp [idx t]; omega
  have e1 : (win0_9.blk t).view.emb y 1 = k := by
    apply Fin.ext; blk_simp [idx t]; omega
  rw [e1]
  exact blkScore m c t a k _ e0

/-- Column of a row that the pairs keep at chunk `b`, half `e` and lane `l`. -/
theorem colVal (b : Fin 8) (e : Fin 2) (l : Fin 128) : (col b e l).val = e.val * 1024 + b.val * 128 + l.val := rfl

theorem final8 : (dats m 0 c).arrAt 8 (cfgs 0).N = fun i : S8192x8x2x128.Idx => MODL (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (col (i 1) (i 2) (i 3)) := by
  refine (dats m 0 c).arrAt_eq_of_covers 8 _ (by decide +kernel) fun t _ y => ?_
  blk_simp
  rw [after0_8]
  have ht : t.val < 32 := t.isLt
  canon_tiles x h
  all_goals obtain ⟨a, u, e, l, rfl⟩ : ∃ a u e l, x = ix4 a u e l := ⟨x 0, x 1, x 2, x 3, eq_ix4 x⟩
  all_goals simp only [ix4_0, ix4_1, ix4_2, ix4_3] at h0 h1 h2 h3 x1_lt
  all_goals
    have e0 : ((win0_8.blk t).view.emb y 0).val = 256 * t.val + a.val := by
      blk_simp [idx t]; omega
  all_goals
    have e2 : (win0_8.blk t).view.emb y 2 = e := by
      apply Fin.ext; blk_simp [idx t]; omega
  all_goals
    have e3 : (win0_8.blk t).view.emb y 3 = l := by
      apply Fin.ext; blk_simp [idx t]; omega
  · have e1 : (win0_8.blk t).view.emb y 1 = (7 : Fin 8) := by
      refine Fin.ext (Eq.trans (b := 7) ?_ rfl); blk_simp [idx t]; omega
    rw [e1, e2, e3]
    exact (piece7 _ a u e l).trans (blkMod m c t a _ _ e0)
  · have e1 : (win0_8.blk t).view.emb y 1 = (6 : Fin 8) := by
      refine Fin.ext (Eq.trans (b := 6) ?_ rfl); blk_simp [idx t]; omega
    rw [e1, e2, e3]
    exact (piece6 _ a u e l).trans (blkMod m c t a _ _ e0)
  · have e1 : (win0_8.blk t).view.emb y 1 = (5 : Fin 8) := by
      refine Fin.ext (Eq.trans (b := 5) ?_ rfl); blk_simp [idx t]; omega
    rw [e1, e2, e3]
    exact (piece5 _ a u e l).trans (blkMod m c t a _ _ e0)
  · have e1 : (win0_8.blk t).view.emb y 1 = (4 : Fin 8) := by
      refine Fin.ext (Eq.trans (b := 4) ?_ rfl); blk_simp [idx t]; omega
    rw [e1, e2, e3]
    exact (piece4 _ a u e l).trans (blkMod m c t a _ _ e0)
  · have e1 : (win0_8.blk t).view.emb y 1 = (3 : Fin 8) := by
      refine Fin.ext (Eq.trans (b := 3) ?_ rfl); blk_simp [idx t]; omega
    rw [e1, e2, e3]
    exact (piece3 _ a u e l).trans (blkMod m c t a _ _ e0)
  · have e1 : (win0_8.blk t).view.emb y 1 = (2 : Fin 8) := by
      refine Fin.ext (Eq.trans (b := 2) ?_ rfl); blk_simp [idx t]; omega
    rw [e1, e2, e3]
    exact (piece2 _ a u e l).trans (blkMod m c t a _ _ e0)
  · have e1 : (win0_8.blk t).view.emb y 1 = (1 : Fin 8) := by
      refine Fin.ext (Eq.trans (b := 1) ?_ rfl); blk_simp [idx t]; omega
    rw [e1, e2, e3]
    exact (piece1 _ _ _ a u e l).trans (blkMod m c t a _ _ e0)
  · have e1 : (win0_8.blk t).view.emb y 1 = (0 : Fin 8) := by
      refine Fin.ext (Eq.trans (b := 0) ?_ rfl); blk_simp [idx t]; omega
    rw [e1, e2, e3]
    exact (piece0 _ _ _ a u e l).trans (blkMod m c t a _ _ e0)

end Cert.OutProj
-- ==== Proof.OutRef.lean ====
module

public import proofs.«01_k».proof.Proof.OutFin
public import proofs.«01_k».proof.Proof.Gen.Reference3Ideal.Read

@[expose] public section

set_option maxRecDepth 16384

noncomputable section

/-! What the output projection's reference computes, entry by entry. A row stands at batch entry `p` and position `s`. -/

namespace Cert.OutProj

open Cert.Reference3Ideal Cert.Reference3Ideal.Read Idealize.ShloMosaic Idealize.ShloMosaic.TcCoe Idealize.SL.Sem

/-- The row of batch entry `p` at position `s`. -/
def rowOf (p : Fin 2) (s : Fin 4096) : Fin 8192 := ⟨p.val * 4096 + s.val, by omega⟩

theorem bt_rowOf (p : Fin 2) (s : Fin 4096) : bt (rowOf p s) = p := by
  apply Fin.ext
  show (p.val * 4096 + s.val) / 4096 = p.val
  omega

theorem lit_one : (FloatOps.ofBits (F := Ideal) .f32 0x3F800000#32 : EReal) = 1 := by
  show Ideal.ofBits .f32 _ = _
  simp [Ideal.ofBits, Ideal.ieee, -EReal.coe_mul]
  norm_num

theorem lit_zero : (FloatOps.ofBits (F := Ideal) .f32 0x00000000#32 : EReal) = 0 := by
  show Ideal.ofBits .f32 _ = _
  simp [Ideal.ofBits, Ideal.ieee]

variable (mx : FVec Ideal S8192x2048 .bf16) (x : FVec Ideal S8192x2048 .f32) (md : FVec Ideal S2x6x2048 .f32) (w : FVec Ideal S2048x2048 .f32)
  (g b : FVec Ideal S2048 .f32) (wr : FVec Ideal S2048x256 .f32) (p : Fin 2) (s : Fin 4096) (k e : Fin 2048)

theorem q0 : val_main_v0 (F := Ideal) x (ix3 p s k) = x (ix2 (rowOf p s) k) := by
  rw [val_main_v0_apply]
  refine congrArg x ?_
  have hp := p.isLt
  have hs := s.isLt
  have hk := k.isLt
  funext a
  apply Fin.ext
  fin_cases a <;> dsimp [idx_main_v0, ix1, ix2, ix3, rowOf] <;> omega

theorem q5 : val_main_v5 (F := Ideal) mx (ix3 p s k) = mx (ix2 (rowOf p s) k) := by
  rw [val_main_v5_apply, val_main_v4_apply]
  refine congrArg mx ?_
  have hp := p.isLt
  have hs := s.isLt
  have hk := k.isLt
  funext a
  apply Fin.ext
  fin_cases a <;> dsimp [idx_main_v5, ix2, ix3, rowOf] <;> omega

theorem q9 : val_main_v9 (F := Ideal) md (ix3 p s k) = md (ix3 (bt (rowOf p s)) (2 : Fin 6) k) := by
  rw [val_main_v9_apply, val_main_v1_apply]
  refine congrArg md ?_
  have hp := p.isLt
  have hs := s.isLt
  have hk := k.isLt
  funext a
  apply Fin.ext
  fin_cases a <;> dsimp [idx_main_v9, idx_main_v1, bt, ix1, ix2, ix3, rowOf] <;> omega

theorem q40 : val_main_v40 (F := Ideal) md (ix3 p s k) = md (ix3 (bt (rowOf p s)) (3 : Fin 6) k) := by
  rw [val_main_v40_apply, val_main_v2_apply]
  refine congrArg md ?_
  have hp := p.isLt
  have hs := s.isLt
  have hk := k.isLt
  funext a
  apply Fin.ext
  fin_cases a <;> dsimp [idx_main_v40, idx_main_v2, bt, ix1, ix2, ix3, rowOf] <;> omega

theorem q38 : val_main_v38 (F := Ideal) md (ix3 p s k) = 1 + md (ix3 (bt (rowOf p s)) (4 : Fin 6) k) := by
  rw [val_main_v38_apply, val_main_v37_apply, val_main_v36_apply, val_main_cst_5_apply, val_main_v3_apply, lit_one]
  refine congrArg (fun v : EReal => 1 + v) (congrArg md ?_)
  have hp := p.isLt
  have hs := s.isLt
  have hk := k.isLt
  funext a
  apply Fin.ext
  fin_cases a <;> dsimp [idx_main_v38, idx_main_v3, ix3, rowOf, bt] <;> omega

theorem q31 : val_main_v31 (F := Ideal) g (ix3 p s k) = g (ix1 k) := by
  rw [val_main_v31_apply, val_main_v30_apply]
  refine congrArg g ?_
  have hp := p.isLt
  have hs := s.isLt
  have hk := k.isLt
  funext a
  apply Fin.ext
  fin_cases a <;> rfl

theorem q34 : val_main_v34 (F := Ideal) b (ix3 p s k) = b (ix1 k) := by
  rw [val_main_v34_apply, val_main_v33_apply]
  refine congrArg b ?_
  have hp := p.isLt
  have hs := s.isLt
  have hk := k.isLt
  funext a
  apply Fin.ext
  fin_cases a <;> rfl

/-- The residual row of the reference. -/
abbrev RES (mx : FVec Ideal S8192x2048 .bf16) (x : FVec Ideal S8192x2048 .f32) (md : FVec Ideal S2x6x2048 .f32) (w : FVec Ideal S2048x2048 .f32)
    (r : Fin 8192) : Fin 2048 → EReal :=
  resid (fun k => x (ix2 r k)) (fun k => md (ix3 (bt r) (2 : Fin 6) k)) (fun e => mx (ix2 r e)) (fun e k => w (ix2 e k))

theorem q6 : val_main_v6 (F := Ideal) mx w (ix3 p s k) = ∑ e : Fin 2048, mx (ix2 (rowOf p s) e) * w (ix2 e k) := by
  rw [val_main_v6_apply]
  refine Finset.sum_congr rfl fun e _ => ?_
  have e1 : lidx_main_v6 (ix3 p s k) e = ix3 p s e := by
    funext a; apply Fin.ext; fin_cases a <;> rfl
  have e2 : ridx_main_v6 (ix3 p s k) e = ix2 e k := by
    funext a; apply Fin.ext; fin_cases a <;> rfl
  rw [e1, e2, q5]

theorem q11 : val_main_v11 (F := Ideal) mx x md w (ix3 p s k) = RES mx x md w (rowOf p s) k := by
  rw [val_main_v11_apply, val_main_v8_apply, val_main_v10_apply, val_main_v7_apply, val_main_cst_apply, q0, q9, q6]
  rfl

theorem q15 (u : Fin 1) : val_main_v15 (F := Ideal) mx x md w (ix3 p s u) = mean (RES mx x md w (rowOf p s)) := by
  rw [val_main_v15_apply, val_main_v13_apply, val_main_v14_apply, val_main_cst_1_apply, val_main_v12_apply, val_main_cst_0_apply, lit_zero]
  have hh : (∑ j : Fin 2048, val_main_v11 (F := Ideal) mx x md w (idx_main_v12 (idx_main_v13 (ix3 p s u)) j)) = ∑ j : Fin 2048, RES mx x md w (rowOf p s) j := by
    refine Finset.sum_congr rfl fun j _ => ?_
    have e1 : idx_main_v12 (idx_main_v13 (ix3 p s u)) j = ix3 p s j := by
      funext a; apply Fin.ext; fin_cases a <;> rfl
    rw [e1, q11]
  rw [hh]
  show Ideal.div (0 + _) _ = _
  rw [zero_add]
  rfl

theorem q17 : val_main_v17 (F := Ideal) mx x md w (ix3 p s k) = cen (RES mx x md w (rowOf p s)) k := by
  rw [val_main_v17_apply, q11, val_main_v16_apply]
  have e1 : idx_main_v16 (ix3 p s k) = ix3 p s (0 : Fin 1) := by
    funext a; apply Fin.ext; fin_cases a <;> rfl
  rw [e1, q15]
  rfl

theorem q24 : val_main_v24 (F := Ideal) mx x md w (ix3 p s k) = cen (RES mx x md w (rowOf p s)) k := by
  rw [val_main_v24_apply, q11, val_main_v23_apply]
  have e1 : idx_main_v23 (ix3 p s k) = ix3 p s (0 : Fin 1) := by
    funext a; apply Fin.ext; fin_cases a <;> rfl
  rw [e1, q15]
  rfl

theorem q22 (u : Fin 1) : val_main_v22 (F := Ideal) mx x md w (ix3 p s u)
    = mean (fun j => cen (RES mx x md w (rowOf p s)) j * cen (RES mx x md w (rowOf p s)) j) := by
  rw [val_main_v22_apply, val_main_v20_apply, val_main_v21_apply, val_main_cst_3_apply, val_main_v19_apply, val_main_cst_2_apply, lit_zero]
  have hh : (∑ j : Fin 2048, val_main_v18 (F := Ideal) mx x md w (idx_main_v19 (idx_main_v20 (ix3 p s u)) j))
      = ∑ j : Fin 2048, cen (RES mx x md w (rowOf p s)) j * cen (RES mx x md w (rowOf p s)) j := by
    refine Finset.sum_congr rfl fun j _ => ?_
    have e1 : idx_main_v19 (idx_main_v20 (ix3 p s u)) j = ix3 p s j := by
      funext a; apply Fin.ext; fin_cases a <;> rfl
    rw [e1, val_main_v18_apply, q17]
    rfl
  rw [hh]
  show Ideal.div (0 + _) _ = _
  rw [zero_add]
  rfl

theorem q35 : val_main_v35 (F := Ideal) mx x md w g b (ix3 p s k) = NORMED mx x md w g b (rowOf p s) k := by
  rw [val_main_v35_apply, val_main_v32_apply, val_main_v29_apply, q24, val_main_v28_apply, q31, q34]
  have e1 : idx_main_v28 (ix3 p s k) = ix3 p s (0 : Fin 1) := by
    funext a; apply Fin.ext; fin_cases a <;> rfl
  rw [e1, val_main_v27_apply, val_main_v26_apply, q22, val_main_v25_apply, val_main_cst_4_apply]
  rfl

theorem q41 : val_main_v41 (F := Ideal) mx x md w g b (ix3 p s k) = MODL mx x md w g b (rowOf p s) k := by
  rw [val_main_v41_apply, val_main_v39_apply, q35, q38, q40]
  rfl

/-- Batch entry and position of a row. -/
theorem rowOf_split (r : Fin 8192) : rowOf (⟨r.val / 4096, by omega⟩ : Fin 2) (⟨r.val % 4096, by omega⟩ : Fin 4096) = r := by
  apply Fin.ext
  show r.val / 4096 * 4096 + r.val % 4096 = r.val
  omega

theorem ref7 : val_main_v53 (F := Ideal) mx x md w g b = fun i : S8192x2048.Idx => NORMED mx x md w g b (i 0) (i 1) := by
  funext i
  have h0 : (i 0).val < 8192 := (i 0).isLt
  have h1 : (i 1).val < 2048 := (i 1).isLt
  have e1 : idx_main_v53 i = ix3 (⟨(i 0).val / 4096, by omega⟩ : Fin 2) (⟨(i 0).val % 4096, by omega⟩ : Fin 4096) (i 1) := by
    funext a; apply Fin.ext; fin_cases a <;> dsimp [idx_main_v53, ix3] <;> omega
  rw [val_main_v53_apply, e1]
  exact (q35 mx x md w g b _ _ _).trans (congrArg (fun r => NORMED mx x md w g b r (i 1)) (rowOf_split (i 0)))

theorem q42 (r : Fin 8192) : val_main_v42 (F := Ideal) mx x md w g b (ix2 r k) = MODL mx x md w g b r k := by
  have h0 : r.val < 8192 := r.isLt
  have h1 : k.val < 2048 := k.isLt
  have e1 : idx_main_v42 (ix2 r k) = ix3 (⟨r.val / 4096, by omega⟩ : Fin 2) (⟨r.val % 4096, by omega⟩ : Fin 4096) k := by
    funext a; apply Fin.ext; fin_cases a <;> dsimp [idx_main_v42, ix2, ix3] <;> omega
  rw [val_main_v42_apply, e1, q41]
  exact congrArg (fun r => MODL mx x md w g b r k) (rowOf_split r)

theorem ref8 : val_main_v52 (F := Ideal) mx x md w g b = fun i : S8192x8x2x128.Idx => MODL mx x md w g b (i 0) (col (i 1) (i 2) (i 3)) := by
  funext i
  have h0 : (i 0).val < 8192 := (i 0).isLt
  have h1 : (i 1).val < 8 := (i 1).isLt
  have h2 : (i 2).val < 2 := (i 2).isLt
  have h3 : (i 3).val < 128 := (i 3).isLt
  have e1 : idx_main_v50 (idx_main_v51 i)
      = ix3 (⟨(i 0).val / 4096, by omega⟩ : Fin 2) (⟨(i 0).val % 4096, by omega⟩ : Fin 4096) (col (i 1) (i 2) (i 3)) := by
    funext a; apply Fin.ext; fin_cases a <;> dsimp [idx_main_v50, idx_main_v51, ix3, col] <;> omega
  rw [val_main_v52_apply]
  show val_main_v51 (F := Ideal) mx x md w g b i = _
  rw [val_main_v51_apply, val_main_v50_apply, e1, q41]
  exact congrArg (fun r => MODL mx x md w g b r (col (i 1) (i 2) (i 3))) (rowOf_split (i 0))

theorem ref9 : val_main_v49 (F := Ideal) mx x md w g b wr = fun i : S8192x256.Idx => SCORE mx x md w g b wr (i 0) (i 1) := by
  funext i
  have hh : val_main_v43 (F := Ideal) mx x md w g b wr i = ∑ k : Fin 2048, MODL mx x md w g b (i 0) k * wr (ix2 k (i 1)) := by
    rw [val_main_v43_apply]
    refine Finset.sum_congr rfl fun j _ => ?_
    have e1 : lidx_main_v43 i j = ix2 (i 0) j := by
      funext a; apply Fin.ext; fin_cases a <;> rfl
    have e2 : ridx_main_v43 i j = ix2 j (i 1) := by
      funext a; apply Fin.ext; fin_cases a <;> rfl
    rw [e1, e2]
    exact congrArg (· * wr (ix2 j (i 1))) (q42 mx x md w g b j (i 0))
  rw [val_main_v49_apply, val_main_v48_apply, val_main_cst_7_apply, val_main_v47_apply, val_main_v46_apply, val_main_cst_6_apply,
    val_main_v45_apply, val_main_v44_apply, hh, lit_one]
  show Ideal.div 1 (1 + Ideal.exp (-_)) = Ideal.div 1 (1 + Ideal.exp (0 - _))
  rw [zero_sub]

end Cert.OutProj
-- ==== Proof.Alg3.lean ====
module

public import proofs.«01_k».proof.Proof.OutRef
public import proofs.«01_k».proof.Defs
public import Idealize.ShloMosaic.Lib.Claim
public import Idealize.ShloMosaic.Lib.Quiescent

@[expose] public section

set_option maxRecDepth 16384

/-! The output projection's claims. -/

namespace Cert.OutProj

open Idealize.ShloMosaic Idealize.ShloMosaic.TcCoe Idealize.SL.Sem

/-- The reference runs and leaves its arguments alone. -/
theorem frame3 : Cert.quiescent_Reference3Ideal := by
  intro m g hpre
  run_from Cert.Reference3Ideal.Value.run m g
  exact fun _ => by simp
  exact sem_eq_zero_of_no_sems (sig := Cert.Reference3Ideal.sig) (by decide) _

section Each

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- The two programs' arguments agree on device `c`. -/
def Agree : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
  ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)

variable (h : Agree m m' c)
include h

theorem same7 : Cert.Reference3Ideal.Value.res_main_v53 m' c = (Cert.Kernel3Ideal.Gen.dats m 0 c).arrAt 7 (Cert.Kernel3Ideal.cfgs 0).N := by
  obtain ⟨a0, a1, a2, a3, a4, a5, a6⟩ := h
  rw [Cert.Reference3Ideal.Read.val_main_v53_eq, a0, a1, a2, a3, a4, a5]
  exact (ref7 _ _ _ _ _ _).trans (final7 m c).symm

theorem same8 : Cert.Reference3Ideal.Value.res_main_v52 m' c = (Cert.Kernel3Ideal.Gen.dats m 0 c).arrAt 8 (Cert.Kernel3Ideal.cfgs 0).N := by
  obtain ⟨a0, a1, a2, a3, a4, a5, a6⟩ := h
  rw [Cert.Reference3Ideal.Read.val_main_v52_eq, a0, a1, a2, a3, a4, a5]
  exact (ref8 _ _ _ _ _ _).trans (final8 m c).symm

theorem same9 : Cert.Reference3Ideal.Value.res_main_v49 m' c = (Cert.Kernel3Ideal.Gen.dats m 0 c).arrAt 9 (Cert.Kernel3Ideal.cfgs 0).N := by
  obtain ⟨a0, a1, a2, a3, a4, a5, a6⟩ := h
  rw [Cert.Reference3Ideal.Read.val_main_v49_eq, a0, a1, a2, a3, a4, a5, a6]
  exact (ref9 _ _ _ _ _ _ _).trans (final9 m c).symm

end Each

/-- The kernel and its reference end with equal results. -/
theorem alg : Cert.algebraic_Kernel3Ideal_Reference3Ideal := by
  pair_intro
  · run_from Cert.Kernel3Ideal.Gen.run_main m g
  · refine (θ_run Cert.Reference3Ideal.defs _ _).mono (fun r hr c => ?_) (Cert.Reference3Ideal.Value.run (F := Ideal) m' g')
    obtain ⟨r0, r1, r2, r3⟩ := hr c
    exact ⟨r0.trans (same7 m m' c (hagree c)), r1.trans (same8 m m' c (hagree c)), r2.trans (same9 m m' c (hagree c)), r3⟩

end Cert.OutProj
-- ==== Proof.Ada.lean ====
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The modulation: every block of the kernel's result is the conditions, each times its own sigmoid, times the weight
    columns, plus the bias. -/

namespace Cert.Ada

open Cert.Kernel4Ideal Cert.Kernel4Ideal.Gen Idealize.ShloMosaic Idealize.ShloMosaic.TcCoe Idealize.SL.Sem

/-- A number times its sigmoid. -/
def sil (v : EReal) : EReal := v * Ideal.div 1 (1 + Ideal.exp (0 - v))

/-- One entry of the modulation. -/
def ADA (x : FVec Ideal S8x2048 .f32) (w : FVec Ideal S2048x12288 .f32) (b : FVec Ideal S12288 .f32) :
    FVec Ideal S8x12288 .f32 := fun i =>
  (∑ k : Fin 2048, sil (x (ix2 (i 0) k)) * w (ix2 k (i 1))) + b (ix1 (i 1))

variable (m : (ℓ : Loc nD τ sig) → Buf (Elt Ideal) ℓ) (c : Dev nD)

/-- Where each window stands at grid point `t`. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- What a block holds. -/
theorem pay (x : FVec Ideal S8x2048 .f32) (w : FVec Ideal S2048x1024 .f32) (b : FVec Ideal S1x1024 .f32) (j : S8x1024.Idx) :
    k0_pay1 (F := Ideal) x w b j
      = (∑ k : Fin 2048, sil (x (ix2 (j 0) k)) * w (ix2 k (j 1))) + b (ix2 (0 : Fin 1) (j 1)) := by
  unfold sil
  pointwise [k0_pay1]

section Reads

variable (t : Fin cfg0.N) (a : Fin 8) (k : Fin 2048) (n : Fin 1024) (q : Fin 12288)

theorem rdX : View.ld (iblk m c 0 t) r0_0 (ix2 a k) = m ((c : Thread nD τ).loc main_arg0) (ix2 a k) := by
  blk_point [iblk, V, idx t]

theorem rdW (hq : q.val = 1024 * t.val + n.val) :
    View.ld (iblk m c 1 t) r0_1 (ix2 k n) = m ((c : Thread nD τ).loc main_arg1) (ix2 k q) := by
  have ht : t.val < 12 := t.isLt
  blk_point [iblk, V, idx t]

theorem rdB (hq : q.val = 1024 * t.val + n.val) :
    View.ld (iblk m c 2 t) r0_2 (ix2 (0 : Fin 1) n) = m ((c : Thread nD τ).loc main_arg2) (ix1 q) := by
  have ht : t.val < 12 := t.isLt
  blk_simp [iblk, idx t]
  entry_read
  pointwise
  refine shapeCast_apply (s := S12288) (t := S1x12288) _ shapeCasts_S12288_S1x12288 _ (ix1 q) ?_
  have e : ((View.whole main_v0).slice ((win0 2).rect t)).emb (ix2 (0 : Fin 1) n) = ix2 (0 : Fin 1) q := by
    funext a
    apply Fin.ext
    fin_cases a
    · blk_simp [idx t]
    · blk_simp [idx t]
      show t.val * 1024 + n.val = q.val
      omega
  rw [e]
  exact (Shape.rowMajor_val_one _).trans ((Shape.rowMajor_val_two _).trans (by simp)).symm

end Reads

/-- The array the kernel leaves. -/
theorem final : (dats m 0 c).arrAt 3 (cfgs 0).N = ADA (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  canon_tiles x h
  obtain ⟨a, n, rfl⟩ : ∃ a n, x = ix2 a n := ⟨x 0, x 1, eq_ix2 x⟩
  have ht : t.val < 12 := t.isLt
  simp only [ix2_0, ix2_1] at h0 h1
  have e0 : (win0_3.blk t).view.emb y 0 = a := by
    apply Fin.ext; blk_simp [idx t]; omega
  have e1 : ((win0_3.blk t).view.emb y 1).val = 1024 * t.val + n.val := by
    blk_simp [idx t]; omega
  refine (pay _ _ _ _).trans ?_
  unfold ADA
  rw [e0]
  simp only [ix2_0, ix2_1]
  refine congrArg₂ (fun a b : EReal => a + b) (Finset.sum_congr rfl fun k _ => ?_) (rdB m c t n _ e1)
  rw [rdX, rdW m c t k n _ e1]

theorem one_lit : (FloatOps.ofBits .f32 0x3F800000#32 : Ideal .f32) = (1 : EReal) := by
  show Ideal.ofBits .f32 _ = _
  simp [Ideal.ofBits, Ideal.ieee, -EReal.coe_mul]
  norm_num

/-- The reference's factor is the kernel's. -/
theorem refSil (x : FVec Ideal S8x2048 .f32) (i : S8x2048.Idx) :
    Cert.Reference4Ideal.Read.val_main_v0 (F := Ideal) x i = sil (x i) := by
  rw [Cert.Reference4Ideal.Read.val_main_v0_apply, Cert.Reference4Ideal.Read.val_main_call0_v5_apply,
    Cert.Reference4Ideal.Read.val_main_call0_v4_apply, Cert.Reference4Ideal.Read.val_main_call0_cst_0_apply,
    Cert.Reference4Ideal.Read.val_main_call0_v3_apply, Cert.Reference4Ideal.Read.val_main_call0_v2_apply,
    Cert.Reference4Ideal.Read.val_main_call0_cst_apply, one_lit]
  show x i * Ideal.div 1 (1 + Ideal.exp (-(x i))) = _
  unfold sil
  rw [sub_eq_add_neg, zero_add]

/-- The reference's array. -/
theorem ref (x : FVec Ideal S8x2048 .f32) (w : FVec Ideal S2048x12288 .f32) (b : FVec Ideal S12288 .f32) :
    Cert.Reference4Ideal.Read.val_main_v4 (F := Ideal) x w b = ADA x w b := by
  funext i
  rw [Cert.Reference4Ideal.Read.val_main_v4_apply, Cert.Reference4Ideal.Read.val_main_v3_apply,
    Cert.Reference4Ideal.Read.val_main_v2_apply, Cert.Reference4Ideal.Read.val_main_v1_apply]
  refine congrArg₂ (fun a b : EReal => a + b) (Finset.sum_congr rfl fun k _ => ?_) (congrArg b ?_)
  · rw [refSil]
    refine congrArg₂ (fun a b : EReal => a * b) (congrArg sil (congrArg x ?_)) (congrArg w ?_)
    all_goals (funext a; apply Fin.ext; fin_cases a <;> rfl)
  · funext a; apply Fin.ext; fin_cases a; rfl

end Cert.Ada
-- ==== Proof.Alg4.lean ====
module

public import proofs.«01_k».proof.Proof.Ada
public import Idealize.ShloMosaic.Lib.Claim
public import Idealize.ShloMosaic.Lib.Quiescent

@[expose] public section

set_option maxRecDepth 16384

/-! The modulation's claims. -/

namespace Cert.Ada

open Idealize.ShloMosaic Idealize.ShloMosaic.TcCoe Idealize.SL.Sem

/-- The reference runs and leaves its arguments alone. -/
theorem frame4 : Cert.quiescent_Reference4Ideal := by
  intro m g hpre
  run_from Cert.Reference4Ideal.Value.run m g
  exact fun _ => by simp
  exact sem_eq_zero_of_no_sems (sig := Cert.Reference4Ideal.sig) (by decide) _

/-- The kernel and its reference end with equal results. -/
theorem alg : Cert.algebraic_Kernel4Ideal_Reference4Ideal := by
  pair_intro
  · run_from Cert.Kernel4Ideal.Gen.run_main m g
  · run_from Cert.Reference4Ideal.Value.run m' g'
    rw [Cert.Reference4Ideal.Read.val_main_v4_eq]
    exact (ref _ _ _).trans (final m c).symm

end Cert.Ada
-- ==== Proof.FrR.lean ====
module

public import proofs.«01_k».proof.Defs
public import proofs.«01_k».proof.Proof.Gen.ReferenceIdeal.Run
public import proofs.«01_k».proof.Proof.Gen.Reference2Ideal.Run
public import Idealize.ShloMosaic.Lib.Claim
public import Idealize.ShloMosaic.Lib.Quiescent

@[expose] public section

set_option maxRecDepth 16384

/-! The two references run and leave their arguments alone. -/

namespace Cert.RefFrames

open Idealize.ShloMosaic Idealize.ShloMosaic.TcCoe Idealize.SL.Sem

theorem frame2 : Cert.quiescent_Reference2Ideal := by
  intro m g hpre
  run_from Cert.Reference2Ideal.Value.run m g
  exact fun _ => by simp
  exact sem_eq_zero_of_no_sems (sig := Cert.Reference2Ideal.sig) (by decide) _

theorem frame1 : Cert.quiescent_ReferenceIdeal := by
  intro m g hpre
  run_from Cert.ReferenceIdeal.Value.run m g
  exact fun _ => by simp
  exact sem_eq_zero_of_no_sems (sig := Cert.ReferenceIdeal.sig) (by decide) _

end Cert.RefFrames
-- ==== Proof.MoeIKit.lean ====
/- The routed experts' call: what the pipeline around its body is, at the tables the launch holds. -/
module

public import proofs.«01_k».proof.Proof.Gen.Kernel5Ideal.Launch
public import proofs.«01_k».proof.Proof.Gen.Kernel5Ideal.Skeleton
public import proofs.«01_k».proof.Proof.Gen.Kernel5Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers of core `c` as they stand when the call is entered. -/
abbrev V (c : Dev nD) (b : Ref sig .tc) : Buf (Elt F) ((c : Thread nD τ).loc b) := m ((c : Thread nD τ).loc b)

set_option maxHeartbeats 800000 in
/-- The whole program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-- The contents of the three tables. -/
def tbl : pre0.Contents (Elt F) := fun j => V m (0 : Dev nD) (pre0.ref j)
/-- Every device holds these tables. -/
theorem V_pre (c : Dev nD) (j : Fin 3) : V m c (pre0.ref j) = tbl m j := by
  obtain rfl : c = 0 := Subsingleton.elim _ _; rfl
/-- Each block the tables name lies inside its array. -/
abbrev Ok : Prop := ok0 (F := F) (tbl m)
/-- The tables, with that fact. -/
abbrev adm (hO : Ok m) : (pcfg0 (F := F)).Adm := ⟨tbl m, hO⟩
abbrev cfgM (hO : Ok m) : Pipeline.Cfg sig Λ₀ := cfg0 (adm m hO)

abbrev tbM0_0 : Memref sig .tc .smem S768 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _
abbrev tbM0_2 : Memref sig .tc .smem S98304 .i32 := Memref.whole main_arg2
abbrev htbM0_2 : tbM0_2.IsWhole := Memref.isWhole_whole _

/-- The contents a table's buffer may have. -/
abbrev TbBuf0 (c : Dev nD) {S : Shape} {e : EltTy} (M : Memref sig .tc .smem S e) : Type := Buf (Elt F) (M.view.loc (c : Thread nD τ))
/-- Half of a table, held for reading. -/
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves, one by one. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments are unchanged, from a run that ends with each array at what the windows leave. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c)))⟩) h

abbrev VO0_5 : View sig .tc .vmem S2048x128 .f32 := (Memref.whole cc0_stg5_0 : Memref sig .tc .vmem S2048x128 .f32).view
abbrev ms0_0 (hO : Ok m) (t : Fin (cfgM m hO).N) : Memref sig .tc .vmem S65536x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2048x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2048x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S256x2048 .bf16 := Memref.whole cc0_scratch2
abbrev scM0_3 : Memref sig .tc .vmem S1024x128 .i32 := Memref.whole cc0_scratch3

/-- The scratch buffers at some contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The result's block is written back at every point. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel's body at point `t`. -/
abbrev bodyAt0 (a : (pcfg0 (F := F)).Adm) (t : Fin (cfg0 a).N) : Prog (TpuEff nD τ sig (Elt F) Λ₀ .tc) PUnit :=
  cc0_moe (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.MoeI
-- ==== Proof.MoeIRun.lean ====
/- The routed experts' call: what one point of the body does. -/
module

public import proofs.«01_k».proof.Proof.MoeIKit
public import Idealize.ShloMosaic.Lib.WritesUnit
public import Idealize.ShloMosaic.Lib.VecWindow
public import Idealize.ShloMosaic.Lib.Pipeline.Value

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model of the machine the proof speaks of. -/
abbrev MM (F : FTy → Type) [FloatOps F] : Type _ := MT nD τ sig Unit (Elt F) ℕ (UR sig nD τ) ℕ

/-- A memref's buffer, held whole at `f`. -/
abbrev held (c : Dev nD) {sp : Space} {S : Shape} {e : EltTy} (M : Memref sig .tc sp S e) (f : BufTy.Contents (Elt F) M.view.ty) : sProp (MM F) :=
  M.view.loc (c : Thread nD τ) ↦[M.view.set]{fullShare} f

/-- One trip of the gathering loop: a piece of the gathered rows is written, whatever they held. -/
def trip (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (xt0 : TbBuf0 (F := F) c tbM0_0) (xt1 : TbBuf0 (F := F) c tbM0_1) (xt2 : TbBuf0 (F := F) c tbM0_2)
    (arg0 : BitVec 32) (v11 : Elt F .i32) (h2 : k0_cond2 i v11 = 1#1)
    (hchk : ∀ y : S98304.Idx, k0_chk1 i v11 ((tbM0_2.view.read (Elt F) xt2 : Vec F S98304 .i32) y))
    (k : Fin k0_t1_loop.trips) :
    { L : List (View.Piece (Elt F) S1024x128 .i32) //
      ∀ (E : Set ℕ) (f : BufTy.Contents (Elt F) arg13.view.ty),
        iprop(held c arg4 (harg4.unread x0)
          ∗ held c arg13 f ∗ tbPt0 c tbM0_2 xt2)
        ⊢ wp frame (wpE (defs₀ (F := F)) Variants.none c none) E
            (k0_t1_body i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg0 v11 h2 k ())
            (fun _ => iprop(held c arg4 (harg4.unread x0)
              ∗ held c arg13 (arg13.view.writes (Elt F) f L) ∗ tbPt0 c tbM0_2 xt2)) } := by
  refine ⟨?_, fun E f => ?run⟩
  case run =>
    unfold k0_t1_body
    iintro ⟨H0, H3, HT2⟩
    sl_exec
    sl_step
    sl_close

/-- An index of the words' array. -/
abbrev atR (n d : ℕ) (hn : n < 65536) (hd : d < 128) : S65536x128.Idx :=
  Fin.cons ⟨n, hn⟩ (Fin.cons ⟨d, hd⟩ finZeroElim)

/-- Word `n` of the table of tokens. -/
def tokAt (xt2 : S98304.Idx → Elt F .i32) (n : ℕ) : BitVec 32 := if h : n < 98304 then xt2 (fun a => ⟨n, by obtain rfl : a = 0 := Subsingleton.elim _ _; exact h⟩) else 0#32

/-- The words a point gathers: its slot `r` takes the eight rows of the token that the table names. -/
def gat (i : grid0.Coords) (x0 : Vec F S65536x128 .i32) (xt2 : S98304.Idx → Elt F .i32) : Vec F S1024x128 .i32 := fun y =>
  x0 (atR (8 * ((tokAt (F := F) xt2 (128 * (i 0).val + (y 0).val / 8)).toNat % 8192) + (y 0).val % 8) (y 1).val (by omega) (y 1).isLt)

/-- The gathered rows after `k` trips. -/
def gatTo (i : grid0.Coords) (x0 : Vec F S65536x128 .i32) (xt2 : S98304.Idx → Elt F .i32) (G : Vec F S1024x128 .i32) : ℕ → Vec F S1024x128 .i32
  | 0 => G
  | k + 1 => fun y => if (y 0).val / 8 = k then gat (F := F) i x0 xt2 y else gatTo i x0 xt2 G k y

theorem gatTo_of_lt (i : grid0.Coords) (x0 : Vec F S65536x128 .i32) (xt2 : S98304.Idx → Elt F .i32) (G : Vec F S1024x128 .i32) (k : ℕ) (y : S1024x128.Idx)
    (h : (y 0).val / 8 < k) : gatTo (F := F) i x0 xt2 G k y = gat (F := F) i x0 xt2 y := by
  induction k with
  | zero => omega
  | succ k ih =>
    unfold gatTo
    by_cases e : (y 0).val / 8 = k
    · rw [if_pos e]
    · rw [if_neg e]; exact ih (by omega)

theorem gatTo_all (i : grid0.Coords) (x0 : Vec F S65536x128 .i32) (xt2 : S98304.Idx → Elt F .i32) (G : Vec F S1024x128 .i32) :
    gatTo (F := F) i x0 xt2 G k0_t1_loop.trips = gat (F := F) i x0 xt2 := by
  funext y
  exact gatTo_of_lt i x0 xt2 G _ y (by have h : (y 0).val < 1024 := (y 0).isLt; rw [show k0_t1_loop.trips = 128 by decide]; omega)

/-- A trip writes the row of its own number. -/
theorem trip_read (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (xt0 : TbBuf0 (F := F) c tbM0_0) (xt1 : TbBuf0 (F := F) c tbM0_1) (xt2 : TbBuf0 (F := F) c tbM0_2)
    (arg0 : BitVec 32) (v11 : Elt F .i32) (h2 : k0_cond2 i v11 = 1#1)
    (hchk : ∀ y : S98304.Idx, k0_chk1 i v11 ((tbM0_2.view.read (Elt F) xt2 : Vec F S98304 .i32) y))
    (k : Fin k0_t1_loop.trips) (g : Vec F S1024x128 .i32) :
    arg13.view.writes (Elt F) (harg13.unread g) (trip c i arg4 harg4 arg5 harg5 arg6 harg6 arg7 harg7 arg8 harg8 arg9 harg9 arg10 harg10 arg11 harg11 arg12 harg12 arg13 harg13 x0 xt0 xt1 xt2 arg0 v11 h2 hchk k).1
      = harg13.unread (fun y => if (y 0).val / 8 = k.val then gat (F := F) i x0 xt2 y else g y) := by
  apply harg13.eq_unread
  have hk : k.val < 128 := Nat.lt_of_lt_of_le k.isLt k0_t1_abs.2.1
  have hi : (i 0).val < 768 := (i 0).isLt
  -- the trip's word
  have hw : trip.sl.r c i xt2 k = tokAt (F := F) xt2 (128 * (i 0).val + k.val) := by
    unfold tokAt
    rw [dif_pos (by omega)]
    refine congrArg (β := Elt F .i32) (fun y : S98304.Idx => xt2 y) (funext fun (a : Fin 1) => Fin.ext ?_)
    obtain rfl : a = 0 := Subsingleton.elim _ _
    show k0_off3 i k 0 + 1 * 0 = _
    rw [k0_off3_eq]; rfl
  have hlt : ((tokAt (F := F) xt2 (128 * (i 0).val + k.val)).toNat * 8) % 4294967296 + 8 ≤ 65536 := by
    have h := hchk (fun a => ⟨128 * (i 0).val + k.val, by obtain rfl : a = 0 := Subsingleton.elim _ _; show _ < 98304; omega⟩)
    have h' := h.2 h2 0
    unfold tokAt
    rw [dif_pos (by omega)]
    exact h'
  funext y
  have hy : (y 0).val < 1024 := (y 0).isLt
  refine (View.read_writes_cons_unit arg13.view _ _ _ _ y (k0_off5_eq k)).trans ?_
  by_cases e : (y 0).val / 8 = k.val
  · rw [if_pos e, dif_pos (by
      intro a
      fin_cases a
      · exact ⟨by show 8 * k.val ≤ (y 0).val; omega, by show (y 0).val < 8 * k.val + 8; omega⟩
      · exact ⟨Nat.zero_le _, by have h := (y 1).isLt; exact h⟩)]
    unfold k0_pay14 gat
    dsimp only
    rw [shapeCast_self, View.readAt_eq_ld, harg4.read_unread]
    unfold View.ld
    refine congrArg x0 (funext fun a => Fin.ext ?_)
    fin_cases a
    · show ((trip.sl.r c i xt2 k).toNat * 8) % 4294967296 + 1 * ((y 0).val - 8 * k.val) = 8 * ((tokAt (F := F) xt2 (128 * (i 0).val + (y 0).val / 8)).toNat % 8192) + (y 0).val % 8
      rw [hw, e]; omega
    · show 0 + 1 * ((y 1).val - 0) = (y 1).val; omega
  · rw [if_neg e, dif_neg]
    · exact congrFun (harg13.read_unread g) y
    · intro h
      have h0 : 8 * k.val ≤ (y 0).val ∧ (y 0).val < 8 * k.val + 8 := h 0
      omega

set_option warn.classDefReducibility false in
/-- The gathering loop by its invariant: before trip `k` the first `k` rows are gathered. -/
@[sl_loop] def gatherLoop (c : Dev nD) (E : Set ℕ) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (xt0 : TbBuf0 (F := F) c tbM0_0) (xt1 : TbBuf0 (F := F) c tbM0_1) (xt2 : TbBuf0 (F := F) c tbM0_2)
    (arg0 : BitVec 32) (v11 : Elt F .i32) (h2 : k0_cond2 i v11 = 1#1)
    (hchk : ∀ y : S98304.Idx, k0_chk1 i v11 ((tbM0_2.view.read (Elt F) xt2 : Vec F S98304 .i32) y)) (G : Vec F S1024x128 .i32) :
    LoopInvTy_k0_t1 (F := F) Unit ℕ (UR sig nD τ) ℕ Variants.none c none E i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg0 v11 h2 where
  inv k _ := iprop(held c arg4 (harg4.unread x0) ∗ held c arg13 (harg13.unread (gatTo (F := F) i x0 xt2 G k)) ∗ tbPt0 c tbM0_2 xt2)
  step k acc := by
    iintro ⟨H0, H3, HT2⟩
    iapply (wp_wand_r Idealize.ShloMosaic.frame (wpE (defs₀ (F := F)) Variants.none (c : Thread nD τ) none) E)
    isplitl [H0 H3 HT2]
    · iapply ((trip c i arg4 harg4 arg5 harg5 arg6 harg6 arg7 harg7 arg8 harg8 arg9 harg9 arg10 harg10 arg11 harg11 arg12 harg12 arg13 harg13 x0 xt0 xt1 xt2 arg0 v11 h2 hchk k).2 E (harg13.unread (gatTo (F := F) i x0 xt2 G k.val)))
      isplitl [H0]; · iexact H0
      isplitl [H3]; · iexact H3
      iexact HT2
    · iintro %_ ⟨H0, H3, HT2⟩
      isplitl [H0]; · iexact H0
      isplitl [H3]
      · rw [trip_read]
        iexact H3
      iexact HT2

/-- After the loop every row is gathered. -/
instance gatherExit (c : Dev nD) (E : Set ℕ) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (xt0 : TbBuf0 (F := F) c tbM0_0) (xt1 : TbBuf0 (F := F) c tbM0_1) (xt2 : TbBuf0 (F := F) c tbM0_2)
    (arg0 : BitVec 32) (v11 : Elt F .i32) (h2 : k0_cond2 i v11 = 1#1)
    (hchk : ∀ y : S98304.Idx, k0_chk1 i v11 ((tbM0_2.view.read (Elt F) xt2 : Vec F S98304 .i32) y)) (G : Vec F S1024x128 .i32) :
    LoopExit (gatherLoop c E i arg4 harg4 arg5 harg5 arg6 harg6 arg7 harg7 arg8 harg8 arg9 harg9 arg10 harg10 arg11 harg11 arg12 harg12 arg13 harg13 x0 xt0 xt1 xt2 arg0 v11 h2 hchk G) where
  post _ := iprop(held c arg4 (harg4.unread x0) ∗ held c arg13 (harg13.unread (gat (F := F) i x0 xt2)) ∗ tbPt0 c tbM0_2 xt2)
  exit acc := by
    show iprop(held c arg4 (harg4.unread x0) ∗ held c arg13 (harg13.unread (gatTo (F := F) i x0 xt2 G k0_t1_loop.trips)) ∗ tbPt0 c tbM0_2 xt2)
      ⊢ iprop(held c arg4 (harg4.unread x0) ∗ held c arg13 (harg13.unread (gat (F := F) i x0 xt2)) ∗ tbPt0 c tbM0_2 xt2)
    rw [gatTo_all]

end Cert.MoeI
-- ==== Proof.MoeIBody.lean ====
/- The routed experts' call: the whole body at one point. -/
module

public import proofs.«01_k».proof.Proof.MoeIRun

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word a one-word load of a table finds. -/
abbrev be1 (c : Dev nD) (i : grid0.Coords) (xt0 : TbBuf0 (F := F) c tbM0_0) : Elt F .i32 :=
  View.readAt (Elt F) tbM0_0.view (Rect.unit (s := S768) (k0_off1 i) S1.size (k0_off1_inb i)).toLoadRect xt0 (Shape.Idx.first (show 0 < S1.numel by decide))
abbrev be0 (c : Dev nD) (i : grid0.Coords) (xt0 : TbBuf0 (F := F) c tbM0_0) : Elt F .i32 :=
  View.readAt (Elt F) tbM0_0.view (Rect.unit (s := S768) (k0_off2 i) S1.size (k0_off2_inb i)).toLoadRect xt0 (Shape.Idx.first (show 0 < S1.numel by decide))
abbrev nu (c : Dev nD) (xt1 : TbBuf0 (F := F) c tbM0_1) : Elt F .i32 :=
  View.readAt (Elt F) tbM0_1.view (Rect.unit (s := S1) ![0] S1.size inb_S1_S1_0).toLoadRect xt1 (Shape.Idx.first (show 0 < S1.numel by decide))
/-- The condition under which the weights are taken anew. -/
abbrev cnd1 (a v1 v5 : BitVec 32) : BitVec 1 := Scalar.cmpi .ne (Scalar.extui (Scalar.ori (Scalar.cmpi .eq a 0#32) (Scalar.cmpi .ne v5 v1)) : BitVec 32) 0#32

/-- A whole buffer stored with a function of another whole buffer holds that function's value. -/
theorem stored_whole {S S' : Shape} {e e' : EltTy} {M : Memref sig .tc .vmem S e} {M' : Memref sig .tc .vmem S' e'} (hM : M.IsWhole) (f : BufTy.Contents (Elt F) M.view.ty)
    {off : Fin S.rank → ℕ} (inb : ∀ a, off a + S.size a ≤ S.size a) (f' : BufTy.Contents (Elt F) M'.view.ty) (hM' : M'.IsWhole) {off' : Fin S'.rank → ℕ} (inb' : ∀ a, off' a + S'.size a ≤ S'.size a)
    (x : Vec F S' e') (hf : f' = hM'.unread x) (w : Vec F S' e' → Vec F S e) :
    M.view.writes (Elt F) f [⟨Rect.unit off S.size inb, w (M'.view.readAt (Elt F) (Rect.unit off' S'.size inb').toLoadRect f')⟩] = hM.unread (w x) := by
  apply hM.eq_unread
  rw [View.read_writes_full, View.readAt_full, hf, hM'.read_unread]

set_option maxHeartbeats 400000 in
/-- The expert is new and the block is used. -/
noncomputable def runA (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : (cnd1 (BitVec.ofNat 32 (i 0).val) (be1 c i xt0) (be0 c i xt0) = 1#1))
    (h2 : (k0_cond2 i (nu c xt1) = 1#1)) (h3 : ¬(k0_cond3 i (nu c xt1) = 1#1))
    (hchk : ∀ y : S98304.Idx, k0_chk1 i (nu c xt1) ((tbM0_2.view.read (Elt F) xt2 : Vec F S98304 .i32) y)) :
    { L5 : List (View.Piece (Elt F) S2048x128 .f32) //
      ∀ (E : Set ℕ) (K : PUnit → sProp (MM F)) (f5 : BufTy.Contents (Elt F) arg9.view.ty),
        iprop(held c arg4 (harg4.unread x0) ∗ held c arg5 (harg5.unread x1) ∗ held c arg6 (harg6.unread x2) ∗ held c arg7 (harg7.unread x3) ∗ held c arg8 (harg8.unread x4)
            ∗ held c arg9 f5 ∗ held c arg10 (harg10.unread s0) ∗ held c arg11 (harg11.unread s1) ∗ held c arg12 (harg12.unread s2) ∗ held c arg13 (harg13.unread s3)
            ∗ tbPt0 c tbM0_0 xt0 ∗ tbPt0 c tbM0_1 xt1 ∗ tbPt0 c tbM0_2 xt2
            ∗ (iprop(held c arg4 (harg4.unread x0) ∗ held c arg5 (harg5.unread x1) ∗ held c arg6 (harg6.unread x2) ∗ held c arg7 (harg7.unread x3) ∗ held c arg8 (harg8.unread x4)
              ∗ held c arg9 (arg9.view.writes (Elt F) f5 L5) ∗ iprop(held c arg10 (harg10.unread (k0_pay1 x2)) ∗ held c arg11 (harg11.unread (k0_pay2 x3)) ∗ held c arg12 (harg12.unread (k0_pay3 x4))) ∗ (∃ d, owns (c : Thread nD τ) arg13 fullShare d)
              ∗ tbPt0 c tbM0_0 xt0 ∗ tbPt0 c tbM0_1 xt1 ∗ tbPt0 c tbM0_2 xt2) -∗ K ⟨⟩))
          ⊢ wp frame (wpE (defs₀ (F := F)) Variants.none c none) E (cc0_moe i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K f5 => ?run⟩
  case run =>
    simp only [cc0_moe_eq_skeleton]; unfold cc0_moe_skel
    simp only [k0_part1_eq_skeleton, k0_part2_eq_skeleton, k0_part3_eq_skeleton]
    iintro ⟨H0, H1, H2, H3, H4, H5, HS0, HS1, HS2, HS3, HT0, HT1, HT2, Hk⟩
    let L := gatherLoop c E i arg4 harg4 arg5 harg5 arg6 harg6 arg7 harg7 arg8 harg8 arg9 harg9 arg10 harg10 arg11 harg11 arg12 harg12 arg13 harg13 x0 xt0 xt1 xt2 (BitVec.ofNat 32 (i 0).val) (nu c xt1) h2 hchk s3
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0 HS1 HS2]
    · rw [← stored_whole harg10 arg10.view.junk inb_S2048x256_S2048x256_0_0 (harg6.unread x2) harg6 inb_S1x2048x256_S1x2048x256_0_0_0 x2 rfl k0_pay1,
        ← stored_whole harg11 arg11.view.junk inb_S2048x256_S2048x256_0_0 (harg7.unread x3) harg7 inb_S1x2048x256_S1x2048x256_0_0_0 x3 rfl k0_pay2,
        ← stored_whole harg12 arg12.view.junk inb_S256x2048_S256x2048_0_0 (harg8.unread x4) harg8 inb_S1x256x2048_S1x256x2048_0_0_0 x4 rfl k0_pay3]
      isplitl [HS0]; · iexact HS0
      isplitl [HS1]; · iexact HS1
      iexact HS2
    isplitl [HS3]
    · unfold owns; iexists _, _; isplitr; swap; · iexact HS3
      ipureintro; rfl
    isplitl [HT0]; · iexact HT0
    isplitl [HT1]; · iexact HT1
    iexact HT2

set_option maxHeartbeats 400000 in
/-- The expert is the last block's and the block is used. -/
noncomputable def runB (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : ¬(cnd1 (BitVec.ofNat 32 (i 0).val) (be1 c i xt0) (be0 c i xt0) = 1#1))
    (h2 : (k0_cond2 i (nu c xt1) = 1#1)) (h3 : ¬(k0_cond3 i (nu c xt1) = 1#1))
    (hchk : ∀ y : S98304.Idx, k0_chk1 i (nu c xt1) ((tbM0_2.view.read (Elt F) xt2 : Vec F S98304 .i32) y)) :
    { L5 : List (View.Piece (Elt F) S2048x128 .f32) //
      ∀ (E : Set ℕ) (K : PUnit → sProp (MM F)) (f5 : BufTy.Contents (Elt F) arg9.view.ty),
        iprop(held c arg4 (harg4.unread x0) ∗ held c arg5 (harg5.unread x1) ∗ held c arg6 (harg6.unread x2) ∗ held c arg7 (harg7.unread x3) ∗ held c arg8 (harg8.unread x4)
            ∗ held c arg9 f5 ∗ held c arg10 (harg10.unread s0) ∗ held c arg11 (harg11.unread s1) ∗ held c arg12 (harg12.unread s2) ∗ held c arg13 (harg13.unread s3)
            ∗ tbPt0 c tbM0_0 xt0 ∗ tbPt0 c tbM0_1 xt1 ∗ tbPt0 c tbM0_2 xt2
            ∗ (iprop(held c arg4 (harg4.unread x0) ∗ held c arg5 (harg5.unread x1) ∗ held c arg6 (harg6.unread x2) ∗ held c arg7 (harg7.unread x3) ∗ held c arg8 (harg8.unread x4)
              ∗ held c arg9 (arg9.view.writes (Elt F) f5 L5) ∗ iprop(held c arg10 (harg10.unread s0) ∗ held c arg11 (harg11.unread s1) ∗ held c arg12 (harg12.unread s2)) ∗ (∃ d, owns (c : Thread nD τ) arg13 fullShare d)
              ∗ tbPt0 c tbM0_0 xt0 ∗ tbPt0 c tbM0_1 xt1 ∗ tbPt0 c tbM0_2 xt2) -∗ K ⟨⟩))
          ⊢ wp frame (wpE (defs₀ (F := F)) Variants.none c none) E (cc0_moe i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K f5 => ?run⟩
  case run =>
    simp only [cc0_moe_eq_skeleton]; unfold cc0_moe_skel
    simp only [k0_part1_eq_skeleton, k0_part2_eq_skeleton, k0_part3_eq_skeleton]
    iintro ⟨H0, H1, H2, H3, H4, H5, HS0, HS1, HS2, HS3, HT0, HT1, HT2, Hk⟩
    let L := gatherLoop c E i arg4 harg4 arg5 harg5 arg6 harg6 arg7 harg7 arg8 harg8 arg9 harg9 arg10 harg10 arg11 harg11 arg12 harg12 arg13 harg13 x0 xt0 xt1 xt2 (BitVec.ofNat 32 (i 0).val) (nu c xt1) h2 hchk s3
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0 HS1 HS2]
    · isplitl [HS0]; · iexact HS0
      isplitl [HS1]; · iexact HS1
      iexact HS2
    isplitl [HS3]
    · unfold owns; iexists _, _; isplitr; swap; · iexact HS3
      ipureintro; rfl
    isplitl [HT0]; · iexact HT0
    isplitl [HT1]; · iexact HT1
    iexact HT2

set_option maxHeartbeats 400000 in
/-- The expert is new and the block is not used. -/
noncomputable def runC (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : (cnd1 (BitVec.ofNat 32 (i 0).val) (be1 c i xt0) (be0 c i xt0) = 1#1))
    (h2 : ¬(k0_cond2 i (nu c xt1) = 1#1)) (h3 : (k0_cond3 i (nu c xt1) = 1#1))
    (hchk : ∀ y : S98304.Idx, k0_chk1 i (nu c xt1) ((tbM0_2.view.read (Elt F) xt2 : Vec F S98304 .i32) y)) :
    { L5 : List (View.Piece (Elt F) S2048x128 .f32) //
      ∀ (E : Set ℕ) (K : PUnit → sProp (MM F)) (f5 : BufTy.Contents (Elt F) arg9.view.ty),
        iprop(held c arg4 (harg4.unread x0) ∗ held c arg5 (harg5.unread x1) ∗ held c arg6 (harg6.unread x2) ∗ held c arg7 (harg7.unread x3) ∗ held c arg8 (harg8.unread x4)
            ∗ held c arg9 f5 ∗ held c arg10 (harg10.unread s0) ∗ held c arg11 (harg11.unread s1) ∗ held c arg12 (harg12.unread s2) ∗ held c arg13 (harg13.unread s3)
            ∗ tbPt0 c tbM0_0 xt0 ∗ tbPt0 c tbM0_1 xt1 ∗ tbPt0 c tbM0_2 xt2
            ∗ (iprop(held c arg4 (harg4.unread x0) ∗ held c arg5 (harg5.unread x1) ∗ held c arg6 (harg6.unread x2) ∗ held c arg7 (harg7.unread x3) ∗ held c arg8 (harg8.unread x4)
              ∗ held c arg9 (arg9.view.writes (Elt F) f5 L5) ∗ iprop(held c arg10 (harg10.unread (k0_pay1 x2)) ∗ held c arg11 (harg11.unread (k0_pay2 x3)) ∗ held c arg12 (harg12.unread (k0_pay3 x4))) ∗ (∃ d, owns (c : Thread nD τ) arg13 fullShare d)
              ∗ tbPt0 c tbM0_0 xt0 ∗ tbPt0 c tbM0_1 xt1 ∗ tbPt0 c tbM0_2 xt2) -∗ K ⟨⟩))
          ⊢ wp frame (wpE (defs₀ (F := F)) Variants.none c none) E (cc0_moe i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K f5 => ?run⟩
  case run =>
    simp only [cc0_moe_eq_skeleton]; unfold cc0_moe_skel
    simp only [k0_part1_eq_skeleton, k0_part2_eq_skeleton, k0_part3_eq_skeleton]
    iintro ⟨H0, H1, H2, H3, H4, H5, HS0, HS1, HS2, HS3, HT0, HT1, HT2, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0 HS1 HS2]
    · rw [← stored_whole harg10 (harg10.unread s0) inb_S2048x256_S2048x256_0_0 (harg6.unread x2) harg6 inb_S1x2048x256_S1x2048x256_0_0_0 x2 rfl k0_pay1,
        ← stored_whole harg11 (harg11.unread s1) inb_S2048x256_S2048x256_0_0 (harg7.unread x3) harg7 inb_S1x2048x256_S1x2048x256_0_0_0 x3 rfl k0_pay2,
        ← stored_whole harg12 (harg12.unread s2) inb_S256x2048_S256x2048_0_0 (harg8.unread x4) harg8 inb_S1x256x2048_S1x256x2048_0_0_0 x4 rfl k0_pay3]
      isplitl [HS0]; · iexact HS0
      isplitl [HS1]; · iexact HS1
      iexact HS2
    isplitl [HS3]
    · unfold owns; iexists _, _; isplitr; swap; · iexact HS3
      ipureintro; rfl
    isplitl [HT0]; · iexact HT0
    isplitl [HT1]; · iexact HT1
    iexact HT2

set_option maxHeartbeats 400000 in
/-- The expert is the last block's and the block is not used. -/
noncomputable def runD (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : ¬(cnd1 (BitVec.ofNat 32 (i 0).val) (be1 c i xt0) (be0 c i xt0) = 1#1))
    (h2 : ¬(k0_cond2 i (nu c xt1) = 1#1)) (h3 : (k0_cond3 i (nu c xt1) = 1#1))
    (hchk : ∀ y : S98304.Idx, k0_chk1 i (nu c xt1) ((tbM0_2.view.read (Elt F) xt2 : Vec F S98304 .i32) y)) :
    { L5 : List (View.Piece (Elt F) S2048x128 .f32) //
      ∀ (E : Set ℕ) (K : PUnit → sProp (MM F)) (f5 : BufTy.Contents (Elt F) arg9.view.ty),
        iprop(held c arg4 (harg4.unread x0) ∗ held c arg5 (harg5.unread x1) ∗ held c arg6 (harg6.unread x2) ∗ held c arg7 (harg7.unread x3) ∗ held c arg8 (harg8.unread x4)
            ∗ held c arg9 f5 ∗ held c arg10 (harg10.unread s0) ∗ held c arg11 (harg11.unread s1) ∗ held c arg12 (harg12.unread s2) ∗ held c arg13 (harg13.unread s3)
            ∗ tbPt0 c tbM0_0 xt0 ∗ tbPt0 c tbM0_1 xt1 ∗ tbPt0 c tbM0_2 xt2
            ∗ (iprop(held c arg4 (harg4.unread x0) ∗ held c arg5 (harg5.unread x1) ∗ held c arg6 (harg6.unread x2) ∗ held c arg7 (harg7.unread x3) ∗ held c arg8 (harg8.unread x4)
              ∗ held c arg9 (arg9.view.writes (Elt F) f5 L5) ∗ iprop(held c arg10 (harg10.unread s0) ∗ held c arg11 (harg11.unread s1) ∗ held c arg12 (harg12.unread s2)) ∗ (∃ d, owns (c : Thread nD τ) arg13 fullShare d)
              ∗ tbPt0 c tbM0_0 xt0 ∗ tbPt0 c tbM0_1 xt1 ∗ tbPt0 c tbM0_2 xt2) -∗ K ⟨⟩))
          ⊢ wp frame (wpE (defs₀ (F := F)) Variants.none c none) E (cc0_moe i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, fun E K f5 => ?run⟩
  case run =>
    simp only [cc0_moe_eq_skeleton]; unfold cc0_moe_skel
    simp only [k0_part1_eq_skeleton, k0_part2_eq_skeleton, k0_part3_eq_skeleton]
    iintro ⟨H0, H1, H2, H3, H4, H5, HS0, HS1, HS2, HS3, HT0, HT1, HT2, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0 HS1 HS2]
    · isplitl [HS0]; · iexact HS0
      isplitl [HS1]; · iexact HS1
      iexact HS2
    isplitl [HS3]
    · unfold owns; iexists _, _; isplitr; swap; · iexact HS3
      ipureintro; rfl
    isplitl [HT0]; · iexact HT0
    isplitl [HT1]; · iexact HT1
    iexact HT2

end Cert.MoeI
-- ==== Proof.MoeIOut.lean ====
/- The routed experts' call: the block of the result one point writes. -/
module

public import proofs.«01_k».proof.Proof.MoeIBody

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The words a load at `L` finds. -/
abbrev at8 (g : Vec F S1024x128 .i32) (L : LoadRect S1024x128) : L.shape.Idx → Elt F .i32 := fun x => g (L.idx x)

/-- The rows a point gathered through the expert's feed-forward, each row weighted. -/
def moeY (g : Vec F S1024x128 .i32) (x1 : Vec F S128x128 .f32) (w0 w1 : Vec F S2048x256 .bf16) (w2 : Vec F S256x2048 .bf16) : FVec F S128x2048 .f32 :=
  k0_pay25
    (k0_pay23 (k0_pay15 (at8 g ⟨![0, 0], S128x128.size, ![8, 1], inb_S1024x128_S128x128_0_0_s_8_1⟩)) (k0_pay16 (at8 g ⟨![0, 0], S128x128.size, ![8, 1], inb_S1024x128_S128x128_0_0_s_8_1⟩))
      (k0_pay17 (at8 g ⟨![1, 0], S128x128.size, ![8, 1], inb_S1024x128_S128x128_1_0_s_8_1⟩)) (k0_pay18 (at8 g ⟨![1, 0], S128x128.size, ![8, 1], inb_S1024x128_S128x128_1_0_s_8_1⟩))
      (k0_pay19 (at8 g ⟨![2, 0], S128x128.size, ![8, 1], inb_S1024x128_S128x128_2_0_s_8_1⟩)) (k0_pay20 (at8 g ⟨![2, 0], S128x128.size, ![8, 1], inb_S1024x128_S128x128_2_0_s_8_1⟩))
      (k0_pay21 (at8 g ⟨![3, 0], S128x128.size, ![8, 1], inb_S1024x128_S128x128_3_0_s_8_1⟩)) (k0_pay22 (at8 g ⟨![3, 0], S128x128.size, ![8, 1], inb_S1024x128_S128x128_3_0_s_8_1⟩))
      (at8 g ⟨![4, 0], S128x128.size, ![8, 1], inb_S1024x128_S128x128_4_0_s_8_1⟩)
      (at8 g ⟨![5, 0], S128x128.size, ![8, 1], inb_S1024x128_S128x128_5_0_s_8_1⟩)
      (at8 g ⟨![6, 0], S128x128.size, ![8, 1], inb_S1024x128_S128x128_6_0_s_8_1⟩)
      (at8 g ⟨![7, 0], S128x128.size, ![8, 1], inb_S1024x128_S128x128_7_0_s_8_1⟩))
    (k0_pay24 (k0_pay15 (at8 g ⟨![0, 0], S128x128.size, ![8, 1], inb_S1024x128_S128x128_0_0_s_8_1⟩)) (k0_pay16 (at8 g ⟨![0, 0], S128x128.size, ![8, 1], inb_S1024x128_S128x128_0_0_s_8_1⟩))
      (k0_pay17 (at8 g ⟨![1, 0], S128x128.size, ![8, 1], inb_S1024x128_S128x128_1_0_s_8_1⟩)) (k0_pay18 (at8 g ⟨![1, 0], S128x128.size, ![8, 1], inb_S1024x128_S128x128_1_0_s_8_1⟩))
      (k0_pay19 (at8 g ⟨![2, 0], S128x128.size, ![8, 1], inb_S1024x128_S128x128_2_0_s_8_1⟩)) (k0_pay20 (at8 g ⟨![2, 0], S128x128.size, ![8, 1], inb_S1024x128_S128x128_2_0_s_8_1⟩))
      (k0_pay21 (at8 g ⟨![3, 0], S128x128.size, ![8, 1], inb_S1024x128_S128x128_3_0_s_8_1⟩)) (k0_pay22 (at8 g ⟨![3, 0], S128x128.size, ![8, 1], inb_S1024x128_S128x128_3_0_s_8_1⟩))
      (at8 g ⟨![4, 0], S128x128.size, ![8, 1], inb_S1024x128_S128x128_4_0_s_8_1⟩)
      (at8 g ⟨![5, 0], S128x128.size, ![8, 1], inb_S1024x128_S128x128_5_0_s_8_1⟩)
      (at8 g ⟨![6, 0], S128x128.size, ![8, 1], inb_S1024x128_S128x128_6_0_s_8_1⟩)
      (at8 g ⟨![7, 0], S128x128.size, ![8, 1], inb_S1024x128_S128x128_7_0_s_8_1⟩) w0)
    w1 x1 w2

/-- An index of the rows. -/
abbrev atY (r k : ℕ) (hr : r < 128) (hk : k < 2048) : S128x2048.Idx := fun a => match a with
  | ⟨0, _⟩ => ⟨r, hr⟩
  | ⟨1, _⟩ => ⟨k, hk⟩
/-- An index of one column of tiles. -/
abbrev at2 (y : S2048x128.Idx) : S128x128.Idx := fun a => match a with
  | ⟨0, _⟩ => ⟨(y 0).val / 16, by have h : (y 0).val < 2048 := (y 0).isLt; show _ < 128; omega⟩
  | ⟨1, _⟩ => ⟨(y 1).val, (y 1).isLt⟩

/-- Row `r` of the rows, of `16 · 128` columns, lies in the sixteen rows from `16 r` of the block. -/
def lay (Y : FVec F S128x2048 .f32) : Vec F S2048x128 .f32 := fun y =>
  Y (atY ((y 0).val / 16) (128 * ((y 0).val % 16) + (y 1).val) (by have h : (y 0).val < 2048 := (y 0).isLt; omega) (by have h : (y 1).val < 128 := (y 1).isLt; omega))

/-- Sixteen pieces, each at every sixteenth row. -/
def strips (P : Fin 16 → Vec F S128x128 .f32) : List (View.Piece (Elt F) S2048x128 .f32) :=
  [⟨⟨(⟨![15, 0], S128x128.size, ![16, 1], inb_S2048x128_S128x128_15_0_s_16_1⟩ : LoadRect S2048x128), spos_16_1⟩, P 15⟩,
      ⟨⟨(⟨![14, 0], S128x128.size, ![16, 1], inb_S2048x128_S128x128_14_0_s_16_1⟩ : LoadRect S2048x128), spos_16_1⟩, P 14⟩,
      ⟨⟨(⟨![13, 0], S128x128.size, ![16, 1], inb_S2048x128_S128x128_13_0_s_16_1⟩ : LoadRect S2048x128), spos_16_1⟩, P 13⟩,
      ⟨⟨(⟨![12, 0], S128x128.size, ![16, 1], inb_S2048x128_S128x128_12_0_s_16_1⟩ : LoadRect S2048x128), spos_16_1⟩, P 12⟩,
      ⟨⟨(⟨![11, 0], S128x128.size, ![16, 1], inb_S2048x128_S128x128_11_0_s_16_1⟩ : LoadRect S2048x128), spos_16_1⟩, P 11⟩,
      ⟨⟨(⟨![10, 0], S128x128.size, ![16, 1], inb_S2048x128_S128x128_10_0_s_16_1⟩ : LoadRect S2048x128), spos_16_1⟩, P 10⟩,
      ⟨⟨(⟨![9, 0], S128x128.size, ![16, 1], inb_S2048x128_S128x128_9_0_s_16_1⟩ : LoadRect S2048x128), spos_16_1⟩, P 9⟩,
      ⟨⟨(⟨![8, 0], S128x128.size, ![16, 1], inb_S2048x128_S128x128_8_0_s_16_1⟩ : LoadRect S2048x128), spos_16_1⟩, P 8⟩,
      ⟨⟨(⟨![7, 0], S128x128.size, ![16, 1], inb_S2048x128_S128x128_7_0_s_16_1⟩ : LoadRect S2048x128), spos_16_1⟩, P 7⟩,
      ⟨⟨(⟨![6, 0], S128x128.size, ![16, 1], inb_S2048x128_S128x128_6_0_s_16_1⟩ : LoadRect S2048x128), spos_16_1⟩, P 6⟩,
      ⟨⟨(⟨![5, 0], S128x128.size, ![16, 1], inb_S2048x128_S128x128_5_0_s_16_1⟩ : LoadRect S2048x128), spos_16_1⟩, P 5⟩,
      ⟨⟨(⟨![4, 0], S128x128.size, ![16, 1], inb_S2048x128_S128x128_4_0_s_16_1⟩ : LoadRect S2048x128), spos_16_1⟩, P 4⟩,
      ⟨⟨(⟨![3, 0], S128x128.size, ![16, 1], inb_S2048x128_S128x128_3_0_s_16_1⟩ : LoadRect S2048x128), spos_16_1⟩, P 3⟩,
      ⟨⟨(⟨![2, 0], S128x128.size, ![16, 1], inb_S2048x128_S128x128_2_0_s_16_1⟩ : LoadRect S2048x128), spos_16_1⟩, P 2⟩,
      ⟨⟨(⟨![1, 0], S128x128.size, ![16, 1], inb_S2048x128_S128x128_1_0_s_16_1⟩ : LoadRect S2048x128), spos_16_1⟩, P 1⟩,
      ⟨⟨(⟨![0, 0], S128x128.size, ![16, 1], inb_S2048x128_S128x128_0_0_s_16_1⟩ : LoadRect S2048x128), spos_16_1⟩, P 0⟩]

/-- Sixteen pieces, each at every sixteenth row, fill the block. -/
theorem read_strided (v : View sig .tc .vmem S2048x128 .f32) (f : BufTy.Contents (Elt F) v.ty) (P : Fin 16 → Vec F S128x128 .f32) :
    v.read (Elt F) (v.writes (Elt F) f (strips P))
      = fun y => P ⟨(y 0).val % 16, Nat.mod_lt _ (by omega)⟩ (at2 y) := by
  funext y
  have hc : ∃ p ∈ ((strips P) : List (View.Piece (Elt F) S2048x128 .f32)), y ∈ p.1.set := by
    have hq : (y 0).val % 16 < 16 := Nat.mod_lt _ (by omega)
    have key : ∀ (r : Rect S2048x128) (x : r.shape.Idx), r.emb x = y → y ∈ r.set := fun r x h => h ▸ r.idx_mem x
    have e : ∀ (q : ℕ) (hq : (y 0).val % 16 = q), ∀ a : Fin 2, (![q, 0] : Fin 2 → ℕ) a + (![16, 1] : Fin 2 → ℕ) a * (at2 y a).val = (y a).val := by
      intro q hq a
      fin_cases a
      · show q + 16 * ((y 0).val / 16) = (y 0).val; omega
      · show 0 + 1 * (y 1).val = (y 1).val; omega
    generalize hk : (y 0).val % 16 = k at hq
    have hk' : k = 0 ∨ k = 1 ∨ k = 2 ∨ k = 3 ∨ k = 4 ∨ k = 5 ∨ k = 6 ∨ k = 7 ∨ k = 8 ∨ k = 9 ∨ k = 10 ∨ k = 11 ∨ k = 12 ∨ k = 13 ∨ k = 14 ∨ k = 15 := by omega
    rcases hk' with rfl | rfl | rfl | rfl | rfl | rfl | rfl | rfl | rfl | rfl | rfl | rfl | rfl | rfl | rfl | rfl
    · exact ⟨_, .tail _ (.tail _ (.tail _ (.tail _ (.tail _ (.tail _ (.tail _ (.tail _ (.tail _ (.tail _ (.tail _ (.tail _ (.tail _ (.tail _ (.tail _ (.head _))))))))))))))), key _ (at2 y) (funext fun a => Fin.ext (e 0 hk a))⟩
    · exact ⟨_, .tail _ (.tail _ (.tail _ (.tail _ (.tail _ (.tail _ (.tail _ (.tail _ (.tail _ (.tail _ (.tail _ (.tail _ (.tail _ (.tail _ (.head _)))))))))))))), key _ (at2 y) (funext fun a => Fin.ext (e 1 hk a))⟩
    · exact ⟨_, .tail _ (.tail _ (.tail _ (.tail _ (.tail _ (.tail _ (.tail _ (.tail _ (.tail _ (.tail _ (.tail _ (.tail _ (.tail _ (.head _))))))))))))), key _ (at2 y) (funext fun a => Fin.ext (e 2 hk a))⟩
    · exact ⟨_, .tail _ (.tail _ (.tail _ (.tail _ (.tail _ (.tail _ (.tail _ (.tail _ (.tail _ (.tail _ (.tail _ (.tail _ (.head _)))))))))))), key _ (at2 y) (funext fun a => Fin.ext (e 3 hk a))⟩
    · exact ⟨_, .tail _ (.tail _ (.tail _ (.tail _ (.tail _ (.tail _ (.tail _ (.tail _ (.tail _ (.tail _ (.tail _ (.head _))))))))))), key _ (at2 y) (funext fun a => Fin.ext (e 4 hk a))⟩
    · exact ⟨_, .tail _ (.tail _ (.tail _ (.tail _ (.tail _ (.tail _ (.tail _ (.tail _ (.tail _ (.tail _ (.head _)))))))))), key _ (at2 y) (funext fun a => Fin.ext (e 5 hk a))⟩
    · exact ⟨_, .tail _ (.tail _ (.tail _ (.tail _ (.tail _ (.tail _ (.tail _ (.tail _ (.tail _ (.head _))))))))), key _ (at2 y) (funext fun a => Fin.ext (e 6 hk a))⟩
    · exact ⟨_, .tail _ (.tail _ (.tail _ (.tail _ (.tail _ (.tail _ (.tail _ (.tail _ (.head _)))))))), key _ (at2 y) (funext fun a => Fin.ext (e 7 hk a))⟩
    · exact ⟨_, .tail _ (.tail _ (.tail _ (.tail _ (.tail _ (.tail _ (.tail _ (.head _))))))), key _ (at2 y) (funext fun a => Fin.ext (e 8 hk a))⟩
    · exact ⟨_, .tail _ (.tail _ (.tail _ (.tail _ (.tail _ (.tail _ (.head _)))))), key _ (at2 y) (funext fun a => Fin.ext (e 9 hk a))⟩
    · exact ⟨_, .tail _ (.tail _ (.tail _ (.tail _ (.tail _ (.head _))))), key _ (at2 y) (funext fun a => Fin.ext (e 10 hk a))⟩
    · exact ⟨_, .tail _ (.tail _ (.tail _ (.tail _ (.head _)))), key _ (at2 y) (funext fun a => Fin.ext (e 11 hk a))⟩
    · exact ⟨_, .tail _ (.tail _ (.tail _ (.head _))), key _ (at2 y) (funext fun a => Fin.ext (e 12 hk a))⟩
    · exact ⟨_, .tail _ (.tail _ (.head _)), key _ (at2 y) (funext fun a => Fin.ext (e 13 hk a))⟩
    · exact ⟨_, .tail _ (.head _), key _ (at2 y) (funext fun a => Fin.ext (e 14 hk a))⟩
    · exact ⟨_, .head _, key _ (at2 y) (funext fun a => Fin.ext (e 15 hk a))⟩
  rw [View.read_writes_apply_eq_canon v f y _ hc]
  refine View.canon_apply_of_pieces (fun y => P ⟨(y 0).val % 16, Nat.mod_lt _ (by omega)⟩ (at2 y)) _ ?_ y hc
  have e : ∀ (q : Fin 16) (x : S128x128.Idx) (z : S2048x128.Idx), (z 0).val = q.val + 16 * (x 0).val → (z 1).val = 0 + 1 * (x 1).val →
      P q x = P ⟨(z 0).val % 16, Nat.mod_lt _ (by omega)⟩ (at2 z) := by
    intro q x z h0 h1
    have e1 : q = ⟨(z 0).val % 16, Nat.mod_lt _ (by omega)⟩ := Fin.ext (by show q.val = (z 0).val % 16; omega)
    have e2 : x = at2 z := by
      funext a; apply Fin.ext
      fin_cases a
      · show (x 0).val = (z 0).val / 16; omega
      · show (x 1).val = (z 1).val; omega
    rw [← e1, ← e2]
  simp only [strips, List.forall_mem_cons]
  refine ⟨fun x => e 15 x _ rfl rfl, fun x => e 14 x _ rfl rfl, fun x => e 13 x _ rfl rfl, fun x => e 12 x _ rfl rfl, fun x => e 11 x _ rfl rfl, fun x => e 10 x _ rfl rfl, fun x => e 9 x _ rfl rfl, fun x => e 8 x _ rfl rfl, fun x => e 7 x _ rfl rfl, fun x => e 6 x _ rfl rfl, fun x => e 5 x _ rfl rfl, fun x => e 4 x _ rfl rfl, fun x => e 3 x _ rfl rfl, fun x => e 2 x _ rfl rfl, fun x => e 1 x _ rfl rfl, fun x => e 0 x _ rfl rfl, ?_⟩
  intro p hp; cases hp

/-- The sixteen columns of tiles of the rows. -/
def cut (Y : FVec F S128x2048 .f32) : Fin 16 → Vec F S128x128 .f32 := ![extractStridedSlice S128x128 ![0, 0] Y slices_S128x2048_o0_0_S128x128, extractStridedSlice S128x128 ![0, 128] Y slices_S128x2048_o0_128_S128x128, extractStridedSlice S128x128 ![0, 256] Y slices_S128x2048_o0_256_S128x128, extractStridedSlice S128x128 ![0, 384] Y slices_S128x2048_o0_384_S128x128, extractStridedSlice S128x128 ![0, 512] Y slices_S128x2048_o0_512_S128x128, extractStridedSlice S128x128 ![0, 640] Y slices_S128x2048_o0_640_S128x128, extractStridedSlice S128x128 ![0, 768] Y slices_S128x2048_o0_768_S128x128, extractStridedSlice S128x128 ![0, 896] Y slices_S128x2048_o0_896_S128x128, extractStridedSlice S128x128 ![0, 1024] Y slices_S128x2048_o0_1024_S128x128, extractStridedSlice S128x128 ![0, 1152] Y slices_S128x2048_o0_1152_S128x128, extractStridedSlice S128x128 ![0, 1280] Y slices_S128x2048_o0_1280_S128x128, extractStridedSlice S128x128 ![0, 1408] Y slices_S128x2048_o0_1408_S128x128, extractStridedSlice S128x128 ![0, 1536] Y slices_S128x2048_o0_1536_S128x128, extractStridedSlice S128x128 ![0, 1664] Y slices_S128x2048_o0_1664_S128x128, extractStridedSlice S128x128 ![0, 1792] Y slices_S128x2048_o0_1792_S128x128, extractStridedSlice S128x128 ![0, 1920] Y slices_S128x2048_o0_1920_S128x128]

theorem cut_apply (Y : FVec F S128x2048 .f32) (y : S2048x128.Idx) :
    cut Y ⟨(y 0).val % 16, Nat.mod_lt _ (by omega)⟩ (at2 y) = lay Y y := by
  have hq : (y 0).val % 16 < 16 := Nat.mod_lt _ (by omega)
  have e : ∀ (q : ℕ) (hs : S128x2048.Slices ![0, 128 * q] S128x128), (y 0).val % 16 = q → extractStridedSlice S128x128 ![0, 128 * q] Y hs (at2 y) = lay Y y := by
    intro q hs h
    unfold lay
    refine congrArg Y (funext fun a => Fin.ext ?_)
    match a with
    | ⟨0, _⟩ => exact Nat.zero_add _
    | ⟨1, _⟩ => show 128 * q + (y 1).val = 128 * ((y 0).val % 16) + (y 1).val; rw [h]
  have hk' : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15 := by omega
  have c : ∀ (q : Fin 16), (y 0).val % 16 = q.val → cut Y ⟨(y 0).val % 16, hq⟩ (at2 y) = cut Y q (at2 y) := fun q h => congrArg (fun k => cut Y k (at2 y)) (Fin.ext h)
  rcases hk' with h | h | h | h | h | h | h | h | h | h | h | h | h | h | h | h
  · exact (c 0 h).trans (e 0 slices_S128x2048_o0_0_S128x128 h)
  · exact (c 1 h).trans (e 1 slices_S128x2048_o0_128_S128x128 h)
  · exact (c 2 h).trans (e 2 slices_S128x2048_o0_256_S128x128 h)
  · exact (c 3 h).trans (e 3 slices_S128x2048_o0_384_S128x128 h)
  · exact (c 4 h).trans (e 4 slices_S128x2048_o0_512_S128x128 h)
  · exact (c 5 h).trans (e 5 slices_S128x2048_o0_640_S128x128 h)
  · exact (c 6 h).trans (e 6 slices_S128x2048_o0_768_S128x128 h)
  · exact (c 7 h).trans (e 7 slices_S128x2048_o0_896_S128x128 h)
  · exact (c 8 h).trans (e 8 slices_S128x2048_o0_1024_S128x128 h)
  · exact (c 9 h).trans (e 9 slices_S128x2048_o0_1152_S128x128 h)
  · exact (c 10 h).trans (e 10 slices_S128x2048_o0_1280_S128x128 h)
  · exact (c 11 h).trans (e 11 slices_S128x2048_o0_1408_S128x128 h)
  · exact (c 12 h).trans (e 12 slices_S128x2048_o0_1536_S128x128 h)
  · exact (c 13 h).trans (e 13 slices_S128x2048_o0_1664_S128x128 h)
  · exact (c 14 h).trans (e 14 slices_S128x2048_o0_1792_S128x128 h)
  · exact (c 15 h).trans (e 15 slices_S128x2048_o0_1920_S128x128 h)

theorem read_cut (v : View sig .tc .vmem S2048x128 .f32) (f : BufTy.Contents (Elt F) v.ty) (Y : FVec F S128x2048 .f32) :
    v.read (Elt F) (v.writes (Elt F) f (strips (cut Y))) = lay Y :=
  (read_strided v f (cut Y)).trans (funext fun y => cut_apply Y y)

end Cert.MoeI
-- ==== Proof.MoeIOuts.lean ====
/- The routed experts' call: the block of the result, case by case. -/
module

public import proofs.«01_k».proof.Proof.MoeIOut

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rows are the same when everything they are made from is. -/
theorem moeY_congr {g g' : Vec F S1024x128 .i32} {x1 x1' : Vec F S128x128 .f32} {w0 w0' w1 w1' : Vec F S2048x256 .bf16} {w2 w2' : Vec F S256x2048 .bf16}
    (hg : g = g') (h1 : x1 = x1') (e0 : w0 = w0') (e1 : w1 = w1') (e2 : w2 = w2') : moeY (F := F) g x1 w0 w1 w2 = moeY g' x1' w0' w1' w2' := by
  subst hg h1 e0 e1 e2; rfl

/-- What case A leaves in the result's block. -/
theorem readA (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : (cnd1 (BitVec.ofNat 32 (i 0).val) (be1 c i xt0) (be0 c i xt0) = 1#1))
    (h2 : (k0_cond2 i (nu c xt1) = 1#1)) (h3 : ¬(k0_cond3 i (nu c xt1) = 1#1))
    (hchk : ∀ y : S98304.Idx, k0_chk1 i (nu c xt1) ((tbM0_2.view.read (Elt F) xt2 : Vec F S98304 .i32) y))
    (f5 : BufTy.Contents (Elt F) arg9.view.ty) :
    arg9.view.read (Elt F) (arg9.view.writes (Elt F) f5 (runA c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).1) = lay (moeY (gat (F := F) i x0 xt2) x1 (k0_pay1 x2) (k0_pay2 x3) (k0_pay3 x4)) := by
  have e : (runA c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).1 = strips (cut (moeY (arg13.view.read (Elt F) (harg13.unread (gat (F := F) i x0 xt2))) (arg5.view.readAt (Elt F) (Rect.unit (s := S128x128) ![0, 0] S128x128.size inb_S128x128_S128x128_0_0).toLoadRect (harg5.unread x1))
      (arg10.view.readCov [⟨Rect.unit (s := S2048x256) ![0, 0] S2048x256.size inb_S2048x256_S2048x256_0_0, k0_pay1 (arg6.view.readAt (Elt F) (Rect.unit (s := S1x2048x256) ![0, 0, 0] S1x2048x256.size inb_S1x2048x256_S1x2048x256_0_0_0).toLoadRect (harg6.unread x2))⟩] (Rect.unit (s := S2048x256) ![0, 0] S2048x256.size inb_S2048x256_S2048x256_0_0).toLoadRect)
      (arg11.view.readCov [⟨Rect.unit (s := S2048x256) ![0, 0] S2048x256.size inb_S2048x256_S2048x256_0_0, k0_pay2 (arg7.view.readAt (Elt F) (Rect.unit (s := S1x2048x256) ![0, 0, 0] S1x2048x256.size inb_S1x2048x256_S1x2048x256_0_0_0).toLoadRect (harg7.unread x3))⟩] (Rect.unit (s := S2048x256) ![0, 0] S2048x256.size inb_S2048x256_S2048x256_0_0).toLoadRect)
      (arg12.view.readCov [⟨Rect.unit (s := S256x2048) ![0, 0] S256x2048.size inb_S256x2048_S256x2048_0_0, k0_pay3 (arg8.view.readAt (Elt F) (Rect.unit (s := S1x256x2048) ![0, 0, 0] S1x256x2048.size inb_S1x256x2048_S1x256x2048_0_0_0).toLoadRect (harg8.unread x4))⟩] (Rect.unit (s := S256x2048) ![0, 0] S256x2048.size inb_S256x2048_S256x2048_0_0).toLoadRect))) := rfl
  rw [e, read_cut]
  exact congrArg lay (moeY_congr (harg13.read_unread _) ((View.readAt_full arg5.view (harg5.unread x1) inb_S128x128_S128x128_0_0).trans (harg5.read_unread x1))
    ((View.readCov_full arg10.view inb_S2048x256_S2048x256_0_0 inb_S2048x256_S2048x256_0_0 _ []).trans (congrArg k0_pay1 ((View.readAt_full arg6.view (harg6.unread x2) inb_S1x2048x256_S1x2048x256_0_0_0).trans (harg6.read_unread x2))))
    ((View.readCov_full arg11.view inb_S2048x256_S2048x256_0_0 inb_S2048x256_S2048x256_0_0 _ []).trans (congrArg k0_pay2 ((View.readAt_full arg7.view (harg7.unread x3) inb_S1x2048x256_S1x2048x256_0_0_0).trans (harg7.read_unread x3))))
    ((View.readCov_full arg12.view inb_S256x2048_S256x2048_0_0 inb_S256x2048_S256x2048_0_0 _ []).trans (congrArg k0_pay3 ((View.readAt_full arg8.view (harg8.unread x4) inb_S1x256x2048_S1x256x2048_0_0_0).trans (harg8.read_unread x4)))))

/-- What case B leaves in the result's block. -/
theorem readB (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : ¬(cnd1 (BitVec.ofNat 32 (i 0).val) (be1 c i xt0) (be0 c i xt0) = 1#1))
    (h2 : (k0_cond2 i (nu c xt1) = 1#1)) (h3 : ¬(k0_cond3 i (nu c xt1) = 1#1))
    (hchk : ∀ y : S98304.Idx, k0_chk1 i (nu c xt1) ((tbM0_2.view.read (Elt F) xt2 : Vec F S98304 .i32) y))
    (f5 : BufTy.Contents (Elt F) arg9.view.ty) :
    arg9.view.read (Elt F) (arg9.view.writes (Elt F) f5 (runB c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).1) = lay (moeY (gat (F := F) i x0 xt2) x1 s0 s1 s2) := by
  have e : (runB c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).1 = strips (cut (moeY (arg13.view.read (Elt F) (harg13.unread (gat (F := F) i x0 xt2))) (arg5.view.readAt (Elt F) (Rect.unit (s := S128x128) ![0, 0] S128x128.size inb_S128x128_S128x128_0_0).toLoadRect (harg5.unread x1))
      (arg10.view.readAt (Elt F) (Rect.unit (s := S2048x256) ![0, 0] S2048x256.size inb_S2048x256_S2048x256_0_0).toLoadRect (harg10.unread s0))
      (arg11.view.readAt (Elt F) (Rect.unit (s := S2048x256) ![0, 0] S2048x256.size inb_S2048x256_S2048x256_0_0).toLoadRect (harg11.unread s1))
      (arg12.view.readAt (Elt F) (Rect.unit (s := S256x2048) ![0, 0] S256x2048.size inb_S256x2048_S256x2048_0_0).toLoadRect (harg12.unread s2)))) := rfl
  rw [e, read_cut]
  exact congrArg lay (moeY_congr (harg13.read_unread _) ((View.readAt_full arg5.view (harg5.unread x1) inb_S128x128_S128x128_0_0).trans (harg5.read_unread x1))
    ((View.readAt_full arg10.view (harg10.unread s0) inb_S2048x256_S2048x256_0_0).trans (harg10.read_unread s0))
    ((View.readAt_full arg11.view (harg11.unread s1) inb_S2048x256_S2048x256_0_0).trans (harg11.read_unread s1))
    ((View.readAt_full arg12.view (harg12.unread s2) inb_S256x2048_S256x2048_0_0).trans (harg12.read_unread s2)))

/-- What case C leaves in the result's block. -/
theorem readC (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : (cnd1 (BitVec.ofNat 32 (i 0).val) (be1 c i xt0) (be0 c i xt0) = 1#1))
    (h2 : ¬(k0_cond2 i (nu c xt1) = 1#1)) (h3 : (k0_cond3 i (nu c xt1) = 1#1))
    (hchk : ∀ y : S98304.Idx, k0_chk1 i (nu c xt1) ((tbM0_2.view.read (Elt F) xt2 : Vec F S98304 .i32) y))
    (f5 : BufTy.Contents (Elt F) arg9.view.ty) :
    arg9.view.read (Elt F) (arg9.view.writes (Elt F) f5 (runC c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).1) = k0_pay13 (F := F) :=
  View.read_writes_full _ _ inb_S2048x128_S2048x128_0_0 _ []

/-- What case D leaves in the result's block. -/
theorem readD (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (h1 : ¬(cnd1 (BitVec.ofNat 32 (i 0).val) (be1 c i xt0) (be0 c i xt0) = 1#1))
    (h2 : ¬(k0_cond2 i (nu c xt1) = 1#1)) (h3 : (k0_cond3 i (nu c xt1) = 1#1))
    (hchk : ∀ y : S98304.Idx, k0_chk1 i (nu c xt1) ((tbM0_2.view.read (Elt F) xt2 : Vec F S98304 .i32) y))
    (f5 : BufTy.Contents (Elt F) arg9.view.ty) :
    arg9.view.read (Elt F) (arg9.view.writes (Elt F) f5 (runD c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).1) = k0_pay13 (F := F) :=
  View.read_writes_full _ _ inb_S2048x128_S2048x128_0_0 _ []

end Cert.MoeI
-- ==== Proof.MoeITrip.lean ====
/- The routed experts' call: what one point does, in one statement. -/
module

public import proofs.«01_k».proof.Proof.MoeIOuts

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A block is either used or not. -/
theorem unused_iff (i : grid0.Coords) (v : BitVec 32) : k0_cond3 i v = 1#1 ↔ ¬ k0_cond2 i v = 1#1 := by
  have e : ∀ a : BitVec 1, Scalar.cmpi .ne (Scalar.extui a : BitVec 32) 0#32 = a := by decide
  have f : ∀ a b : BitVec 32, Scalar.cmpi .sge a b = 1#1 ↔ ¬ Scalar.cmpi .slt a b = 1#1 := by
    intro a b
    simp only [Scalar.cmpi, IntOp.cmpi, WordCmp.ofBool_eq_one_iff, BitVec.sle, BitVec.slt, decide_eq_true_eq]
    omega
  unfold k0_cond3 k0_cond2
  dsimp only
  rw [e, e, f]

/-- The block of the result a point leaves. -/
def outv (c : Dev nD) (i : grid0.Coords) (x0 : Vec F S65536x128 .i32) (x1 : Vec F S128x128 .f32) (x2 : Vec F S1x2048x256 .f32) (x3 : Vec F S1x2048x256 .f32) (x4 : Vec F S1x256x2048 .f32)
    (xt1 : TbBuf0 (F := F) c tbM0_1) (xt2 : TbBuf0 (F := F) c tbM0_2) : Vec F S2048x128 .f32 :=
  if k0_cond2 i (nu c xt1) = 1#1 then lay (moeY (gat (F := F) i x0 xt2) x1 (k0_pay1 x2) (k0_pay2 x3) (k0_pay3 x4)) else k0_pay13 (F := F)

set_option maxHeartbeats 800000 in
/-- One point: the rounded weights it ends with are its expert's, and its block of the result is `outv`. -/
theorem triple (c : Dev nD) (i : grid0.Coords) (arg4 : Memref sig .tc .vmem S65536x128 .i32) (harg4 : arg4.IsWhole) (arg5 : Memref sig .tc .vmem S128x128 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S256x2048 .bf16) (harg12 : arg12.IsWhole) (arg13 : Memref sig .tc .vmem S1024x128 .i32) (harg13 : arg13.IsWhole)
    (x0 : Vec F S65536x128 .i32) (x1 : Vec F S128x128 .f32) (x2 : Vec F S1x2048x256 .f32) (x3 : Vec F S1x2048x256 .f32) (x4 : Vec F S1x256x2048 .f32)
    (s0 s1 : Vec F S2048x256 .bf16) (s2 : Vec F S256x2048 .bf16) (s3 : Vec F S1024x128 .i32)
    (xt0 : TbBuf0 (F := F) c tbM0_0) (xt1 : TbBuf0 (F := F) c tbM0_1) (xt2 : TbBuf0 (F := F) c tbM0_2)
    (hs : ¬(cnd1 (BitVec.ofNat 32 (i 0).val) (be1 c i xt0) (be0 c i xt0) = 1#1) → s0 = k0_pay1 x2 ∧ s1 = k0_pay2 x3 ∧ s2 = k0_pay3 x4)
    (hchk : ∀ y : S98304.Idx, k0_chk1 i (nu c xt1) ((tbM0_2.view.read (Elt F) xt2 : Vec F S98304 .i32) y))
    (E : Set ℕ) (K : PUnit → sProp (MM F)) (f5 : BufTy.Contents (Elt F) arg9.view.ty) :
    iprop(held c arg4 (harg4.unread x0) ∗ held c arg5 (harg5.unread x1) ∗ held c arg6 (harg6.unread x2) ∗ held c arg7 (harg7.unread x3) ∗ held c arg8 (harg8.unread x4)
        ∗ held c arg9 f5 ∗ held c arg10 (harg10.unread s0) ∗ held c arg11 (harg11.unread s1) ∗ held c arg12 (harg12.unread s2) ∗ held c arg13 (harg13.unread s3)
        ∗ tbPt0 c tbM0_0 xt0 ∗ tbPt0 c tbM0_1 xt1 ∗ tbPt0 c tbM0_2 xt2
        ∗ (iprop(held c arg4 (harg4.unread x0) ∗ held c arg5 (harg5.unread x1) ∗ held c arg6 (harg6.unread x2) ∗ held c arg7 (harg7.unread x3) ∗ held c arg8 (harg8.unread x4)
          ∗ owns (c : Thread nD τ) arg9 fullShare (outv c i x0 x1 x2 x3 x4 xt1 xt2) ∗ iprop(held c arg10 (harg10.unread (k0_pay1 x2)) ∗ held c arg11 (harg11.unread (k0_pay2 x3)) ∗ held c arg12 (harg12.unread (k0_pay3 x4))) ∗ (∃ d, owns (c : Thread nD τ) arg13 fullShare d)
          ∗ tbPt0 c tbM0_0 xt0 ∗ tbPt0 c tbM0_1 xt1 ∗ tbPt0 c tbM0_2 xt2) -∗ K ⟨⟩))
      ⊢ wp frame (wpE (defs₀ (F := F)) Variants.none c none) E (cc0_moe i tbM0_0 htbM0_0 tbM0_1 htbM0_1 tbM0_2 htbM0_2 arg4 harg4 arg5 harg5 arg6 harg6 arg7 harg7 arg8 harg8 arg9 harg9 arg10 harg10 arg11 harg11 arg12 harg12 arg13 harg13) K := by
  by_cases h1 : cnd1 (BitVec.ofNat 32 (i 0).val) (be1 c i xt0) (be0 c i xt0) = 1#1 <;> by_cases h2 : k0_cond2 i (nu c xt1) = 1#1
  · have h3 : ¬ k0_cond3 i (nu c xt1) = 1#1 := fun h => (unused_iff i _).mp h h2
    iintro ⟨H0, H1, H2, H3, H4, H5, HS0, HS1, HS2, HS3, HT0, HT1, HT2, Hk⟩
    iapply ((runA c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).2 E K f5)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HT0]; · iexact HT0
    isplitl [HT1]; · iexact HT1
    isplitl [HT2]; · iexact HT2
    iintro ⟨H0, H1, H2, H3, H4, H5, HS, HS3, HT⟩
    iapply Hk
    isplitl [H0]; · iexact H0
    isplitl [H1]; · iexact H1
    isplitl [H2]; · iexact H2
    isplitl [H3]; · iexact H3
    isplitl [H4]; · iexact H4
    isplitl [H5]
    · unfold owns; iexists _; isplitr; swap; · iexact H5
      ipureintro
      exact (readA c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk f5).trans (if_pos h2).symm
    isplitl [HS]; · iexact HS
    isplitl [HS3]; · iexact HS3
    iexact HT
  · have h3 : k0_cond3 i (nu c xt1) = 1#1 := (unused_iff i _).mpr h2
    iintro ⟨H0, H1, H2, H3, H4, H5, HS0, HS1, HS2, HS3, HT0, HT1, HT2, Hk⟩
    iapply ((runC c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk).2 E K f5)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HT0]; · iexact HT0
    isplitl [HT1]; · iexact HT1
    isplitl [HT2]; · iexact HT2
    iintro ⟨H0, H1, H2, H3, H4, H5, HS, HS3, HT⟩
    iapply Hk
    isplitl [H0]; · iexact H0
    isplitl [H1]; · iexact H1
    isplitl [H2]; · iexact H2
    isplitl [H3]; · iexact H3
    isplitl [H4]; · iexact H4
    isplitl [H5]
    · unfold owns; iexists _; isplitr; swap; · iexact H5
      ipureintro
      exact (readC c i arg4 harg4 arg5 harg5 arg6 harg6 arg7 harg7 arg8 harg8 arg9 harg9 arg10 harg10 arg11 harg11 arg12 harg12 arg13 harg13 x0 x1 x2 x3 x4 s0 s1 s2 s3 xt0 xt1 xt2 h1 h2 h3 hchk f5).trans (if_neg h2).symm
    isplitl [HS]; · iexact HS
    isplitl [HS3]; · iexact HS3
    iexact HT
  · have h3 : ¬ k0_cond3 i (nu c xt1) = 1#1 := fun h => (unused_iff i _).mp h h2
    obtain ⟨rfl, rfl, rfl⟩ := hs h1
    iintro ⟨H0, H1, H2, H3, H4, H5, HS0, HS1, HS2, HS3, HT0, HT1, HT2, Hk⟩
    iapply ((runB c i arg4 harg4 arg5 harg5 arg6 harg6 arg7 harg7 arg8 harg8 arg9 harg9 arg10 harg10 arg11 harg11 arg12 harg12 arg13 harg13 x0 x1 x2 x3 x4 (k0_pay1 x2) (k0_pay2 x3) (k0_pay3 x4) s3 xt0 xt1 xt2 h1 h2 h3 hchk).2 E K f5)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HT0]; · iexact HT0
    isplitl [HT1]; · iexact HT1
    isplitl [HT2]; · iexact HT2
    iintro ⟨H0, H1, H2, H3, H4, H5, HS, HS3, HT⟩
    iapply Hk
    isplitl [H0]; · iexact H0
    isplitl [H1]; · iexact H1
    isplitl [H2]; · iexact H2
    isplitl [H3]; · iexact H3
    isplitl [H4]; · iexact H4
    isplitl [H5]
    · unfold owns; iexists _; isplitr; swap; · iexact H5
      ipureintro
      exact (readB c i arg4 harg4 arg5 harg5 arg6 harg6 arg7 harg7 arg8 harg8 arg9 harg9 arg10 harg10 arg11 harg11 arg12 harg12 arg13 harg13 x0 x1 x2 x3 x4 (k0_pay1 x2) (k0_pay2 x3) (k0_pay3 x4) s3 xt0 xt1 xt2 h1 h2 h3 hchk f5).trans (if_pos h2).symm
    isplitl [HS]; · iexact HS
    isplitl [HS3]; · iexact HS3
    iexact HT
  · have h3 : k0_cond3 i (nu c xt1) = 1#1 := (unused_iff i _).mpr h2
    obtain ⟨rfl, rfl, rfl⟩ := hs h1
    iintro ⟨H0, H1, H2, H3, H4, H5, HS0, HS1, HS2, HS3, HT0, HT1, HT2, Hk⟩
    iapply ((runD c i arg4 harg4 arg5 harg5 arg6 harg6 arg7 harg7 arg8 harg8 arg9 harg9 arg10 harg10 arg11 harg11 arg12 harg12 arg13 harg13 x0 x1 x2 x3 x4 (k0_pay1 x2) (k0_pay2 x3) (k0_pay3 x4) s3 xt0 xt1 xt2 h1 h2 h3 hchk).2 E K f5)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HT0]; · iexact HT0
    isplitl [HT1]; · iexact HT1
    isplitl [HT2]; · iexact HT2
    iintro ⟨H0, H1, H2, H3, H4, H5, HS, HS3, HT⟩
    iapply Hk
    isplitl [H0]; · iexact H0
    isplitl [H1]; · iexact H1
    isplitl [H2]; · iexact H2
    isplitl [H3]; · iexact H3
    isplitl [H4]; · iexact H4
    isplitl [H5]
    · unfold owns; iexists _; isplitr; swap; · iexact H5
      ipureintro
      exact (readD c i arg4 harg4 arg5 harg5 arg6 harg6 arg7 harg7 arg8 harg8 arg9 harg9 arg10 harg10 arg11 harg11 arg12 harg12 arg13 harg13 x0 x1 x2 x3 x4 (k0_pay1 x2) (k0_pay2 x3) (k0_pay3 x4) s3 xt0 xt1 xt2 h1 h2 h3 hchk f5).trans (if_neg h2).symm
    isplitl [HS]; · iexact HS
    isplitl [HS3]; · iexact HS3
    iexact HT

end Cert.MoeI
-- ==== Proof.MoeIFrame.lean ====
/- The routed experts' call: the run of the whole call, from the points. -/
module

public import proofs.«01_k».proof.Proof.MoeITrip

@[expose] public section

set_option maxRecDepth 16384

noncomputable section

namespace Cert.MoeI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem coord_val : ∀ t : Fin grid0.N, (grid0.coords t 0).val = t.val := by decide +kernel

/-- The word of the block before, past the first block. -/
theorem prev_word : ∀ k : Fin 768, 0 < k.val → (Scalar.indexCast (Scalar.maxsi (Scalar.subi (BitVec.ofNat 32 k.val) 1#32) 0#32) : BitVec 32).toNat = k.val - 1 := by decide +kernel

theorem this_word : ∀ k : Fin 768, (Scalar.indexCast (BitVec.ofNat 32 k.val) : BitVec 32).toNat = k.val := by decide +kernel

theorem off1_val (i : grid0.Coords) : k0_off1 i 0 = (i 0).val := this_word (i 0)

theorem off2_val (i : grid0.Coords) (h : 0 < (i 0).val) : k0_off2 i 0 = (i 0).val - 1 := prev_word (i 0) h

/-- Where the weights are not taken anew, the block is not the first and its expert is the last block's. -/
theorem kept (c : Dev nD) (i : grid0.Coords) (xt0 : TbBuf0 (F := F) c tbM0_0) (h : ¬(cnd1 (BitVec.ofNat 32 (i 0).val) (be1 c i xt0) (be0 c i xt0) = 1#1)) :
    0 < (i 0).val ∧ be0 c i xt0 = be1 c i xt0 := by
  have e : ∀ a : BitVec 1, Scalar.cmpi .ne (Scalar.extui a : BitVec 32) 0#32 = a := by decide
  have o : ∀ a b : BitVec 1, ¬ Scalar.ori a b = 1#1 → ¬ a = 1#1 ∧ ¬ b = 1#1 := by decide
  have w1 : ∀ a b : BitVec 32, ¬ Scalar.cmpi .eq a b = 1#1 → a ≠ b := by
    intro a b h e; subst e; exact h (by simp [Scalar.cmpi, IntOp.cmpi])
  have w2 : ∀ a b : BitVec 32, ¬ Scalar.cmpi .ne a b = 1#1 → a = b := by
    intro a b h; by_contra e
    have hb : (a != b) = true := by simpa using e
    exact h (by show BitVec.ofBool (a != b) = 1#1; rw [hb]; rfl)
  unfold cnd1 at h
  rw [e] at h
  obtain ⟨ha, hb⟩ := o _ _ h
  refine ⟨Nat.pos_of_ne_zero fun z => w1 _ _ ha (by rw [z]), w2 _ _ hb⟩

/-- The last block's word, read a block later. -/
theorem be0_eq (c : Dev nD) (t t' : Fin grid0.N) (h : t'.val + 1 = t.val) (xt0 : TbBuf0 (F := F) c tbM0_0) : be0 c (grid0.coords t) xt0 = be1 c (grid0.coords t') xt0 := by
  refine congrArg (β := Elt F .i32) (fun y : S768.Idx => xt0 y) (funext fun (a : Fin 1) => Fin.ext ?_)
  obtain rfl : a = 0 := Subsingleton.elim _ _
  show k0_off2 (grid0.coords t) 0 + 1 * 0 = k0_off1 (grid0.coords t') 0 + 1 * 0
  rw [off2_val _ (by rw [coord_val]; omega), off1_val, coord_val, coord_val]
  omega

theorem ix2_eq (c : Dev nD) (i : grid0.Coords) : cc0_transform_2 k0_off1_inb numel1_S1 (tbl m) i = ![(be1 c i (tbl m 0)).toNat, 0, 0] := rfl

/-- The weights of equal experts are equal. -/
theorem iblk2_congr (hO : Ok m) (c : Dev nD) (t t' : Fin (cfgM m hO).N) (h : be1 c (grid0.coords t) (tbl m 0) = be1 c (grid0.coords t') (tbl m 0)) : iblk m hO c 2 t = iblk m hO c 2 t' := by
  have e : cc0_transform_2 k0_off1_inb numel1_S1 (tbl m) (grid0.coords t) = cc0_transform_2 k0_off1_inb numel1_S1 (tbl m) (grid0.coords t') := by
    rw [ix2_eq m c, ix2_eq m c, h]
  funext y
  refine congrArg (V m c (Pipeline.arrRef spec0 2)) (funext fun a => Fin.ext ?_)
  show cc0_transform_2 k0_off1_inb numel1_S1 (tbl m) (grid0.coords t) a * S1x2048x256.size a + 1 * (y a).val = cc0_transform_2 k0_off1_inb numel1_S1 (tbl m) (grid0.coords t') a * S1x2048x256.size a + 1 * (y a).val
  rw [e]

theorem ix3_eq (c : Dev nD) (i : grid0.Coords) : cc0_transform_3 k0_off1_inb numel1_S1 (tbl m) i = ![(be1 c i (tbl m 0)).toNat, 0, 0] := rfl

/-- The weights of equal experts are equal. -/
theorem iblk3_congr (hO : Ok m) (c : Dev nD) (t t' : Fin (cfgM m hO).N) (h : be1 c (grid0.coords t) (tbl m 0) = be1 c (grid0.coords t') (tbl m 0)) : iblk m hO c 3 t = iblk m hO c 3 t' := by
  have e : cc0_transform_3 k0_off1_inb numel1_S1 (tbl m) (grid0.coords t) = cc0_transform_3 k0_off1_inb numel1_S1 (tbl m) (grid0.coords t') := by
    rw [ix3_eq m c, ix3_eq m c, h]
  funext y
  refine congrArg (V m c (Pipeline.arrRef spec0 3)) (funext fun a => Fin.ext ?_)
  show cc0_transform_3 k0_off1_inb numel1_S1 (tbl m) (grid0.coords t) a * S1x2048x256.size a + 1 * (y a).val = cc0_transform_3 k0_off1_inb numel1_S1 (tbl m) (grid0.coords t') a * S1x2048x256.size a + 1 * (y a).val
  rw [e]

theorem ix4_eq (c : Dev nD) (i : grid0.Coords) : cc0_transform_4 k0_off1_inb numel1_S1 (tbl m) i = ![(be1 c i (tbl m 0)).toNat, 0, 0] := rfl

/-- The weights of equal experts are equal. -/
theorem iblk4_congr (hO : Ok m) (c : Dev nD) (t t' : Fin (cfgM m hO).N) (h : be1 c (grid0.coords t) (tbl m 0) = be1 c (grid0.coords t') (tbl m 0)) : iblk m hO c 4 t = iblk m hO c 4 t' := by
  have e : cc0_transform_4 k0_off1_inb numel1_S1 (tbl m) (grid0.coords t) = cc0_transform_4 k0_off1_inb numel1_S1 (tbl m) (grid0.coords t') := by
    rw [ix4_eq m c, ix4_eq m c, h]
  funext y
  refine congrArg (V m c (Pipeline.arrRef spec0 4)) (funext fun a => Fin.ext ?_)
  show cc0_transform_4 k0_off1_inb numel1_S1 (tbl m) (grid0.coords t) a * S1x256x2048.size a + 1 * (y a).val = cc0_transform_4 k0_off1_inb numel1_S1 (tbl m) (grid0.coords t') a * S1x256x2048.size a + 1 * (y a).val
  rw [e]

/-- What a point's rounded weights are. -/
def has (hO : Ok m) (c : Dev nD) (t : Fin (cfgM m hO).N) (s0 s1 : Vec F S2048x256 .bf16) (s2 : Vec F S256x2048 .bf16) : Prop :=
  s0 = k0_pay1 (iblk m hO c 2 t) ∧ s1 = k0_pay2 (iblk m hO c 3 t) ∧ s2 = k0_pay3 (iblk m hO c 4 t)

/-- The block of the result after point `t`. -/
def outAt (hO : Ok m) (c : Dev nD) (t : Fin (cfgM m hO).N) : Vec F S2048x128 .f32 :=
  outv c (grid0.coords t) (iblk m hO c 0 t) (iblk m hO c 1 t) (iblk m hO c 2 t) (iblk m hO c 3 t) (iblk m hO c 4 t) (tbl m 1) (tbl m 2)

/-- Between points: the rounded weights are those of the point before, and the tables are at hand. -/
def between (hO : Ok m) (c : Dev nD) (n : ℕ) : sProp (MM F) :=
  iprop((∃ s0, ∃ s1, ∃ s2, ⌜∀ t' : Fin (cfgM m hO).N, t'.val + 1 = n → has m hO c t' s0 s1 s2⌝
      ∗ owns (c : Thread nD τ) scM0_0 fullShare s0 ∗ owns (c : Thread nD τ) scM0_1 fullShare s1 ∗ owns (c : Thread nD τ) scM0_2 fullShare s2)
    ∗ (∃ d, owns (c : Thread nD τ) scM0_3 fullShare d) ∗ (∃ r, prngReg c r) ∗ Pipeline.ΦT pre0 (tbl m) c)

/-- What the call's pipeline carries and leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := between m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body is given at point `t`, -/
def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MM F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- Every token the table names is one of the tokens. -/
def Named : Prop := ∀ (c : Dev nD) (i : grid0.Coords) (y : S98304.Idx), k0_chk1 i (nu c (tbl m 1)) ((tbM0_2.view.read (Elt F) (tbl m 2) : Vec F S98304 .i32) y)

/-- A memref owned at `x` holds the raw contents that read `x`. -/
theorem to_held (c : Dev nD) {sp : Space} {S : Shape} {e : EltTy} (M : Memref sig .tc sp S e) (h : M.IsWhole) (x : Vec F S e) :
    (owns (c : Thread nD τ) M fullShare x : sProp (MM F)) ⊢ held c M (h.unread x) := by
  unfold owns held
  iintro ⟨%f, %hf, H⟩
  obtain rfl := h.eq_unread hf
  iexact H

theorem of_held (c : Dev nD) {sp : Space} {S : Shape} {e : EltTy} (M : Memref sig .tc sp S e) (h : M.IsWhole) (x : Vec F S e) :
    held c M (h.unread x) ⊢ (owns (c : Thread nD τ) M fullShare x : sProp (MM F)) := by
  unfold owns held
  iintro H
  iexists _; isplitr; · ipureintro; exact h.read_unread x
  iexact H

set_option maxHeartbeats 800000 in
/-- The body at any point. -/
theorem sound_body (hO : Ok m) (hN : Named m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = between m hO c (t.val + 1) from rfl,
    show (dats m hO 0 c).owesAt () t.succ = (dats m hO 0 c).owesAt () t.castSucc from rfl,
    after0_0, after0_1, after0_2, after0_3, after0_4, after0_5,
    show (dats m hO 0 c).Φ t.castSucc = between m hO c t.val from rfl]
  unfold between
  rw [PhiT0_eq]
  iintro ⟨⟨⟨%s0, %s1, %s2, %hs, HS0, HS1, HS2⟩, ⟨%s3, HS3⟩, Hg, HT0, HT1, HT2⟩, Ho, ⟨%d0, H0⟩, ⟨%d1, H1⟩, ⟨%d2, H2⟩, ⟨%d3, H3⟩, ⟨%d4, H4⟩, ⟨%d5, H5⟩⟩
  have hk : ¬(cnd1 (BitVec.ofNat 32 (grid0.coords t 0).val) (be1 c (grid0.coords t) (tbl m 0)) (be0 c (grid0.coords t) (tbl m 0)) = 1#1) → has m hO c t s0 s1 s2 := by
    intro h
    obtain ⟨h0, he⟩ := kept c (grid0.coords t) (tbl m 0) h
    rw [coord_val] at h0
    have hlt : t.val - 1 < (cfgM m hO).N := by have := t.isLt; omega
    have hp := hs ⟨t.val - 1, hlt⟩ (by show t.val - 1 + 1 = t.val; omega)
    have hb : be1 c (grid0.coords t) (tbl m 0) = be1 c (grid0.coords ⟨t.val - 1, hlt⟩) (tbl m 0) :=
      he.symm.trans (be0_eq c t ⟨t.val - 1, hlt⟩ (by show t.val - 1 + 1 = t.val; omega) (tbl m 0))
    unfold has at hp ⊢
    rw [iblk2_congr m hO c t ⟨t.val - 1, hlt⟩ hb, iblk3_congr m hO c t ⟨t.val - 1, hlt⟩ hb, iblk4_congr m hO c t ⟨t.val - 1, hlt⟩ hb]
    exact hp
  iapply (triple c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) s0 s1 s2 s3 (tbl m 0) (tbl m 1) (tbl m 2) hk (hN c (grid0.coords t)) Set.univ _ ((hs0_5 m hO t).unread ((dats m hO 0 c).before 5 t d5)))
  isplitl [H0]; · iapply (to_held c (ms0_0 m hO t) (hs0_0 m hO t) (iblk m hO c 0 t)); iexact H0
  isplitl [H1]; · iapply (to_held c (ms0_1 m hO t) (hs0_1 m hO t) (iblk m hO c 1 t)); iexact H1
  isplitl [H2]; · iapply (to_held c (ms0_2 m hO t) (hs0_2 m hO t) (iblk m hO c 2 t)); iexact H2
  isplitl [H3]; · iapply (to_held c (ms0_3 m hO t) (hs0_3 m hO t) (iblk m hO c 3 t)); iexact H3
  isplitl [H4]; · iapply (to_held c (ms0_4 m hO t) (hs0_4 m hO t) (iblk m hO c 4 t)); iexact H4
  isplitl [H5]; · iapply (to_held c (ms0_5 m hO t) (hs0_5 m hO t) _); iexact H5
  isplitl [HS0]; · iapply (to_held c scM0_0 (Memref.isWhole_whole _) s0); iexact HS0
  isplitl [HS1]; · iapply (to_held c scM0_1 (Memref.isWhole_whole _) s1); iexact HS1
  isplitl [HS2]; · iapply (to_held c scM0_2 (Memref.isWhole_whole _) s2); iexact HS2
  isplitl [HS3]; · iapply (to_held c scM0_3 (Memref.isWhole_whole _) s3); iexact HS3
  isplitl [HT0]; · iexact HT0
  isplitl [HT1]; · iexact HT1
  isplitl [HT2]; · iexact HT2
  iintro ⟨H0, H1, H2, H3, H4, H5, ⟨HS0, HS1, HS2⟩, HS3, HT0, HT1, HT2⟩
  isplitl [HS0 HS1 HS2 HS3 Hg HT0 HT1 HT2]
  · isplitl [HS0 HS1 HS2]
    · iexists (k0_pay1 (iblk m hO c 2 t)), (k0_pay2 (iblk m hO c 3 t)), (k0_pay3 (iblk m hO c 4 t))
      isplitr
      · ipureintro
        intro t' ht'
        obtain rfl : t' = t := Fin.ext (by omega)
        exact ⟨rfl, rfl, rfl⟩
      isplitl [HS0]; · iapply (of_held c scM0_0 (Memref.isWhole_whole _) _); iexact HS0
      isplitl [HS1]; · iapply (of_held c scM0_1 (Memref.isWhole_whole _) _); iexact HS1
      iapply (of_held c scM0_2 (Memref.isWhole_whole _) _); iexact HS2
    isplitl [HS3]; · iexact HS3
    isplitl [Hg]; · iexact Hg
    isplitl [HT0]; · iexact HT0
    isplitl [HT1]; · iexact HT1
    iexact HT2
  isplitl [Ho]; · iexact Ho
  isplitl [H0]; · iapply (of_held c (ms0_0 m hO t) (hs0_0 m hO t) (iblk m hO c 0 t)); iexact H0
  isplitl [H1]; · iapply (of_held c (ms0_1 m hO t) (hs0_1 m hO t) (iblk m hO c 1 t)); iexact H1
  isplitl [H2]; · iapply (of_held c (ms0_2 m hO t) (hs0_2 m hO t) (iblk m hO c 2 t)); iexact H2
  isplitl [H3]; · iapply (of_held c (ms0_3 m hO t) (hs0_3 m hO t) (iblk m hO c 3 t)); iexact H3
  isplitl [H4]; · iapply (of_held c (ms0_4 m hO t) (hs0_4 m hO t) (iblk m hO c 4 t)); iexact H4
  iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every point stores its block of the result. -/
theorem idle5 (hO : Ok m) (t : Fin (cfgM m hO).N) : (cfgM m hO).idle 5 ((cfgM m hO).grid.coords t) = false := by
  have e : ∀ w : BitVec 32, (!(k0_cond2 (grid0.coords t) w == 1#1) && !(k0_cond3 (grid0.coords t) w == 1#1)) = false := by
    intro w
    by_cases h : k0_cond2 (grid0.coords t) w = 1#1
    · rw [h]; rfl
    · rw [(unused_iff _ w).mpr h, Bool.and_eq_false_iff]; exact Or.inr rfl
  exact e _

theorem stored {b f : Bool} {X P : sProp (MM F)} : b = false →
    (P ⊢ (match b with | true => (match f with | false => X | true => P) | false => P)) := by
  intro h; subst h; exact .rfl

theorem body_obligation (hO : Ok m) (hN : Named m) (c : Dev nD) : BodyObligation (dats (F := F) m hO 0 c) (defs₀ (F := F)) Variants.none () Set.univ := fun t => by
  rw [bigSep_W0, bigSep_W0, defs₀_row m hO]
  refine triple_restated (sound_body m hO hN c t) rfl .rfl fun _ => ?_
  unfold bodyPost
  have e : owns (c : Thread nD τ) (ms0_5 m hO t) fullShare ((dats m hO 0 c).after 5 t) ⊢ (match (cfgM m hO).idle 5 ((cfgM m hO).grid.coords t) with
      | true => (match ((cfgM m hO).win 5).flush t with
        | false => iprop(∃ d, owns (c : Thread nD τ) (((cfgM m hO).win 5).stage ((cfgM m hO).slots t 5)) fullShare ((dats m hO 0 c).before 5 t d))
        | true => owns (c : Thread nD τ) (((cfgM m hO).win 5).stage ((cfgM m hO).slots t 5)) fullShare ((dats m hO 0 c).after 5 t))
      | false => owns (c : Thread nD τ) (((cfgM m hO).win 5).stage ((cfgM m hO).slots t 5)) fullShare ((dats m hO 0 c).after 5 t)) := stored (idle5 m hO t)
  exact sep_mono .rfl (sep_mono .rfl (sep_mono .rfl (sep_mono .rfl (sep_mono .rfl (sep_mono .rfl (sep_mono .rfl e))))))

/-- Before the first point the rounded weights are anything; -/
theorem enter (hO : Ok m) (c : Dev nD) : iprop(Pipeline.ΦA spec0 c ∗ Pipeline.ΦT pre0 (tbl m) c) ⊢ between m hO c 0 := by
  unfold between
  rw [PhiA0_eq]
  iintro ⟨⟨⟨⟨%s0, HS0⟩, ⟨%s1, HS1⟩, ⟨%s2, HS2⟩, HS3⟩, Hg⟩, HT⟩
  isplitl [HS0 HS1 HS2]
  · iexists s0, s1, s2
    isplitr
    · ipureintro
      intro t' ht'; omega
    isplitl [HS0]; · iexact HS0
    isplitl [HS1]; · iexact HS1
    iexact HS2
  isplitl [HS3]; · iexact HS3
  isplitl [Hg]; · iexact Hg
  iexact HT

/-- after the last point they are given up. -/
theorem leave (hO : Ok m) (c : Dev nD) (n : ℕ) : between m hO c n ⊢ Pipeline.ΦA spec0 c := by
  unfold between
  rw [PhiA0_eq]
  iintro ⟨⟨%s0, %s1, %s2, %hs, HS0, HS1, HS2⟩, HS3, Hg, HT⟩
  isplitr [Hg]
  · isplitl [HS0]; · iexists s0; iexact HS0
    isplitl [HS1]; · iexists s1; iexact HS1
    isplitl [HS2]; · iexists s2; iexact HS2
    iexact HS3
  iexact Hg

set_option backward.isDefEq.respectTransparency.types false in
/-- The launch. -/
theorem run_main_quiescent (hO : Ok m) (hN : Named m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hN c).loose) (hshare := fun c => (dats m hO 0 c).share_full fun _ => rfl)
    (howed := fun _ _ => rfl) (V := V m) (hmain := hmain m Variants.none) (hA := A_eq m hO) (hpf := V_pre m)
    (hin := fun c => enter m hO c) (hout := fun c => leave m hO c _)

theorem run_main (hO : Ok m) (hN : Named m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hN)

/-- The call ends with its arguments as they were and every counter at zero. -/
theorem frame (hO : Ok m) (hN : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ hO (dats m hO) (A_eq m hO) (run_main m ρ hO hN)) ((θ_run defs _ _).mono (fun _ h => h.2) (run_main_quiescent m ρ hO hN))

end Cert.MoeI
-- ==== Proof.MoeIPre.lean ====
/- The routed experts' call: what the tables' bounds give. -/
module

public import proofs.«01_k».proof.Proof.MoeIFrame
public import proofs.«01_k».proof.Defs

@[expose] public section

set_option maxRecDepth 16384

noncomputable section

namespace Cert.MoeI

open Cert.Kernel5Ideal Cert.Kernel5Ideal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- Experts below 256 name blocks inside the weights' arrays. -/
theorem ok_of (h : ∀ y : S768.Idx, ((tbl m 0 : S768.Idx → BitVec 32) y).toNat < 256) : Ok m := by
  have hb : ∀ i : grid0.Coords, (be1 (0 : Dev nD) i (tbl m 0)).toNat < 256 := fun i => h _
  refine ⟨fun i => ⟨fun a => ?_, Or.inl rfl⟩, fun i => ⟨fun a => ?_, Or.inl rfl⟩, fun i => ⟨fun a => ?_, Or.inl rfl⟩⟩
  · have hi := hb i
    rw [ix2_eq m 0]
    match a with
    | ⟨0, _⟩ => show ((be1 (0 : Dev nD) i (tbl m 0)).toNat + 1) * 1 ≤ 256; omega
    | ⟨1, _⟩ => show (0 + 1) * 2048 ≤ 2048; omega
    | ⟨2, _⟩ => show (0 + 1) * 256 ≤ 256; omega
  · have hi := hb i
    rw [ix3_eq m 0]
    match a with
    | ⟨0, _⟩ => show ((be1 (0 : Dev nD) i (tbl m 0)).toNat + 1) * 1 ≤ 256; omega
    | ⟨1, _⟩ => show (0 + 1) * 2048 ≤ 2048; omega
    | ⟨2, _⟩ => show (0 + 1) * 256 ≤ 256; omega
  · have hi := hb i
    rw [ix4_eq m 0]
    match a with
    | ⟨0, _⟩ => show ((be1 (0 : Dev nD) i (tbl m 0)).toNat + 1) * 1 ≤ 256; omega
    | ⟨1, _⟩ => show (0 + 1) * 256 ≤ 256; omega
    | ⟨2, _⟩ => show (0 + 1) * 2048 ≤ 2048; omega

/-- Tokens below 8192 name eight rows of the words' array. -/
theorem named_of (h : ∀ y : S98304.Idx, ((tbl m 2 : S98304.Idx → BitVec 32) y).toNat < 8192) : Named m := by
  intro c i y
  have hy : ((tbM0_2.view.read (Elt F) (tbl m 2) : Vec F S98304 .i32) y : BitVec 32).toNat < 8192 := h _
  refine ⟨fun _ => ?_, fun _ a => ?_⟩
  · show 8 ∣ ((tbM0_2.view.read (Elt F) (tbl m 2) : Vec F S98304 .i32) y : BitVec 32).toNat * 8 % 4294967296
    omega
  · match a with
    | ⟨0, _⟩ =>
      show ((tbM0_2.view.read (Elt F) (tbl m 2) : Vec F S98304 .i32) y : BitVec 32).toNat * 8 % 4294967296 + 8 ≤ 65536
      omega
    | ⟨1, _⟩ => show 0 + 128 ≤ 128; omega

/-- A word between two bounds. -/
theorem word_le (x : BitVec 32) (n : ℕ) (hn : n < 2 ^ 31) (h : IntOp.andi (IntOp.cmpi .sge x 0#32) (IntOp.cmpi .sle x (BitVec.ofNat 32 n)) = 1#1) : x.toNat ≤ n := by
  obtain ⟨h1, h2⟩ := IntOp.andi_eq_one.1 h
  simp only [IntOp.cmpi, WordCmp.ofBool_eq_one_iff, BitVec.sle, decide_eq_true_eq] at h1 h2
  have e : (BitVec.ofNat 32 n).toInt = n := by
    rw [BitVec.toInt_ofNat']
    norm_num
    rw [Int.bmod_eq_of_le] <;> omega
  rw [e] at h2
  have z : (0#32 : BitVec 32).toInt = 0 := by decide
  rw [z] at h1
  have := BitVec.toInt_eq_toNat_cond x
  have hx := x.isLt
  split at this <;> omega

end Cert.MoeI

end
-- ==== Proof.MoeFrames.lean ====
module

public import proofs.«01_k».proof.Proof.MoeBPre
public import proofs.«01_k».proof.Proof.MoeIPre
public import proofs.«01_k».proof.Proof.Gen.Reference5Ideal.Run
public import proofs.«01_k».proof.Proof.Gen.Pre_tables_named
public import proofs.«01_k».proof.Proof.Gen.Pre_slots_weighted
public import Idealize.ShloMosaic.Lib.Claim
public import Idealize.ShloMosaic.Lib.Quiescent

@[expose] public section

set_option maxRecDepth 16384

/-! The routed experts' call: the two programs and the reference run and leave their arguments alone. -/

namespace Cert.Moe

open Idealize.ShloMosaic Idealize.ShloMosaic.TcCoe Idealize.SL.Sem

theorem experts (m : (ℓ : Loc Cert.Kernel5.nD Cert.Kernel5.τ Cert.Kernel5.sig) → Buf (Elt Bits) ℓ) (h : Cert.Pre_Kernel5 m) : Cert.MoeB.Ok m :=
  Cert.MoeB.ok_of m fun y => Nat.lt_of_le_of_lt (Cert.MoeB.word_le _ 255 (by norm_num) (congrFun (h 0).1 y)) (by norm_num)

theorem tokens (m : (ℓ : Loc Cert.Kernel5.nD Cert.Kernel5.τ Cert.Kernel5.sig) → Buf (Elt Bits) ℓ) (h : Cert.Pre_Kernel5 m) : Cert.MoeB.Named m :=
  Cert.MoeB.named_of m fun y => Nat.lt_of_le_of_lt (Cert.MoeB.word_le _ 8191 (by norm_num) (congrFun (h 0).2 y)) (by norm_num)

/-- The call runs and leaves its arguments alone. -/
theorem frameB : Cert.quiescent_Kernel5 := fun m g h => Cert.MoeB.frame m g (experts m h) (tokens m h)

section Ideal

variable (m : (ℓ : Loc Cert.Kernel5Ideal.nD Cert.Kernel5Ideal.τ Cert.Kernel5Ideal.sig) → Buf (Elt Ideal) ℓ)

theorem expertsI (h : Cert.Pre_Kernel5Ideal m) : Cert.MoeI.Ok m :=
  Cert.MoeI.ok_of m fun y => Nat.lt_of_le_of_lt (Cert.MoeI.word_le _ 255 (by norm_num) (congrFun (h 0).1 y)) (by norm_num)

theorem tokensI (h : Cert.Pre_Kernel5Ideal m) : Cert.MoeI.Named m :=
  Cert.MoeI.named_of m fun y => Nat.lt_of_le_of_lt (Cert.MoeI.word_le _ 8191 (by norm_num) (congrFun (h 0).2 y)) (by norm_num)

/-- The experts' words, under the precondition of the values. -/
theorem expW (h : Cert.Pre_Kernel5Ideal_slots_weighted m) (y : Cert.Kernel5Ideal.S768.Idx) :
    ((Cert.MoeI.tbl m 0 : Cert.Kernel5Ideal.S768.Idx → BitVec 32) y).toNat < 256 :=
  Nat.lt_of_le_of_lt (Cert.MoeI.word_le _ 255 (by norm_num) (congrFun (h 0).1 y)) (by norm_num)

/-- The tokens' words, under the precondition of the values. -/
theorem tokW (h : Cert.Pre_Kernel5Ideal_slots_weighted m) (y : Cert.Kernel5Ideal.S98304.Idx) :
    ((Cert.MoeI.tbl m 2 : Cert.Kernel5Ideal.S98304.Idx → BitVec 32) y).toNat < 8192 :=
  Nat.lt_of_le_of_lt (Cert.MoeI.word_le _ 8191 (by norm_num) (congrFun (h 0).2.1 y)) (by norm_num)

theorem expertsW (h : Cert.Pre_Kernel5Ideal_slots_weighted m) : Cert.MoeI.Ok m := Cert.MoeI.ok_of m (expW m h)

theorem tokensW (h : Cert.Pre_Kernel5Ideal_slots_weighted m) : Cert.MoeI.Named m := Cert.MoeI.named_of m (tokW m h)

end Ideal

theorem frameI : Cert.quiescent_Kernel5Ideal := fun m g h => Cert.MoeI.frame m g (expertsI m h) (tokensI m h)

theorem frameW : Cert.quiescent_Kernel5Ideal_pre_slots_weighted := fun m g h => Cert.MoeI.frame m g (expertsW m h) (tokensW m h)

/-- The reference runs and leaves its arguments alone. -/
theorem frameR : Cert.quiescent_Reference5Ideal := by
  intro m g hpre
  run_from Cert.Reference5Ideal.Value.run m g
  exact fun _ => by simp
  exact sem_eq_zero_of_no_sems (sig := Cert.Reference5Ideal.sig) (by decide) _

theorem frameRW : Cert.quiescent_Reference5Ideal_pre_slots_weighted := fun m g _ => frameR m g trivial

end Cert.Moe
-- ==== Proof.MoeGath.lean ====
module

public import Idealize.ShloMosaic.Lib.ValueIdxCore
public import Idealize.ShloMosaic.Lib.Pointwise

@[expose] public section

noncomputable section

/-! Gathers along the first axis: entry `(r, …)` of the result is the operand at the row the index array names at `r`. -/

namespace Cert.Moe

open Idealize Idealize.ShloMosaic

/-- The dimension numbers of a gather of rows. -/
abbrev rowsDims (N K R : ℕ)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- The gather of rows read at an entry. -/
theorem gather_rows {α : Type} {N K R w : ℕ} (hN : 0 < N) (wf) (x : (⟨2, ![N, K]⟩ : Shape).Idx → α)
    (idx : IVec ⟨2, ![R, 1]⟩ w) (r : Fin R) (k : Fin K) :
    Host.gather (rowsDims N K R wf) x idx (ix2 r k)
      = x (ix2 ⟨min (idx (ix2 r (0 : Fin 1))).toInt.toNat (N - 1), by omega⟩ k) := by
  unfold Host.gather
  congr 1
  funext a
  refine Fin.ext ?_
  show (rowsDims N K R wf).start (ix2 r k) idx a + (rowsDims N K R wf).batchCoord (ix2 r k) a
      + (rowsDims N K R wf).offCoord (ix2 r k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R wf).startIndexMap from List.mem_singleton.mpr rfl)]
    have hsi : (rowsDims N K R wf).siIdx (ix2 r k) ⟨List.idxOf (0 : Fin 2) (rowsDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (by decide : ¬ (1 : Fin 2) ∈ ([0] : List (Fin 2)))]
    simp only [Nat.zero_add, Nat.add_zero]
    rfl

/-- The dimension numbers of a gather of planes. -/
abbrev planesDims (N J K R : ℕ)
    (wf : GatherDims.WF ⟨3, ![N, J, K]⟩ ⟨2, ![R, 1]⟩ ⟨3, ![R, J, K]⟩ [1, 2] [0] [] [0] [] 1 ![1, J, K]) :
    GatherDims ⟨3, ![N, J, K]⟩ ⟨2, ![R, 1]⟩ ⟨3, ![R, J, K]⟩ where
  offsetDims := [1, 2]
  collapsedSliceDims := [0]
  operandBatchingDims := []
  startIndicesBatchingDims := []
  startIndexMap := [0]
  indexVectorDim := 1
  sliceSizes := ![1, J, K]
  wf := wf

/-- The gather of planes read at an entry. -/
theorem gather_planes {α : Type} {N J K R w : ℕ} (hN : 0 < N) (wf) (x : (⟨3, ![N, J, K]⟩ : Shape).Idx → α)
    (idx : IVec ⟨2, ![R, 1]⟩ w) (r : Fin R) (j : Fin J) (k : Fin K) :
    Host.gather (planesDims N J K R wf) x idx (ix3 r j k)
      = x (ix3 ⟨min (idx (ix2 r (0 : Fin 1))).toInt.toNat (N - 1), by omega⟩ j k) := by
  unfold Host.gather
  congr 1
  funext a
  refine Fin.ext ?_
  show (planesDims N J K R wf).start (ix3 r j k) idx a + (planesDims N J K R wf).batchCoord (ix3 r j k) a
      + (planesDims N J K R wf).offCoord (ix3 r j k) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (planesDims N J K R wf).startIndexMap from List.mem_singleton.mpr rfl)]
    have hsi : (planesDims N J K R wf).siIdx (ix3 r j k) ⟨List.idxOf (0 : Fin 3) (planesDims N J K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (by decide : ¬ (1 : Fin 3) ∈ ([0] : List (Fin 3)))]
    simp only [Nat.zero_add, Nat.add_zero]
    rfl
  · rw [GatherDims.batchCoord_eq_zero _ _ _ List.not_mem_nil]
    unfold GatherDims.start
    rw [dif_neg (by decide : ¬ (2 : Fin 3) ∈ ([0] : List (Fin 3)))]
    simp only [Nat.zero_add, Nat.add_zero]
    rfl

end Cert.Moe

end
-- ==== Proof.MoeDec.lean ====
module

public import proofs.«01_k».proof.Proof.MoeGath

@[expose] public section

noncomputable section

/-! The two sixteen-bit floats a word holds. -/

namespace Cert.Moe

open Idealize.ShloMosaic

/-- The float in a word's low half, or in its high half. -/
def dec (low : Bool) (w : BitVec 32) : EReal :=
  match low with
  | true => Ideal.ofBits .f32 (IntOp.shli .vector w 16#32)
  | false => Ideal.ofBits .f32 (IntOp.andi w 4294901760#32)

end Cert.Moe

end
-- ==== Proof.MoePay.lean ====
module

public import proofs.«01_k».proof.Proof.MoeITrip
public import proofs.«01_k».proof.Proof.Ada
public import proofs.«01_k».proof.Proof.MoeDec
public import Idealize.ShloMosaic.Lib.Pipeline.ValueKit
public import Idealize.ShloMosaic.Lib.Pointwise
public import Idealize.ShloMosaic.Lib.Pipeline.ReadBack

@[expose] public section

set_option maxRecDepth 16384

noncomputable section

/-! The routed experts' call: what a point computes, entry by entry. -/

namespace Cert.MoeI

open Cert.Kernel5Ideal Cert.Kernel5Ideal.Gen Idealize.ShloMosaic Idealize.ShloMosaic.TcCoe Idealize.SL.Sem

theorem inb_piece (n : Fin 16) : ∀ a, S128x128.size a = 0 ∨ (![n.val % 8, 0] : Fin 2 → ℕ) a + (![8, 1] : Fin 2 → ℕ) a * (S128x128.size a - 1) < S1024x128.size a := by
  intro a
  have := n.isLt
  match a with
  | ⟨0, _⟩ => right; show n.val % 8 + 8 * (128 - 1) < 1024; omega
  | ⟨1, _⟩ => right; show 0 + 1 * (128 - 1) < 128; omega

/-- The sixteen-bit floats in the low halves of words, or in their high halves. -/
def half (b : Bool) (v : Vec Ideal S128x128 .i32) : FVec Ideal S128x128 .bf16 :=
  match b with
  | true => truncf .bf16 (bitcastToFloat (F := Ideal) .f32 (shli v (broadcast S128x128 16#32))) bitsLt_bf16_f32
  | false => truncf .bf16 (bitcastToFloat (F := Ideal) .f32 (andi v (broadcast S128x128 4294901760#32))) bitsLt_bf16_f32

theorem half_apply (b : Bool) (v : Vec Ideal S128x128 .i32) (i : S128x128.Idx) : half b v i = Cert.Moe.dec b (v i) := by
  cases b <;> rfl

/-- Piece `n` of the gathered rows. -/
def piece (g : Vec Ideal S1024x128 .i32) (n : Fin 16) : FVec Ideal S128x128 .bf16 :=
  half (decide (n.val < 8)) (at8 (F := Ideal) g ⟨![n.val % 8, 0], S128x128.size, ![8, 1], inb_piece n⟩)

theorem piece_apply (g : Vec Ideal S1024x128 .i32) (n : Fin 16) (r d : Fin 128) :
    piece g n (ix2 r d) = Cert.Moe.dec (decide (n.val < 8)) (g (ix2 (Fin.ofNat 1024 (8 * r.val + n.val % 8)) d)) := by
  have hn := n.isLt
  have hr := r.isLt
  unfold piece
  refine (half_apply _ _ _).trans (congrArg (Cert.Moe.dec _) (congrArg g ?_))
  funext a
  apply Fin.ext
  match a with
  | ⟨0, _⟩ => show n.val % 8 + 8 * r.val = (8 * r.val + n.val % 8) % 1024; omega
  | ⟨1, _⟩ => show 0 + 1 * d.val = d.val; omega

/-- The sixteen pieces side by side. -/
def cat (g : Vec Ideal S1024x128 .i32) : FVec Ideal S128x2048 .bf16 :=
  k0_pay23 (F := Ideal) (piece g 0) (piece g 8) (piece g 1) (piece g 9) (piece g 2) (piece g 10) (piece g 3) (piece g 11)
    (at8 g ⟨![4, 0], S128x128.size, ![8, 1], inb_S1024x128_S128x128_4_0_s_8_1⟩)
    (at8 g ⟨![5, 0], S128x128.size, ![8, 1], inb_S1024x128_S128x128_5_0_s_8_1⟩)
    (at8 g ⟨![6, 0], S128x128.size, ![8, 1], inb_S1024x128_S128x128_6_0_s_8_1⟩)
    (at8 g ⟨![7, 0], S128x128.size, ![8, 1], inb_S1024x128_S128x128_7_0_s_8_1⟩)

theorem cat_apply (g : Vec Ideal S1024x128 .i32) (r : Fin 128) (j : Fin 2048) :
    cat g (ix2 r j) = Cert.Moe.dec (decide (j.val < 1024)) (g (ix2 (Fin.ofNat 1024 (8 * r.val + j.val / 128 % 8)) (Fin.ofNat 128 j.val))) := by
  have hj := j.isLt
  have e : cat g (ix2 r j) = piece g ⟨j.val / 128, by omega⟩ (ix2 r (Fin.ofNat 128 j.val)) := by
    refine concatenate_ofFn_apply (t := S128x2048) (s₁ := S128x128) 1 (piece g) concatenates_S128x128_S128x128_S128x128_S128x128_S128x128_S128x128_S128x128_S128x128_S128x128_S128x128_S128x128_S128x128_S128x128_S128x128_S128x128_S128x128_S128x2048_d1 rfl 128 rfl (ix2 r j) ⟨j.val / 128, by omega⟩ rfl (ix2 r (Fin.ofNat 128 j.val)) rfl ?_
    intro b hb
    match b with
    | ⟨0, _⟩ => rfl
    | ⟨1, _⟩ => exact absurd rfl hb
  have ed : decide (j.val / 128 < 8) = decide (j.val < 1024) := by
    by_cases h : j.val < 1024
    · rw [decide_eq_true h, decide_eq_true (by omega)]
    · rw [decide_eq_false h, decide_eq_false (by omega)]
  rw [e, piece_apply]
  show Cert.Moe.dec (decide (j.val / 128 < 8)) _ = _
  rw [ed]

/-- The rows against a block of weights. -/
def prod (x : FVec Ideal S128x2048 .bf16) (w : FVec Ideal S2048x256 .bf16) : FVec Ideal S128x256 .f32 :=
  matmul dot_S128x2048_S2048x256_S128x256_1_0_0_1_n_n none x w (constant S128x256 .f32 0x00000000#32)

theorem prod_apply (x : FVec Ideal S128x2048 .bf16) (w : FVec Ideal S2048x256 .bf16) (r : Fin 128) (q : Fin 256) :
    prod x w (ix2 r q) = ∑ j : Fin 2048, x (ix2 r j) * w (ix2 j q) := by
  pointwise [prod]

/-- The weights' block twice, side by side. -/
def wide (x1 : Vec Ideal S128x128 .f32) : FVec Ideal S128x256 .f32 :=
  concatenate S128x256 1 [⟨S128x128, x1⟩, ⟨S128x128, x1⟩] concatenates_S128x128_S128x128_S128x256_d1

theorem wide_apply (x1 : Vec Ideal S128x128 .f32) (r : Fin 128) (q : Fin 256) :
    wide x1 (ix2 r q) = x1 (ix2 r (Fin.ofNat 128 q.val)) := by
  have hq := q.isLt
  refine concatenate_ofFn_apply (t := S128x256) (s₁ := S128x128) 1 (N := 2) (fun _ => x1) concatenates_S128x128_S128x128_S128x256_d1 rfl 128 rfl (ix2 r q) ⟨q.val / 128, by omega⟩ rfl (ix2 r (Fin.ofNat 128 q.val)) rfl ?_
  intro b hb
  match b with
  | ⟨0, _⟩ => rfl
  | ⟨1, _⟩ => exact absurd rfl hb

/-- The gate's sigmoid, the products and the last product. -/
def down (a b w : FVec Ideal S128x256 .f32) (d : Vec Ideal S256x2048 .bf16) : FVec Ideal S128x2048 .f32 :=
  matmul (φ₂ := .bf16) dot_S128x256_S256x2048_S128x2048_1_0_0_1_n_n none
    (truncf .bf16 (mulf (mulf (mulf a (divf (broadcast S128x256 (Scalar.ofBits (F := Ideal) .f32 0x3F800000#32))
      (addf (broadcast S128x256 (Scalar.ofBits (F := Ideal) .f32 0x3F800000#32)) (exp (subf (broadcast S128x256 (Scalar.ofBits (F := Ideal) .f32 0x00000000#32)) a))))) b) w) bitsLt_bf16_f32)
    d (constant S128x2048 .f32 0x00000000#32)

theorem down_apply (a b w : FVec Ideal S128x256 .f32) (d : Vec Ideal S256x2048 .bf16) (r : Fin 128) (k : Fin 2048) :
    down a b w d (ix2 r k)
      = ∑ q : Fin 256, (Cert.Ada.sil (a (ix2 r q)) * b (ix2 r q) * w (ix2 r q)) * d (ix2 q k) := by
  unfold Cert.Ada.sil
  pointwise [down]

theorem wg_apply (x : Vec Ideal S1x2048x256 .f32) (j : Fin 2048) (q : Fin 256) : k0_pay1 (F := Ideal) x (ix2 j q) = x (ix3 (0 : Fin 1) j q) := by
  pointwise [k0_pay1]

theorem wu_apply (x : Vec Ideal S1x2048x256 .f32) (j : Fin 2048) (q : Fin 256) : k0_pay2 (F := Ideal) x (ix2 j q) = x (ix3 (0 : Fin 1) j q) := by
  pointwise [k0_pay2]

theorem wd_apply (x : Vec Ideal S1x256x2048 .f32) (q : Fin 256) (k : Fin 2048) : k0_pay3 (F := Ideal) x (ix2 q k) = x (ix3 (0 : Fin 1) q k) := by
  pointwise [k0_pay3]

theorem moeY_eq (g : Vec Ideal S1024x128 .i32) (x1 : Vec Ideal S128x128 .f32) (w0 w1 : Vec Ideal S2048x256 .bf16) (w2 : Vec Ideal S256x2048 .bf16) :
    moeY (F := Ideal) g x1 w0 w1 w2 = down (prod (cat g) w0) (prod (cat g) w1) (wide x1) w2 := rfl

end Cert.MoeI

end
-- ==== Proof.MoeRef.lean ====
module

public import proofs.«01_k».proof.Proof.MoeGath
public import proofs.«01_k».proof.Proof.MoeDec
public import Idealize.ShloMosaic.Lib.Pointwise
public import proofs.«01_k».proof.Proof.Ada
public import proofs.«01_k».proof.Proof.Gen.Reference5Ideal.Read

@[expose] public section

set_option maxRecDepth 16384

noncomputable section

/-! The routed experts' result, entry by entry, and that the reference's array is it. -/

namespace Cert.Moe

open Idealize.ShloMosaic Cert.Reference5Ideal Cert.Reference5Ideal.Read

abbrev Tok : Type := (⟨1, ![98304]⟩ : Shape).Idx → BitVec 32
abbrev Exp : Type := (⟨1, ![768]⟩ : Shape).Idx → BitVec 32
abbrev Cnt : Type := (⟨1, ![1]⟩ : Shape).Idx → BitVec 32
abbrev Rows : Type := (⟨2, ![65536, 128]⟩ : Shape).Idx → BitVec 32
abbrev Wts : Type := (⟨2, ![98304, 128]⟩ : Shape).Idx → EReal
abbrev Wid : Type := (⟨3, ![256, 2048, 256]⟩ : Shape).Idx → EReal
abbrev Nar : Type := (⟨3, ![256, 256, 2048]⟩ : Shape).Idx → EReal

/-- Entry `j` of the row that slot `n` reads. -/
def xe (tok : Tok) (h : Rows) (n j : ℕ) : EReal :=
  dec (decide (j < 1024)) (h (ix2 (Fin.ofNat 65536 (8 * ((tok (ix1 (Fin.ofNat 98304 n))).toNat % 8192) + j / 128 % 8)) (Fin.ofNat 128 j)))

/-- Block `t`'s expert. -/
def ex (be : Exp) (t : ℕ) : Fin 256 := Fin.ofNat 256 (be (ix1 (Fin.ofNat 768 t))).toNat

/-- A row of block `t` against column `q` of its expert's weights. -/
def into (be : Exp) (tok : Tok) (h : Rows) (w : Wid) (t r : ℕ) (q : Fin 256) : EReal :=
  ∑ j : Fin 2048, xe tok h (128 * t + r) j.val * w (ix3 (ex be t) j q)

/-- The hidden entry: the gate times its sigmoid, times the other product. -/
def hid (be : Exp) (tok : Tok) (h : Rows) (wg wu : Wid) (t r : ℕ) (q : Fin 256) : EReal :=
  Cert.Ada.sil (into be tok h wg t r q) * into be tok h wu t r q

/-- Entry `k` of row `r` of block `t`. -/
def ent (be : Exp) (nu : Cnt) (tok : Tok) (h : Rows) (wc : Wts) (wg wu : Wid) (wd : Nar) (t r : ℕ) (k : Fin 2048) : EReal :=
  if IntOp.cmpi .slt (BitVec.ofNat 32 t) (nu (ix1 0)) = 1#1 then
    (∑ q : Fin 256, hid be tok h wg wu t r q * wd (ix3 (ex be t) q k)) * wc (ix2 (Fin.ofNat 98304 (128 * t + r)) 0)
  else 0

/-- The whole result. -/
def MOE (be : Exp) (nu : Cnt) (tok : Tok) (h : Rows) (wc : Wts) (wg wu : Wid) (wd : Nar) : (⟨2, ![1572864, 128]⟩ : Shape).Idx → EReal := fun i =>
  ent be nu tok h wc wg wu wd ((i 0).val / 2048) ((i 0).val / 16 % 128) (Fin.ofNat 2048 (128 * ((i 0).val % 16) + (i 1).val))

/-- A small word is read as itself. -/
theorem word_toInt (x : BitVec 32) (h : x.toNat < 2 ^ 31) : x.toInt = x.toNat := by
  rw [BitVec.toInt_eq_toNat_cond]
  split <;> omega

/-- A small word is not wrapped. -/
theorem word_keep (x c : BitVec 32) (h : x.toNat < 2 ^ 31) : Scalar.select (IntOp.cmpi .slt x 0#32) (IntOp.addi x c) x = x := by
  have e : ¬ IntOp.cmpi .slt x 0#32 = 1#1 := by
    simp only [IntOp.cmpi, WordCmp.ofBool_eq_one_iff, BitVec.slt, decide_eq_true_eq]
    have z : (0#32 : BitVec 32).toInt = 0 := by decide
    rw [word_toInt x h, z]
    omega
  exact if_neg e

section

variable (x0 : Exp) (x2 : Tok) (x3 : Rows) (x4 : Wts) (x5 x6 : Wid) (x7 : Nar)
  (hbe : ∀ y, (x0 y).toNat < 256) (htok : ∀ y, (x2 y).toNat < 8192)

/-- The rows the words hold. -/
theorem refH (a : Fin 8192) (j : Fin 2048) :
    val_main_v7 (F := Ideal) x3 (ix2 a j) = dec (decide (j.val < 1024)) (x3 (ix2 (Fin.ofNat 65536 (8 * a.val + j.val / 128 % 8)) (Fin.ofNat 128 j.val))) := by
  have ha := a.isLt
  have hj := j.isLt
  have e0 : ∀ q : Fin 1024, q.val = j.val % 1024 → val_main_v0 (F := Ideal) x3 (ix2 a q) = x3 (ix2 (Fin.ofNat 65536 (8 * a.val + j.val / 128 % 8)) (Fin.ofNat 128 j.val)) := by
    intro q hq
    rw [val_main_v0_apply]
    refine congrArg x3 ?_
    funext b
    apply Fin.ext
    match b with
    | ⟨0, _⟩ => show (a.val * 1024 + q.val) / 128 = (8 * a.val + j.val / 128 % 8) % 65536; omega
    | ⟨1, _⟩ => show (a.val * 1024 + q.val) % 128 = j.val % 128; omega
  have e : val_main_v7 (F := Ideal) x3 (ix2 a j) = (![val_main_v3 (F := Ideal) x3, val_main_v6 (F := Ideal) x3] : Fin 2 → FVec Ideal S8192x1024 .f32) ⟨j.val / 1024, by omega⟩ (ix2 a (Fin.ofNat 1024 j.val)) := by
    refine concatenate_ofFn_apply (t := S8192x2048) (s₁ := S8192x1024) 1 (![val_main_v3 (F := Ideal) x3, val_main_v6 (F := Ideal) x3] : Fin 2 → FVec Ideal S8192x1024 .f32) Facts₀.concatenates_S8192x1024_S8192x1024_S8192x2048_d1 rfl 1024 rfl (ix2 a j) ⟨j.val / 1024, by omega⟩ rfl (ix2 a (Fin.ofNat 1024 j.val)) rfl ?_
    intro b hb
    match b with
    | ⟨0, _⟩ => rfl
    | ⟨1, _⟩ => exact absurd rfl hb
  rw [e]
  have q0 : (Fin.ofNat 1024 j.val : Fin 1024).val = j.val % 1024 := rfl
  by_cases h : j.val < 1024
  · have k : (⟨j.val / 1024, by omega⟩ : Fin 2) = 0 := Fin.ext (by show j.val / 1024 = 0; omega)
    rw [k, decide_eq_true h]
    show val_main_v3 (F := Ideal) x3 (ix2 a (Fin.ofNat 1024 j.val)) = _
    rw [val_main_v3_apply, val_main_v2_apply, val_main_v1_apply, e0 _ q0]
    rfl
  · have k : (⟨j.val / 1024, by omega⟩ : Fin 2) = 1 := Fin.ext (by show j.val / 1024 = 1; omega)
    rw [k, decide_eq_false h]
    show val_main_v6 (F := Ideal) x3 (ix2 a (Fin.ofNat 1024 j.val)) = _
    rw [val_main_v6_apply, val_main_v5_apply, val_main_v4_apply, e0 _ q0]
    rfl

include htok in
/-- The gathered rows. -/
theorem refX (t : Fin 768) (r : Fin 128) (j : Fin 2048) :
    val_main_v15 (F := Ideal) x2 x3 (ix3 t r j) = xe x2 x3 (128 * t.val + r.val) j.val := by
  have ht := t.isLt
  have hr := r.isLt
  have hj := j.isLt
  rw [val_main_v15_apply]
  have e : idx_main_v15 (ix3 t r j) = ix2 (Fin.ofNat 98304 (128 * t.val + r.val)) j := by
    funext a
    apply Fin.ext
    match a with
    | ⟨0, _⟩ => show ((t.val * 128 + r.val) * 2048 + j.val) / 2048 = (128 * t.val + r.val) % 98304; omega
    | ⟨1, _⟩ => show ((t.val * 128 + r.val) * 2048 + j.val) % 2048 = j.val; omega
  rw [e]
  unfold val_main_v14
  refine (gather_rows (by norm_num) _ (val_main_v7 (F := Ideal) x3) (val_main_v13 (F := Ideal) x2) _ _).trans ?_
  have e8 : val_main_v13 (F := Ideal) x2 (ix2 (Fin.ofNat 98304 (128 * t.val + r.val)) (0 : Fin 1)) = x2 (ix1 (Fin.ofNat 98304 (128 * t.val + r.val))) := by
    rw [val_main_v13_apply, val_main_v12_apply, val_main_v9_apply, val_main_v11_apply, val_main_v8_apply, val_main_c_1_apply]
    refine (word_keep _ _ (Nat.lt_trans (htok _) (by norm_num))).trans (congrArg x2 ?_)
    funext a
    apply Fin.ext
    match a with
    | ⟨0, _⟩ => rfl
  have hk := htok (ix1 (Fin.ofNat 98304 (128 * t.val + r.val)))
  unfold xe
  refine (refH x3 _ j).trans ?_
  refine congrArg (dec _) (congrArg x3 ?_)
  funext a
  apply Fin.ext
  match a with
  | ⟨0, _⟩ =>
    show (8 * (min (val_main_v13 (F := Ideal) x2 (ix2 (Fin.ofNat 98304 (128 * t.val + r.val)) (0 : Fin 1))).toInt.toNat (8192 - 1)) + j.val / 128 % 8) % 65536 = (8 * ((x2 (ix1 (Fin.ofNat 98304 (128 * t.val + r.val)))).toNat % 8192) + j.val / 128 % 8) % 65536
    rw [e8, word_toInt _ (Nat.lt_trans hk (by norm_num))]
    omega
  | ⟨1, _⟩ => rfl

/-- The expert a block's word names. -/
theorem ex_of (v : (⟨2, ![768, 1]⟩ : Shape).Idx → BitVec 32) (t : Fin 768) (h0 : (x0 (ix1 t)).toNat < 256) (hv : v (ix2 t (0 : Fin 1)) = x0 (ix1 t))
    (p : min (v (ix2 t (0 : Fin 1))).toInt.toNat (256 - 1) < 256) :
    (⟨min (v (ix2 t (0 : Fin 1))).toInt.toNat (256 - 1), p⟩ : Fin 256) = ex x0 t.val := by
  apply Fin.ext
  have ht := t.isLt
  have e : (Fin.ofNat 768 t.val : Fin 768) = t := Fin.ext (Nat.mod_eq_of_lt ht)
  show min (v (ix2 t (0 : Fin 1))).toInt.toNat (256 - 1) = (x0 (ix1 (Fin.ofNat 768 t.val))).toNat % 256
  rw [e, hv, word_toInt _ (Nat.lt_trans h0 (by norm_num))]
  omega

include hbe in
theorem refG (t : Fin 768) (j : Fin 2048) (q : Fin 256) : val_main_v25 (F := Ideal) x0 x5 (ix3 t j q) = x5 (ix3 (ex x0 t.val) j q) := by
  unfold val_main_v25
  refine (gather_planes (by norm_num) _ x5 (val_main_v24 (F := Ideal) x0) _ _ _).trans ?_
  rw [ex_of x0 (val_main_v24 (F := Ideal) x0) t (hbe _)]
  rw [val_main_v24_apply, val_main_v23_apply, val_main_v20_apply, val_main_v22_apply, val_main_v19_apply, val_main_c_3_apply]
  refine (word_keep _ _ (Nat.lt_trans (hbe _) (by norm_num))).trans (congrArg x0 ?_)
  funext a
  apply Fin.ext
  match a with
  | ⟨0, _⟩ => rfl

include hbe in
theorem refU (t : Fin 768) (j : Fin 2048) (q : Fin 256) : val_main_v32 (F := Ideal) x0 x6 (ix3 t j q) = x6 (ix3 (ex x0 t.val) j q) := by
  unfold val_main_v32
  refine (gather_planes (by norm_num) _ x6 (val_main_v31 (F := Ideal) x0) _ _ _).trans ?_
  rw [ex_of x0 (val_main_v31 (F := Ideal) x0) t (hbe _)]
  rw [val_main_v31_apply, val_main_v30_apply, val_main_v27_apply, val_main_v29_apply, val_main_v26_apply, val_main_c_5_apply]
  refine (word_keep _ _ (Nat.lt_trans (hbe _) (by norm_num))).trans (congrArg x0 ?_)
  funext a
  apply Fin.ext
  match a with
  | ⟨0, _⟩ => rfl

include hbe in
theorem refD (t : Fin 768) (q : Fin 256) (k : Fin 2048) : val_main_v39 (F := Ideal) x0 x7 (ix3 t q k) = x7 (ix3 (ex x0 t.val) q k) := by
  unfold val_main_v39
  refine (gather_planes (by norm_num) _ x7 (val_main_v38 (F := Ideal) x0) _ _ _).trans ?_
  rw [ex_of x0 (val_main_v38 (F := Ideal) x0) t (hbe _)]
  rw [val_main_v38_apply, val_main_v37_apply, val_main_v34_apply, val_main_v36_apply, val_main_v33_apply, val_main_c_7_apply]
  refine (word_keep _ _ (Nat.lt_trans (hbe _) (by norm_num))).trans (congrArg x0 ?_)
  funext a
  apply Fin.ext
  match a with
  | ⟨0, _⟩ => rfl

include hbe htok

theorem ref35 (t : Fin 768) (r : Fin 128) (q : Fin 256) : val_main_v40 (F := Ideal) x0 x2 x3 x5 (ix3 t r q) = into x0 x2 x3 x5 t.val r.val q := by
  rw [val_main_v40_apply]
  refine Finset.sum_congr rfl fun j _ => ?_
  have e1 : lidx_main_v40 (ix3 t r q) j = ix3 t r j := by funext a; fin_cases a <;> rfl
  have e2 : ridx_main_v40 (ix3 t r q) j = ix3 t j q := by funext a; fin_cases a <;> rfl
  rw [e1, e2, refX x2 x3 htok, refG x0 x5 hbe]

theorem ref37 (t : Fin 768) (r : Fin 128) (q : Fin 256) : val_main_v42 (F := Ideal) x0 x2 x3 x6 (ix3 t r q) = into x0 x2 x3 x6 t.val r.val q := by
  rw [val_main_v42_apply]
  refine Finset.sum_congr rfl fun j _ => ?_
  have e1 : lidx_main_v42 (ix3 t r q) j = ix3 t r j := by funext a; fin_cases a <;> rfl
  have e2 : ridx_main_v42 (ix3 t r q) j = ix3 t j q := by funext a; fin_cases a <;> rfl
  rw [e1, e2, refX x2 x3 htok, refU x0 x6 hbe]

theorem ref38 (t : Fin 768) (r : Fin 128) (q : Fin 256) : val_main_v43 (F := Ideal) x0 x2 x3 x5 x6 (ix3 t r q) = hid x0 x2 x3 x5 x6 t.val r.val q := by
  rw [val_main_v43_apply, val_main_v41_apply, val_main_call0_v5_apply, val_main_call0_v4_apply, val_main_call0_cst_0_apply,
    val_main_call0_v3_apply, val_main_call0_v2_apply, val_main_call0_cst_apply, val_main_call0_v1_apply, val_main_call0_v0_apply,
    ref35 x0 x2 x3 x5 hbe htok, ref37 x0 x2 x3 x6 hbe htok, Cert.Ada.one_lit]
  unfold hid Cert.Ada.sil
  rw [sub_eq_add_neg, zero_add]
  rfl

/-- The reference's array. -/
theorem ref (x1 : Cnt) : val_main_v53 (F := Ideal) x0 x1 x2 x3 x4 x5 x6 x7 = MOE x0 x1 x2 x3 x4 x5 x6 x7 := by
  funext i
  have h0 : (i 0).val < 1572864 := (i 0).isLt
  have h1 : (i 1).val < 128 := (i 1).isLt
  obtain ⟨t, et⟩ : ∃ t : Fin 768, t.val = (i 0).val / 2048 := ⟨⟨(i 0).val / 2048, by omega⟩, rfl⟩
  obtain ⟨r, er⟩ : ∃ r : Fin 128, r.val = (i 0).val / 16 % 128 := ⟨⟨(i 0).val / 16 % 128, by omega⟩, rfl⟩
  obtain ⟨k, ek⟩ : ∃ k : Fin 2048, k.val = 128 * ((i 0).val % 16) + (i 1).val := ⟨⟨128 * ((i 0).val % 16) + (i 1).val, by omega⟩, rfl⟩
  have ei : idx_main_v53 i = ix3 t r k := by
    funext a
    apply Fin.ext
    match a with
    | ⟨0, _⟩ => show ((i 0).val * 128 + (i 1).val) / 262144 = t.val; omega
    | ⟨1, _⟩ => show ((i 0).val * 128 + (i 1).val) / 2048 % 128 = r.val; omega
    | ⟨2, _⟩ => show ((i 0).val * 128 + (i 1).val) % 2048 = k.val; omega
  have ek' : (Fin.ofNat 2048 (128 * ((i 0).val % 16) + (i 1).val) : Fin 2048) = k := by
    apply Fin.ext
    show (128 * ((i 0).val % 16) + (i 1).val) % 2048 = k.val
    omega
  rw [val_main_v53_apply, ei]
  unfold MOE
  rw [ek', ← et, ← er]
  rw [val_main_v52_apply, val_main_call1_v1_apply, val_main_v51_apply, val_main_v50_apply, val_main_v48_apply, val_main_v49_apply,
    val_main_call1_v2_apply, val_main_call1_v0_apply, val_main_cst_apply, val_main_v47_apply, val_main_v46_apply, val_main_v45_apply,
    val_main_v18_apply, val_main_v17_apply, val_main_v16_apply, val_main_v44_apply]
  unfold ent Scalar.select
  have eu : x1 (idx_main_v49 (idx_main_v51 (idx_main_call1_v1 (ix3 t r k)))) = x1 (ix1 0) := congrArg x1 (by funext a; fin_cases a; rfl)
  rw [eu]
  have ez : (FloatOps.ofBits .f32 0x00000000#32 : Ideal .f32) = (0 : EReal) := by
    show Ideal.ofBits .f32 _ = _
    simp [Ideal.ofBits, Ideal.ieee]
  rw [ez]
  refine if_congr Iff.rfl ?_ rfl
  refine congrArg₂ (fun a b : EReal => a * b) (Finset.sum_congr rfl fun q _ => ?_) (congrArg x4 ?_)
  · have e1 : lidx_main_v44 (ix3 t r k) q = ix3 t r q := by funext a; fin_cases a <;> rfl
    have e2 : ridx_main_v44 (ix3 t r k) q = ix3 t q k := by funext a; fin_cases a <;> rfl
    rw [e1, e2, ref38 x0 x2 x3 x5 x6 hbe htok, refD x0 x7 hbe]
  · funext a
    apply Fin.ext
    have ht := t.isLt
    have hr := r.isLt
    match a with
    | ⟨0, _⟩ => show (t.val * 128 + r.val) / 1 = (128 * t.val + r.val) % 98304; omega
    | ⟨1, _⟩ => rfl

end

end Cert.Moe

end
-- ==== Proof.MoeFinal.lean ====
module

public import proofs.«01_k».proof.Proof.MoeIPre
public import proofs.«01_k».proof.Proof.MoePay
public import proofs.«01_k».proof.Proof.MoeRef

@[expose] public section

set_option maxRecDepth 16384

noncomputable section

/-! The routed experts' call: the array it leaves. -/

namespace Cert.MoeI

open Cert.Kernel5Ideal Cert.Kernel5Ideal.Gen Idealize.ShloMosaic Idealize.ShloMosaic.TcCoe Idealize.SL.Sem
open Cert.Moe

/-- A weight that is neither negative nor infinite may be taken out of a sum. -/
theorem weight_out {ι : Type} [DecidableEq ι] (s : Finset ι) (a d : ι → EReal) (W : EReal) (h0 : 0 ≤ W) (h1 : W ≠ ⊤) :
    ∑ q ∈ s, (a q * W) * d q = (∑ q ∈ s, a q * d q) * W := by
  induction s using Finset.induction_on with
  | empty => simp
  | insert q s hq ih =>
    rw [Finset.sum_insert hq, Finset.sum_insert hq, ih, EReal.right_distrib_of_nonneg_of_ne_top h0 h1, mul_right_comm]

/-- One entry of the rows a point computes, from its blocks. -/
theorem row_of (g : Vec Ideal S1024x128 .i32) (x1 : Vec Ideal S128x128 .f32) (x2 x3 : Vec Ideal S1x2048x256 .f32) (x4 : Vec Ideal S1x256x2048 .f32) (r : Fin 128) (k : Fin 2048)
    (X : Fin 2048 → EReal) (A B : Fin 2048 → Fin 256 → EReal) (D : Fin 256 → EReal) (W : EReal) (h0 : 0 ≤ W) (h1 : W ≠ ⊤)
    (hg : ∀ j, cat g (ix2 r j) = X j) (ha : ∀ j q, x2 (ix3 (0 : Fin 1) j q) = A j q) (hb : ∀ j q, x3 (ix3 (0 : Fin 1) j q) = B j q) (hd : ∀ q, x4 (ix3 (0 : Fin 1) q k) = D q)
    (hx : ∀ d, x1 (ix2 r d) = W) :
    moeY (F := Ideal) g x1 (k0_pay1 (F := Ideal) x2) (k0_pay2 (F := Ideal) x3) (k0_pay3 (F := Ideal) x4) (ix2 r k)
      = (∑ q : Fin 256, Cert.Ada.sil (∑ j : Fin 2048, X j * A j q) * (∑ j : Fin 2048, X j * B j q) * D q) * W := by
  rw [moeY_eq, down_apply, ← weight_out _ _ _ _ h0 h1]
  refine Finset.sum_congr rfl fun q _ => ?_
  rw [prod_apply, prod_apply, wide_apply, hx, wd_apply, hd]
  simp only [hg, wg_apply, wu_apply, ha, hb]

variable (m : (ℓ : Loc nD τ sig) → Buf (Elt Ideal) ℓ) (hO : Ok m) (c : Dev nD)

abbrev aBe : Exp := m ((c : Thread nD τ).loc main_arg0)
abbrev aNu : Cnt := m ((c : Thread nD τ).loc main_arg1)
abbrev aTok : Tok := m ((c : Thread nD τ).loc main_arg2)
abbrev aRows : Rows := m ((c : Thread nD τ).loc main_arg3)
abbrev aWts : Wts := m ((c : Thread nD τ).loc main_arg4)
abbrev aWg : Wid := m ((c : Thread nD τ).loc main_arg5)
abbrev aWu : Wid := m ((c : Thread nD τ).loc main_arg6)
abbrev aWd : Nar := m ((c : Thread nD τ).loc main_arg7)

theorem tbl0 : (tbl m 0 : Exp) = aBe m c := by
  obtain rfl : c = 0 := Subsingleton.elim _ _; rfl

theorem tbl1 : (tbl m 1 : Cnt) = aNu m c := by
  obtain rfl : c = 0 := Subsingleton.elim _ _; rfl

theorem tbl2 : (tbl m 2 : Tok) = aTok m c := by
  obtain rfl : c = 0 := Subsingleton.elim _ _; rfl

theorem count_eq : (nu c (tbl m 1) : BitVec 32) = aNu m c (ix1 0) := by
  rw [← tbl1 m c]
  refine congrArg (tbl m 1 : Cnt) ?_
  funext a
  apply Fin.ext
  match a with
  | ⟨0, _⟩ => rfl

theorem expert_eq (t : Fin (cfgM m hO).N) : (be1 c (grid0.coords t) (tbl m 0) : BitVec 32) = aBe m c (ix1 (Fin.ofNat 768 t.val)) := by
  have ht : t.val < 768 := t.isLt
  have hc := coord_val t
  rw [← tbl0 m c]
  refine congrArg (tbl m 0 : Exp) ?_
  funext a
  apply Fin.ext
  match a with
  | ⟨0, _⟩ =>
    show k0_off1 (grid0.coords t) 0 + 1 * 0 = t.val % 768
    rw [off1_val, hc]
    omega

/-- The tokens' block is the whole array. -/
theorem rd0 (t : Fin (cfgM m hO).N) (y : S65536x128.Idx) : (iblk m hO c 0 t : Vec Ideal S65536x128 .i32) y = aRows m c y := by
  refine congrArg (V m c (Pipeline.arrRef spec0 0)) ?_
  funext a
  apply Fin.ext
  match a with
  | ⟨0, _⟩ => show 0 * 65536 + 1 * (y 0).val = (y 0).val; omega
  | ⟨1, _⟩ => show 0 * 128 + 1 * (y 1).val = (y 1).val; omega

theorem word_point (t : ℕ) (ht : t < 768) : (BitVec.ofNat 32 t).toNat = t := by
  rw [BitVec.toNat_ofNat]
  exact Nat.mod_eq_of_lt (by omega)

theorem rd1 (t : Fin (cfgM m hO).N) (r d : Fin 128) : (iblk m hO c 1 t : Vec Ideal S128x128 .f32) (ix2 r d) = aWts m c (ix2 (Fin.ofNat 98304 (128 * t.val + r.val)) d) := by
  have ht : t.val < 768 := t.isLt
  have hr := r.isLt
  have hc := coord_val t
  refine congrArg (V m c (Pipeline.arrRef spec0 1)) ?_
  funext a
  apply Fin.ext
  match a with
  | ⟨0, _⟩ =>
    show (BitVec.ofNat 32 (grid0.coords t 0).val).toNat * 128 + 1 * r.val = (128 * t.val + r.val) % 98304
    rw [hc, word_point _ ht]
    omega
  | ⟨1, _⟩ => show 0 * 128 + 1 * d.val = d.val; omega

variable (hbe : ∀ y, (aBe m c y).toNat < 256) (htok : ∀ y, (aTok m c y).toNat < 8192)

include hbe in
theorem rd2 (t : Fin (cfgM m hO).N) (j : Fin 2048) (q : Fin 256) : (iblk m hO c 2 t : Vec Ideal S1x2048x256 .f32) (ix3 (0 : Fin 1) j q) = aWg m c (ix3 (ex (aBe m c) t.val) j q) := by
  have hb := hbe (ix1 (Fin.ofNat 768 t.val))
  refine congrArg (V m c (Pipeline.arrRef spec0 2)) ?_
  funext a
  apply Fin.ext
  show cc0_transform_2 k0_off1_inb numel1_S1 (tbl m) (grid0.coords t) a * S1x2048x256.size a + 1 * ((ix3 (0 : Fin 1) j q : S1x2048x256.Idx) a).val = _
  rw [ix2_eq m c, expert_eq m hO c t]
  match a with
  | ⟨0, _⟩ => show (aBe m c (ix1 (Fin.ofNat 768 t.val))).toNat * 1 + 1 * 0 = (aBe m c (ix1 (Fin.ofNat 768 t.val))).toNat % 256; omega
  | ⟨1, _⟩ => show 0 * 2048 + 1 * j.val = j.val; omega
  | ⟨2, _⟩ => show 0 * 256 + 1 * q.val = q.val; omega

include hbe in
theorem rd3 (t : Fin (cfgM m hO).N) (j : Fin 2048) (q : Fin 256) : (iblk m hO c 3 t : Vec Ideal S1x2048x256 .f32) (ix3 (0 : Fin 1) j q) = aWu m c (ix3 (ex (aBe m c) t.val) j q) := by
  have hb := hbe (ix1 (Fin.ofNat 768 t.val))
  refine congrArg (V m c (Pipeline.arrRef spec0 3)) ?_
  funext a
  apply Fin.ext
  show cc0_transform_3 k0_off1_inb numel1_S1 (tbl m) (grid0.coords t) a * S1x2048x256.size a + 1 * ((ix3 (0 : Fin 1) j q : S1x2048x256.Idx) a).val = _
  rw [ix3_eq m c, expert_eq m hO c t]
  match a with
  | ⟨0, _⟩ => show (aBe m c (ix1 (Fin.ofNat 768 t.val))).toNat * 1 + 1 * 0 = (aBe m c (ix1 (Fin.ofNat 768 t.val))).toNat % 256; omega
  | ⟨1, _⟩ => show 0 * 2048 + 1 * j.val = j.val; omega
  | ⟨2, _⟩ => show 0 * 256 + 1 * q.val = q.val; omega

include hbe in
theorem rd4 (t : Fin (cfgM m hO).N) (q : Fin 256) (k : Fin 2048) : (iblk m hO c 4 t : Vec Ideal S1x256x2048 .f32) (ix3 (0 : Fin 1) q k) = aWd m c (ix3 (ex (aBe m c) t.val) q k) := by
  have hb := hbe (ix1 (Fin.ofNat 768 t.val))
  refine congrArg (V m c (Pipeline.arrRef spec0 4)) ?_
  funext a
  apply Fin.ext
  show cc0_transform_4 k0_off1_inb numel1_S1 (tbl m) (grid0.coords t) a * S1x256x2048.size a + 1 * ((ix3 (0 : Fin 1) q k : S1x256x2048.Idx) a).val = _
  rw [ix4_eq m c, expert_eq m hO c t]
  match a with
  | ⟨0, _⟩ => show (aBe m c (ix1 (Fin.ofNat 768 t.val))).toNat * 1 + 1 * 0 = (aBe m c (ix1 (Fin.ofNat 768 t.val))).toNat % 256; omega
  | ⟨1, _⟩ => show 0 * 256 + 1 * q.val = q.val; omega
  | ⟨2, _⟩ => show 0 * 2048 + 1 * k.val = k.val; omega

/-- The gathered rows, entry by entry. -/
theorem gat_entry (t : Fin (cfgM m hO).N) (r : Fin 128) (j : Fin 2048) :
    cat (gat (F := Ideal) (grid0.coords t) (iblk m hO c 0 t) (tbl m 2)) (ix2 r j) = xe (aTok m c) (aRows m c) (128 * t.val + r.val) j.val := by
  have ht : t.val < 768 := t.isLt
  have hr := r.isLt
  have hc := coord_val t
  rw [cat_apply]
  unfold gat xe
  rw [rd0]
  have hj := j.isLt
  have e : tokAt (F := Ideal) (tbl m 2) (128 * (grid0.coords t 0).val + (8 * r.val + j.val / 128 % 8) % 1024 / 8) = aTok m c (ix1 (Fin.ofNat 98304 (128 * t.val + r.val))) := by
    have hl : 128 * (grid0.coords t 0).val + (8 * r.val + j.val / 128 % 8) % 1024 / 8 < 98304 := by rw [hc]; omega
    refine (dif_pos hl).trans ?_
    rw [← tbl2 m c]
    refine congrArg (tbl m 2 : Tok) ?_
    funext a
    apply Fin.ext
    match a with
    | ⟨0, _⟩ => show 128 * (grid0.coords t 0).val + (8 * r.val + j.val / 128 % 8) % 1024 / 8 = (128 * t.val + r.val) % 98304; rw [hc]; omega
  refine congrArg (dec _) (congrArg (aRows m c) ?_)
  funext a
  apply Fin.ext
  match a with
  | ⟨0, _⟩ =>
    refine (congrArg (fun w : BitVec 32 => 8 * (w.toNat % 8192) + (8 * r.val + j.val / 128 % 8) % 1024 % 8) e).trans ?_
    show _ = (8 * ((aTok m c (ix1 (Fin.ofNat 98304 (128 * t.val + r.val)))).toNat % 8192) + j.val / 128 % 8) % 65536
    generalize (aTok m c (ix1 (Fin.ofNat 98304 (128 * t.val + r.val)))).toNat = w
    omega
  | ⟨1, _⟩ => rfl

variable (hw : ∀ n d, aWts m c (ix2 n d) = aWts m c (ix2 n 0)) (h0 : ∀ n, 0 ≤ aWts m c (ix2 n 0)) (h1 : ∀ n, aWts m c (ix2 n 0) ≠ ⊤)

include hbe hw h0 h1 in
/-- One entry of a point's rows. -/
theorem row_entry (t : Fin (cfgM m hO).N) (r : Fin 128) (k : Fin 2048) :
    moeY (F := Ideal) (gat (F := Ideal) (grid0.coords t) (iblk m hO c 0 t) (tbl m 2)) (iblk m hO c 1 t) (k0_pay1 (F := Ideal) (iblk m hO c 2 t)) (k0_pay2 (F := Ideal) (iblk m hO c 3 t)) (k0_pay3 (F := Ideal) (iblk m hO c 4 t)) (ix2 r k)
      = (∑ q : Fin 256, hid (aBe m c) (aTok m c) (aRows m c) (aWg m c) (aWu m c) t.val r.val q * aWd m c (ix3 (ex (aBe m c) t.val) q k)) * aWts m c (ix2 (Fin.ofNat 98304 (128 * t.val + r.val)) 0) := by
  refine row_of _ _ _ _ _ r k (fun j => xe (aTok m c) (aRows m c) (128 * t.val + r.val) j.val) (fun j q => aWg m c (ix3 (ex (aBe m c) t.val) j q)) (fun j q => aWu m c (ix3 (ex (aBe m c) t.val) j q))
    (fun q => aWd m c (ix3 (ex (aBe m c) t.val) q k)) _ (h0 _) (h1 _) (fun j => gat_entry m hO c t r j) (fun j q => rd2 m hO c hbe t j q) (fun j q => rd3 m hO c hbe t j q) (fun q => rd4 m hO c hbe t q k)
    fun d => (rd1 m hO c t r d).trans (hw _ d)

theorem used_iff (t : Fin (cfgM m hO).N) : k0_cond2 (grid0.coords t) (nu c (tbl m 1)) = 1#1 ↔ IntOp.cmpi .slt (BitVec.ofNat 32 t.val) (aNu m c (ix1 0)) = 1#1 := by
  have e : ∀ a : BitVec 1, Scalar.cmpi .ne (Scalar.extui a : BitVec 32) 0#32 = a := by decide
  have hc := coord_val t
  unfold k0_cond2
  dsimp only
  rw [e, count_eq m c, hc]
  exact Iff.rfl

theorem zero_apply (y : S2048x128.Idx) : k0_pay13 (F := Ideal) y = (0 : EReal) := by
  pointwise [k0_pay13]

include hbe hw h0 h1 in
/-- One entry of a point's block of the result. -/
theorem block_entry (t : Fin (cfgM m hO).N) (y : S2048x128.Idx) :
    outAt m hO c t y = ent (aBe m c) (aNu m c) (aTok m c) (aRows m c) (aWts m c) (aWg m c) (aWu m c) (aWd m c) t.val ((y 0).val / 16) (Fin.ofNat 2048 (128 * ((y 0).val % 16) + (y 1).val)) := by
  have hy0 : (y 0).val < 2048 := (y 0).isLt
  have hy1 : (y 1).val < 128 := (y 1).isLt
  unfold outAt outv ent
  by_cases h : k0_cond2 (grid0.coords t) (nu c (tbl m 1)) = 1#1
  · rw [if_pos h, if_pos ((used_iff m hO c t).mp h)]
    unfold lay
    have ey : (atY ((y 0).val / 16) (128 * ((y 0).val % 16) + (y 1).val) (by omega) (by omega) : S128x2048.Idx)
        = ix2 (⟨(y 0).val / 16, by omega⟩ : Fin 128) (Fin.ofNat 2048 (128 * ((y 0).val % 16) + (y 1).val)) := by
      funext a
      apply Fin.ext
      match a with
      | ⟨0, _⟩ => rfl
      | ⟨1, _⟩ => show 128 * ((y 0).val % 16) + (y 1).val = (128 * ((y 0).val % 16) + (y 1).val) % 2048; omega
    rw [ey]
    exact row_entry m hO c hbe hw h0 h1 t _ _
  · rw [if_neg h, if_neg fun h' => h ((used_iff m hO c t).mpr h')]
    exact zero_apply y

/-- Where a point's block lies in the result. -/
abbrev emb5 (t : Fin (cfgM m hO).N) (y : S2048x128.Idx) : S1572864x128.Idx := (((cfgM m hO).win 5).blk t).view.emb y

theorem emb5_0 (t : Fin (cfgM m hO).N) (y : S2048x128.Idx) : (emb5 m hO t y 0).val = 2048 * t.val + (y 0).val := by
  have ht : t.val < 768 := t.isLt
  have hc := coord_val t
  show (BitVec.ofNat 32 (grid0.coords t 0).val).toNat * 2048 + 1 * (y 0).val = _
  rw [hc, word_point _ ht]
  omega

theorem emb5_1 (t : Fin (cfgM m hO).N) (y : S2048x128.Idx) : (emb5 m hO t y 1).val = (y 1).val := by
  show 0 * 128 + 1 * (y 1).val = _
  omega

include hbe hw h0 h1 in
theorem placed (t : Fin (cfgM m hO).N) (y : S2048x128.Idx) :
    outAt m hO c t y = MOE (aBe m c) (aNu m c) (aTok m c) (aRows m c) (aWts m c) (aWg m c) (aWu m c) (aWd m c) (emb5 m hO t y) := by
  refine (block_entry m hO c hbe hw h0 h1 t y).trans ?_
  have hy0 : (y 0).val < 2048 := (y 0).isLt
  unfold MOE
  rw [emb5_0 m hO t y, emb5_1 m hO t y]
  have a1 : (2048 * t.val + (y 0).val) / 2048 = t.val := by omega
  have a2 : (2048 * t.val + (y 0).val) / 16 % 128 = (y 0).val / 16 := by omega
  have a3 : (2048 * t.val + (y 0).val) % 16 = (y 0).val % 16 := by omega
  rw [a1, a2, a3]

theorem covered (i : S1572864x128.Idx) : ∃ t : Fin (cfgM m hO).N, ∃ y : S2048x128.Idx, emb5 m hO t y = i := by
  have hi0 : (i 0).val < 1572864 := (i 0).isLt
  have hi1 : (i 1).val < 128 := (i 1).isLt
  let t : Fin (cfgM m hO).N := (⟨(i 0).val / 2048, by omega⟩ : Fin 768)
  let y : S2048x128.Idx := ix2 (⟨(i 0).val % 2048, by omega⟩ : Fin 2048) (⟨(i 1).val, hi1⟩ : Fin 128)
  refine ⟨t, y, ?_⟩
  funext a
  apply Fin.ext
  match a with
  | ⟨0, _⟩ =>
    refine (emb5_0 m hO t y).trans ?_
    show 2048 * ((i 0).val / 2048) + (i 0).val % 2048 = (i 0).val
    omega
  | ⟨1, _⟩ => exact emb5_1 m hO t y

include hbe hw h0 h1 in
/-- The array the call leaves. -/
theorem final : (dats m hO 0 c).arrAt 5 (cfgM m hO).N = MOE (aBe m c) (aNu m c) (aTok m c) (aRows m c) (aWts m c) (aWg m c) (aWu m c) (aWd m c) := by
  refine (dats m hO 0 c).arrAt_eq_of_emb 5 _ (fun t _ y => ?_) fun i => ?_
  · rw [after0_5]
    exact placed m hO c hbe hw h0 h1 t y
  · obtain ⟨t, y, e⟩ := covered m hO i
    refine ⟨t, flush0_5 _ t, ?_⟩
    have hmem := View.emb_mem_set (v := (((cfgM m hO).win 5).blk t).view) y
    have hs : (((cfgM m hO).win 5).blk t).view.emb y = i := e
    rw [hs] at hmem
    exact hmem

end Cert.MoeI

end
-- ==== Proof.MoeAlg.lean ====
module

public import proofs.«01_k».proof.Defs
public import proofs.«01_k».proof.Proof.MoeFinal
public import proofs.«01_k».proof.Proof.MoeFrames
public import Idealize.ShloMosaic.Lib.ReduceAll

@[expose] public section

set_option maxRecDepth 16384

/-! The routed experts' call: the kernel and its reference end with equal results. -/

namespace Cert.Moe

open Idealize.ShloMosaic Idealize.ShloMosaic.TcCoe Idealize.SL.Sem Cert.MoeI

theorem inf_lit : (Scalar.ofBits .f32 0x7F800000#32 : Ideal .f32) = (⊤ : EReal) := by
  show Ideal.ofBits .f32 0x7F800000#32 = ⊤
  simp [Ideal.ofBits, Ideal.ieee]

theorem zero_lit : (Scalar.ofBits .f32 0x00000000#32 : Ideal .f32) = (0 : EReal) := by
  show Ideal.ofBits .f32 0x00000000#32 = 0
  simp [Ideal.ofBits, Ideal.ieee]

theorem ofBool_true {p : Prop} [Decidable p] (h : BitVec.ofBool (decide p) = 1#1) : p := by
  by_contra hc
  rw [decide_eq_false hc] at h
  exact absurd h (by decide)

/-- What the three comparisons of a weight say. -/
theorem weight_says (a b : Ideal .f32)
    (h : IntOp.andi (IntOp.andi (FloatOps.cmpf .oeq a b) (FloatOps.cmpf .oge a (Scalar.ofBits .f32 0x00000000#32 : Ideal .f32)))
      (FloatOps.cmpf .olt a (Scalar.ofBits .f32 0x7F800000#32 : Ideal .f32)) = 1#1) :
    (a : EReal) = b ∧ 0 ≤ (a : EReal) ∧ (a : EReal) ≠ ⊤ := by
  obtain ⟨h12, h3⟩ := IntOp.andi_eq_one.1 h
  obtain ⟨h1, h2⟩ := IntOp.andi_eq_one.1 h12
  rw [inf_lit] at h3
  rw [zero_lit] at h2
  have e1 : BitVec.ofBool (decide ((a : EReal) = b)) = 1#1 := h1
  have e2 : BitVec.ofBool (decide ((0 : EReal) ≤ a)) = 1#1 := h2
  have e3 : BitVec.ofBool (decide ((a : EReal) < ⊤)) = 1#1 := h3
  exact ⟨ofBool_true e1, ofBool_true e2, (ofBool_true e3).ne⟩

section

variable (m : (ℓ : Loc Cert.Kernel5Ideal.nD Cert.Kernel5Ideal.τ Cert.Kernel5Ideal.sig) → Buf (Elt Ideal) ℓ) (h : Cert.Pre_Kernel5Ideal_slots_weighted m) (c : Dev Cert.Kernel5Ideal.nD)

include h

theorem weights (n : Fin 98304) (d : Fin 128) :
    aWts m c (ix2 n d) = aWts m c (ix2 n 0) ∧ 0 ≤ aWts m c (ix2 n d) ∧ aWts m c (ix2 n d) ≠ ⊤ := by
  have e := congrFun (h c).2.2 (ix2 n d)
  have e' : IntOp.andi (IntOp.andi (FloatOps.cmpf (F := Ideal) (φ := .f32) .oeq (aWts m c (ix2 n d)) (aWts m c (ix2 n 0)))
      (FloatOps.cmpf (F := Ideal) (φ := .f32) .oge (aWts m c (ix2 n d)) (Scalar.ofBits .f32 0x00000000#32 : Ideal .f32)))
      (FloatOps.cmpf (F := Ideal) (φ := .f32) .olt (aWts m c (ix2 n d)) (Scalar.ofBits .f32 0x7F800000#32 : Ideal .f32)) = 1#1 := by
    refine Eq.trans ?_ e
    refine congrArg (fun v : EReal => IntOp.andi (IntOp.andi (FloatOps.cmpf (F := Ideal) (φ := .f32) .oeq (aWts m c (ix2 n d)) v)
      (FloatOps.cmpf (F := Ideal) (φ := .f32) .oge (aWts m c (ix2 n d)) (Scalar.ofBits .f32 0x00000000#32 : Ideal .f32)))
      (FloatOps.cmpf (F := Ideal) (φ := .f32) .olt (aWts m c (ix2 n d)) (Scalar.ofBits .f32 0x7F800000#32 : Ideal .f32))) ?_
    refine congrArg (aWts m c) ?_
    funext a
    apply Fin.ext
    match a with
    | ⟨0, _⟩ => show n.val = 0 + n.val; omega
    | ⟨1, _⟩ => show 0 = 0 + 0; omega
  exact weight_says _ _ e'

theorem expB (y : (⟨1, ![768]⟩ : Shape).Idx) : (aBe m c y).toNat < 256 := by
  rw [← tbl0 m c]
  exact expW m h y

theorem tokB (y : (⟨1, ![98304]⟩ : Shape).Idx) : (aTok m c y).toNat < 8192 := by
  rw [← tbl2 m c]
  exact tokW m h y

/-- The array the kernel leaves. -/
theorem left : (dats m (expertsW m h) 0 c).arrAt 5 (cfgM m (expertsW m h)).N
    = MOE (aBe m c) (aNu m c) (aTok m c) (aRows m c) (aWts m c) (aWg m c) (aWu m c) (aWd m c) :=
  final m (expertsW m h) c (expB m h c) (fun n d => (weights m h c n d).1) (fun n => (weights m h c n 0).2.1) (fun n => (weights m h c n 0).2.2)

end

/-- Equal arguments give the reference equal arrays. -/
theorem same {x0 y0 : Exp} {x1 y1 : Cnt} {x2 y2 : Tok} {x3 y3 : Rows} {x4 y4 : Wts} {x5 y5 x6 y6 : Wid} {x7 y7 : Nar}
    (h0 : x0 = y0) (h1 : x1 = y1) (h2 : x2 = y2) (h3 : x3 = y3) (h4 : x4 = y4) (h5 : x5 = y5) (h6 : x6 = y6) (h7 : x7 = y7) :
    Cert.Reference5Ideal.Read.val_main_v53 (F := Ideal) x0 x1 x2 x3 x4 x5 x6 x7 = Cert.Reference5Ideal.Read.val_main_v53 (F := Ideal) y0 y1 y2 y3 y4 y5 y6 y7 := by
  subst h0 h1 h2 h3 h4 h5 h6 h7
  rfl

/-- The kernel and its reference end with equal results. -/
theorem alg : Cert.algebraic_Kernel5Ideal_Reference5Ideal_pre_slots_weighted := by
  intro m g m' g' hpre hagree
  refine ⟨fun c => (dats m (expertsW m hpre) 0 c).arrAt 5 (cfgM m (expertsW m hpre)).N, ?_, ?_⟩
  · refine (θ_run Cert.Kernel5Ideal.defs _ _).mono (fun r hr c => ?_)
      (θ_run_and (run_main m g (expertsW m hpre) (tokensW m hpre)) (MoeI.frame m g (expertsW m hpre) (tokensW m hpre)))
    exact ⟨(hr.1 c).1 5, hr.2.1 c⟩
  · refine (θ_run Cert.Reference5Ideal.defs _ _).mono (fun r hr c => ?_) (Cert.Reference5Ideal.Value.run (F := Ideal) m' g')
    refine ⟨?_, (hr c).2⟩
    obtain ⟨a0, a1, a2, a3, a4, a5, a6, a7⟩ := hagree c
    have q := ref (aBe m c) (aTok m c) (aRows m c) (aWts m c) (aWg m c) (aWu m c) (aWd m c) (expB m hpre c) (tokB m hpre c) (aNu m c)
    have s := same a0 a1 a2 a3 a4 a5 a6 a7
    exact (hr c).1.trans ((Cert.Reference5Ideal.Read.val_main_v53_eq m' c).trans (s.trans (q.trans (left m hpre c).symm)))

end Cert.Moe
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel5.Launch
public import proofs.«01_k».proof.Proof.Gen.Kernel5.Skeleton
public import proofs.«01_k».proof.Proof.Gen.Kernel5.Loops
public import proofs.«01_k».proof.Proof.Gen.Kernel5Ideal.Launch
public import proofs.«01_k».proof.Proof.Gen.Kernel5Ideal.Skeleton
public import proofs.«01_k».proof.Proof.Gen.Kernel5Ideal.Loops
public import proofs.«01_k».proof.Proof.Gen.Reference5Ideal.Run
public import proofs.«01_k».proof.Proof.Gen.Reference5Ideal.Read
public import proofs.«01_k».proof.Proof.Gen.Pre_tables_named
public import proofs.«01_k».proof.Proof.Gen.Pre_slots_weighted
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_scores_finite
public import proofs.«01_k».proof.Proof.Gen.On_attention_columns
public import proofs.«01_k».proof.Proof.AttFin
public import proofs.«01_k».proof.Proof.Alg2
public import proofs.«01_k».proof.Proof.Alg3
public import proofs.«01_k».proof.Proof.Alg4
public import proofs.«01_k».proof.Proof.FrR
public import proofs.«01_k».proof.Proof.MoeFrames
public import proofs.«01_k».proof.Proof.MoeAlg

@[expose] public section

open Idealize.ShloMosaic

/-- The whole claim, its parts in the order in which they are stated. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_scores_finite.Gen.facts, Cert.Pre_tables_named.Gen.facts, Cert.Pre_slots_weighted.Gen.facts, Cert.On_attention_columns.Gen.facts,
    fun m ρ _ => Cert.Kernel.Gen.frame m ρ, fun m ρ _ => Cert.KernelIdeal.Gen.frame m ρ, fun m ρ _ => Cert.KernelIdeal.Gen.frame m ρ, Cert.RefFrames.frame1, fun m g _ => Cert.RefFrames.frame1 m g trivial,
    fun m ρ _ => Cert.Kernel2.Gen.frame m ρ, fun m ρ _ => Cert.Kernel2Ideal.Gen.frame m ρ, Cert.RefFrames.frame2,
    fun m ρ _ => Cert.Kernel3.Gen.frame m ρ, fun m ρ _ => Cert.Kernel3Ideal.Gen.frame m ρ, Cert.OutProj.frame3,
    fun m ρ _ => Cert.Kernel4.Gen.frame m ρ, fun m ρ _ => Cert.Kernel4Ideal.Gen.frame m ρ, Cert.Ada.frame4,
    Cert.Moe.frameB, Cert.Moe.frameI, Cert.Moe.frameW, Cert.Moe.frameR, Cert.Moe.frameRW,
    ⟨IdealRules.named_const.statement Cert.KernelIdeal.κ "mask" .f32 0xF149F2CA#32 _ rfl,
      IdealRules.named_const.statement Cert.KernelIdeal.κ "g0" .f32 0x399ACCA1#32 _ rfl,
      IdealRules.named_const.statement Cert.KernelIdeal.κ "g1" .f32 0x3C9160A5#32 _ rfl,
      IdealRules.named_const.statement Cert.KernelIdeal.κ "g2" .f32 0x3E097FCE#32 _ rfl,
      IdealRules.named_const.statement Cert.KernelIdeal.κ "g3" .f32 0x3EBBFC5D#32 _ rfl,
      IdealRules.named_const.statement Cert.KernelIdeal.κ "g4" .f32 0x3F1B322A#32 _ rfl,
      IdealRules.named_const.statement Cert.KernelIdeal.κ "g5" .f32 0x3F475941#32 _ rfl,
      IdealRules.named_const.statement Cert.KernelIdeal.κ "g6" .f32 0x3F61E98D#32 _ rfl,
      IdealRules.named_const.statement Cert.KernelIdeal.κ "g7" .f32 0x3F707CE8#32 _ rfl⟩,
    Cert.Mix.alg, trivial, Cert.InProj.alg, trivial, Cert.OutProj.alg, trivial, Cert.Ada.alg,
    trivial, Cert.Moe.alg⟩
